-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_condition [hPre_finite_condition : Cert.Pre_finite_condition.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_condition.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_condition [hPre_finite_condition : Cert.Pre_finite_condition.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_condition.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_condition [hKernel5Ideal : Cert.Kernel5Ideal.Facts] [hPre_finite_condition : Cert.Pre_finite_condition.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_condition m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_condition [hReference5Ideal : Cert.Reference5Ideal.Facts] [hPre_finite_condition : Cert.Pre_finite_condition.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_condition m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale2" .f32 0x3E16C740#32 (((Real.sqrt 96)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v62)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v62) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_condition [hKernel5Ideal : Cert.Kernel5Ideal.Facts] [hReference5Ideal : Cert.Reference5Ideal.Facts] [hPre_finite_condition : Cert.Pre_finite_condition.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_condition m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_v11) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite_condition : Cert.Pre_finite_condition.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_condition (hKernel5Ideal := hKernel5Ideal) (hPre_finite_condition := hPre_finite_condition)
    ∧ quiescent_Reference5Ideal (hReference5Ideal := hReference5Ideal)
    ∧ quiescent_Reference5Ideal_pre_finite_condition (hReference5Ideal := hReference5Ideal) (hPre_finite_condition := hPre_finite_condition)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_condition (hKernel5Ideal := hKernel5Ideal) (hReference5Ideal := hReference5Ideal) (hPre_finite_condition := hPre_finite_condition)
    ∧ preserves_Kernel6_Kernel6Ideal
    ∧ algebraic_Kernel6Ideal_Reference6Ideal (hKernel6Ideal := hKernel6Ideal) (hReference6Ideal := hReference6Ideal)
-- ==== Pre_finite.lean ====
abbrev S16x2048x256 : Shape := ⟨3, ![16, 2048, 256]⟩
abbrev S16x2048x128 : Shape := ⟨3, ![16, 2048, 128]⟩
abbrev S16x2048x32 : Shape := ⟨3, ![16, 2048, 32]⟩
abbrev S16x2048 : Shape := ⟨2, ![16, 2048]⟩
abbrev S16 : Shape := ⟨1, ![16]⟩
abbrev S256 : Shape := ⟨1, ![256]⟩
abbrev S256x480 : Shape := ⟨2, ![256, 480]⟩
abbrev S128 : Shape := ⟨1, ![128]⟩
abbrev S128x640 : Shape := ⟨2, ![128, 640]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S16x2048x128 : S_.BroadcastsInDim S16x2048x128 (![] : Fin 0 → Fin S16x2048x128.rank)
  reducesTo_S16x2048x128_S_d0_1_2 : S16x2048x128.ReducesTo [0, 1, 2] S_
  bcast_S_S16x2048x32 : S_.BroadcastsInDim S16x2048x32 (![] : Fin 0 → Fin S16x2048x32.rank)
  reducesTo_S16x2048x32_S_d0_1_2 : S16x2048x32.ReducesTo [0, 1, 2] S_
  bcast_S_S16 : S_.BroadcastsInDim S16 (![] : Fin 0 → Fin S16.rank)
  reducesTo_S16_S_d0 : S16.ReducesTo [0] S_
  bcast_S_S256 : S_.BroadcastsInDim S256 (![] : Fin 0 → Fin S256.rank)
  reducesTo_S256_S_d0 : S256.ReducesTo [0] S_
  bcast_S_S256x480 : S_.BroadcastsInDim S256x480 (![] : Fin 0 → Fin S256x480.rank)
  reducesTo_S256x480_S_d0_1 : S256x480.ReducesTo [0, 1] S_
  bcast_S_S128 : S_.BroadcastsInDim S128 (![] : Fin 0 → Fin S128.rank)
  reducesTo_S128_S_d0 : S128.ReducesTo [0] S_
  bcast_S_S128x640 : S_.BroadcastsInDim S128x640 (![] : Fin 0 → Fin S128x640.rank)
  reducesTo_S128x640_S_d0_1 : S128x640.ReducesTo [0, 1] S_

variable [Facts]

def fn_part2 {F : FTy → Type} [FloatOps F] (main_arg8 : FVec F S128x640 .f32) (main_v33 : IVec S_ 1) : IVec S_ 1 :=
  let main_v34 : FVec F S128x640 .f32 := Host.absf main_arg8
  let main_cst_12 : FVec F S_ .f32 := constant S_ .f32 0x7F800000#32
  let main_v35 : FVec F S128x640 .f32 := broadcastInDim S128x640 ![] bcast_S_S128x640 main_cst_12
  let main_v36 : IVec S128x640 1 := cmpf .olt main_v34 main_v35
  let main_c_13 : IVec S_ 1 := constantI S_ 1 1#1
  let main_v37 : IVec S_ 1 := (fun x v => Host.reduce IntOp.andi x v reducesTo_S128x640_S_d0_1 h_S_) main_v36 main_c_13
  let main_v38 : IVec S_ 1 := andi main_v33 main_v37
  main_v38

def fn_part1 {F : FTy → Type} [FloatOps F] (main_arg5 : FVec F S256 .f32) (main_arg6 : FVec F S256x480 .f32) (main_arg7 : FVec F S128 .f32) (main_arg8 : FVec F S128x640 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x480 .f32 := Host.absf main_arg6
  let main_cst_8 : FVec F S_ .f32 := constant S_ .f32 0x7F800000#32
  let main_v25 : FVec F S256x480 .f32 := broadcastInDim S256x480 ![] bcast_S_S256x480 main_cst_8
  let main_v26 : IVec S256x480 1 := cmpf .olt main_v24 main_v25
  let main_c_9 : IVec S_ 1 := constantI S_ 1 1#1
  let main_v27 : IVec S_ 1 := (fun x v => Host.reduce IntOp.andi x v reducesTo_S256x480_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S16x2048x256 .f32) (main_arg1 : FVec F S16x2048x128 .f32) (main_arg2 : FVec F S16x2048x32 .f32) (main_arg3 : IVec S16x2048 32) (main_arg4 : FVec F S16 .f32) (main_arg5 : FVec F S256 .f32) (main_arg6 : FVec F S256x480 .f32) (main_arg7 : FVec F S128 .f32) (main_arg8 : FVec F S128x640 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x32 .f32 := Host.absf main_arg2
  let main_cst_2 : FVec F S_ .f32 := constant S_ .f32 0x7F800000#32
  let main_v10 : FVec F S16x2048x32 .f32 := broadcastInDim S16x2048x32 ![] bcast_S_S16x2048x32 main_cst_2
  let main_v11 : IVec S16x2048x32 1 := cmpf .olt main_v9 main_v10
  let main_c_3 : IVec S_ 1 := constantI S_ 1 1#1
  let main_v12 : IVec S_ 1 := (fun x v => Host.reduce IntOp.andi x v reducesTo_S16x2048x32_S_d0_1_2 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_v13 main_v16
-- ==== Pre_finite_condition.lean ====
abbrev S16x1024 : Shape := ⟨2, ![16, 1024]⟩
abbrev S2x1024x9216 : Shape := ⟨3, ![2, 1024, 9216]⟩
abbrev S2x9216 : Shape := ⟨2, ![2, 9216]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S2x1024x9216 : S_.BroadcastsInDim S2x1024x9216 (![] : Fin 0 → Fin S2x1024x9216.rank)
  reducesTo_S2x1024x9216_S_d0_1_2 : S2x1024x9216.ReducesTo [0, 1, 2] S_

variable [Facts]

def fn {F : FTy → Type} [FloatOps F] (main_arg0 : FVec F S16x1024 .f32) (main_arg1 : FVec F S2x1024x9216 .f32) (main_arg2 : FVec F S2x9216 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S2x1024x9216 .f32 := Host.absf main_arg1
  let main_cst_0 : FVec F S_ .f32 := constant S_ .f32 0x7F800000#32
  let main_v5 : FVec F S2x1024x9216 .f32 := broadcastInDim S2x1024x9216 ![] bcast_S_S2x1024x9216 main_cst_0
  let main_v6 : IVec S2x1024x9216 1 := cmpf .olt main_v4 main_v5
  let main_c_1 : IVec S_ 1 := constantI S_ 1 1#1
  let main_v7 : IVec S_ 1 := (fun x v => Host.reduce IntOp.andi x v reducesTo_S2x1024x9216_S_d0_1_2 h_S_) main_v6 main_c_1
  let main_v8 : IVec S_ 1 := andi main_v3 main_v7
  main_v8
-- ==== Kernel.lean ====
abbrev S16x2048x256 : Shape := ⟨3, ![16, 2048, 256]⟩
abbrev S16x2048x128 : Shape := ⟨3, ![16, 2048, 128]⟩
abbrev S16x2048x32 : Shape := ⟨3, ![16, 2048, 32]⟩
abbrev S16x2048 : Shape := ⟨2, ![16, 2048]⟩
abbrev S16 : Shape := ⟨1, ![16]⟩
abbrev S256 : Shape := ⟨1, ![256]⟩
abbrev S256x480 : Shape := ⟨2, ![256, 480]⟩
abbrev S128 : Shape := ⟨1, ![128]⟩
abbrev S128x640 : Shape := ⟨2, ![128, 640]⟩
abbrev S_ : Shape := ⟨0, ![]⟩
abbrev S16x2048x64 : Shape := ⟨3, ![16, 2048, 64]⟩
abbrev S16x2048x16 : Shape := ⟨3, ![16, 2048, 16]⟩
abbrev S16x2048x0 : Shape := ⟨3, ![16, 2048, 0]⟩
abbrev S16x2048x2304 : Shape := ⟨3, ![16, 2048, 2304]⟩
abbrev S16x2048x1024 : Shape := ⟨3, ![16, 2048, 1024]⟩
abbrev S16x2048x3968 : Shape := ⟨3, ![16, 2048, 3968]⟩
abbrev S16x2048x1 : Shape := ⟨3, ![16, 2048, 1]⟩
abbrev S32 : Shape := ⟨1, ![32]⟩
abbrev S1x1x128 : Shape := ⟨3, ![1, 1, 128]⟩
abbrev S256x5x96 : Shape := ⟨3, ![256, 5, 96]⟩
abbrev S256x5x64 : Shape := ⟨3, ![256, 5, 64]⟩
abbrev S256x5x32 : Shape := ⟨3, ![256, 5, 32]⟩
abbrev S256x5x128 : Shape := ⟨3, ![256, 5, 128]⟩
abbrev S256x5x16 : Shape := ⟨3, ![256, 5, 16]⟩
abbrev S256x5x0 : Shape := ⟨3, ![256, 5, 0]⟩
abbrev S128x5x128 : Shape := ⟨3, ![128, 5, 128]⟩
abbrev S128x5x64 : Shape := ⟨3, ![128, 5, 64]⟩
abbrev S256x640 : Shape := ⟨2, ![256, 640]⟩
abbrev S1x256 : Shape := ⟨2, ![1, 256]⟩
abbrev S1x128 : Shape := ⟨2, ![1, 128]⟩
abbrev S16x2048x384 : Shape := ⟨3, ![16, 2048, 384]⟩
abbrev S1x2048x256 : Shape := ⟨3, ![1, 2048, 256]⟩
abbrev S1x2048x128 : Shape := ⟨3, ![1, 2048, 128]⟩
abbrev S1x2048x384 : Shape := ⟨3, ![1, 2048, 384]⟩
abbrev S5x2048x128 : Shape := ⟨3, ![5, 2048, 128]⟩
abbrev S512x128 : Shape := ⟨2, ![512, 128]⟩
abbrev S1x512x128 : Shape := ⟨3, ![1, 512, 128]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩
abbrev S256x128 : Shape := ⟨2, ![256, 128]⟩
abbrev S128x128 : Shape := ⟨2, ![128, 128]⟩
abbrev S256x256 : Shape := ⟨2, ![256, 256]⟩
abbrev S1x256x128 : Shape := ⟨3, ![1, 256, 128]⟩
abbrev S256x1 : Shape := ⟨2, ![256, 1]⟩
abbrev S256x512 : Shape := ⟨2, ![256, 512]⟩
abbrev S1x768x128 : Shape := ⟨3, ![1, 768, 128]⟩
abbrev S768x128 : Shape := ⟨2, ![768, 128]⟩
abbrev S256x768 : Shape := ⟨2, ![256, 768]⟩
abbrev S1x1024x128 : Shape := ⟨3, ![1, 1024, 128]⟩
abbrev S1024x128 : Shape := ⟨2, ![1024, 128]⟩
abbrev S256x1024 : Shape := ⟨2, ![256, 1024]⟩
abbrev S1x1280x128 : Shape := ⟨3, ![1, 1280, 128]⟩
abbrev S1280x128 : Shape := ⟨2, ![1280, 128]⟩
abbrev S256x1280 : Shape := ⟨2, ![256, 1280]⟩
abbrev S1x1536x128 : Shape := ⟨3, ![1, 1536, 128]⟩
abbrev S1536x128 : Shape := ⟨2, ![1536, 128]⟩
abbrev S256x1536 : Shape := ⟨2, ![256, 1536]⟩
abbrev S1x1792x128 : Shape := ⟨3, ![1, 1792, 128]⟩
abbrev S1792x128 : Shape := ⟨2, ![1792, 128]⟩
abbrev S256x1792 : Shape := ⟨2, ![256, 1792]⟩
abbrev S2048x128 : Shape := ⟨2, ![2048, 128]⟩
abbrev S256x2048 : Shape := ⟨2, ![256, 2048]⟩

abbrev nBuf : Space → Nat
  | .hbm => 77
  | .vmem => 21
  | .smem => 0
  | _ => 0

abbrev bufTy : (tb : Table) → Fin (tcTables nBuf tb) → BufTy
  | .hbm, ⟨0, _⟩ => ⟨S16x2048x256, .f32⟩
  | .hbm, ⟨1, _⟩ => ⟨S16x2048x128, .f32⟩
  | .hbm, ⟨2, _⟩ => ⟨S16x2048x32, .f32⟩
  | .hbm, ⟨3, _⟩ => ⟨S16x2048, .i32⟩
  | .hbm, ⟨4, _⟩ => ⟨S16, .f32⟩
  | .hbm, ⟨5, _⟩ => ⟨S256, .f32⟩
  | .hbm, ⟨6, _⟩ => ⟨S256x480, .f32⟩
  | .hbm, ⟨7, _⟩ => ⟨S128, .f32⟩
  | .hbm, ⟨8, _⟩ => ⟨S128x640, .f32⟩
  | .hbm, ⟨9, _⟩ => ⟨S_, .f32⟩
  | .hbm, ⟨10, _⟩ => ⟨S16x2048x64, .f32⟩
  | .hbm, ⟨11, _⟩ => ⟨S16x2048x16, .f32⟩
  | .hbm, ⟨12, _⟩ => ⟨S16x2048x16, .f32⟩
  | .hbm, ⟨13, _⟩ => ⟨S16x2048x16, .f32⟩
  | .hbm, ⟨14, _⟩ => ⟨S16x2048x0, .f32⟩
  | .hbm, ⟨15, _⟩ => ⟨S_, .f32⟩
  | .hbm, ⟨16, _⟩ => ⟨S16x2048x0, .f32⟩
  | .hbm, ⟨17, _⟩ => ⟨S16x2048x32, .f32⟩
  | .hbm, ⟨18, _⟩ => ⟨S16x2048x128, .f32⟩
  | .hbm, ⟨19, _⟩ => ⟨S_, .f32⟩
  | .hbm, ⟨20, _⟩ => ⟨S16x2048x2304, .f32⟩
  | .hbm, ⟨21, _⟩ => ⟨S_, .f32⟩
  | .hbm, ⟨22, _⟩ => ⟨S16x2048x1024, .f32⟩
  | .hbm, ⟨23, _⟩ => ⟨S_, .f32⟩
  | .hbm, ⟨24, _⟩ => ⟨S16x2048x128, .f32⟩
  | .hbm, ⟨25, _⟩ => ⟨S16x2048x3968, .f32⟩
  | .hbm, ⟨26, _⟩ => ⟨S16x2048, .f32⟩
  | .hbm, ⟨27, _⟩ => ⟨S16x2048x1, .f32⟩
  | .hbm, ⟨28, _⟩ => ⟨S_, .f32⟩
  | .hbm, ⟨29, _⟩ => ⟨S32, .f32⟩
  | .hbm, ⟨30, _⟩ => ⟨S128, .f32⟩
  | .hbm, ⟨31, _⟩ => ⟨S1x1x128, .f32⟩
  | .hbm, ⟨32, _⟩ => ⟨S16x2048x128, .f32⟩
  | .hbm, ⟨33, _⟩ => ⟨S16x2048x128, .f32⟩
  | .hbm, ⟨34, _⟩ => ⟨S16x2048x128, .f32⟩
  | .hbm, ⟨35, _⟩ => ⟨S16x2048x128, .f32⟩
  | .hbm, ⟨36, _⟩ => ⟨S16x2048x128, .f32⟩
  | .hbm, ⟨37, _⟩ => ⟨S256x5x96, .f32⟩
  | .hbm, ⟨38, _⟩ => ⟨S256x5x64, .f32⟩
  | .hbm, ⟨39, _⟩ => ⟨S256x5x32, .f32⟩
  | .hbm, ⟨40, _⟩ => ⟨S256x5x96, .f32⟩
  | .hbm, ⟨41, _⟩ => ⟨S_, .f32⟩
  | .hbm, ⟨42, _⟩ => ⟨S256x5x32, .f32⟩
  | .hbm, ⟨43, _⟩ => ⟨S256x5x128, .f32⟩
  | .hbm, ⟨44, _⟩ => ⟨S_, .f32⟩
  | .hbm, ⟨45, _⟩ => ⟨S256x5x64, .f32⟩
  | .hbm, ⟨46, _⟩ => ⟨S256x5x16, .f32⟩
  | .hbm, ⟨47, _⟩ => ⟨S256x5x16, .f32⟩
  | .hbm, ⟨48, _⟩ => ⟨S256x5x16, .f32⟩
  | .hbm, ⟨49, _⟩ => ⟨S256x5x0, .f32⟩
  | .hbm, ⟨50, _⟩ => ⟨S_, .f32⟩
  | .hbm, ⟨51, _⟩ => ⟨S256x5x0, .f32⟩
  | .hbm, ⟨52, _⟩ => ⟨S256x5x32, .f32⟩
  | .hbm, ⟨53, _⟩ => ⟨S256x5x96, .f32⟩
  | .hbm, ⟨54, _⟩ => ⟨S_, .f32⟩
  | .hbm, ⟨55, _⟩ => ⟨S256x5x32, .f32⟩
  | .hbm, ⟨56, _⟩ => ⟨S256x5x128, .f32⟩
  | .hbm, ⟨57, _⟩ => ⟨S128x5x128, .f32⟩
  | .hbm, ⟨58, _⟩ => ⟨S128x5x64, .f32⟩
  | .hbm, ⟨59, _⟩ => ⟨S_, .f32⟩
  | .hbm, ⟨60, _⟩ => ⟨S128x5x64, .f32⟩
  | .hbm, ⟨61, _⟩ => ⟨S128x5x128, .f32⟩
  | .hbm, ⟨62, _⟩ => ⟨S128x5x64, .f32⟩
  | .hbm, ⟨63, _⟩ => ⟨S_, .f32⟩
  | .hbm, ⟨64, _⟩ => ⟨S128x5x64, .f32⟩
  | .hbm, ⟨65, _⟩ => ⟨S128x5x128, .f32⟩
  | .hbm, ⟨66, _⟩ => ⟨S256x640, .f32⟩
  | .hbm, ⟨67, _⟩ => ⟨S256x640, .bf16⟩
  | .hbm, ⟨68, _⟩ => ⟨S256x640, .f32⟩
  | .hbm, ⟨69, _⟩ => ⟨S256x640, .bf16⟩
  | .hbm, ⟨70, _⟩ => ⟨S128x640, .f32⟩
  | .hbm, ⟨71, _⟩ => ⟨S128x640, .bf16⟩
  | .hbm, ⟨72, _⟩ => ⟨S128x640, .f32⟩
  | .hbm, ⟨73, _⟩ => ⟨S128x640, .bf16⟩
  | .hbm, ⟨74, _⟩ => ⟨S1x256, .f32⟩
  | .hbm, ⟨75, _⟩ => ⟨S1x128, .f32⟩
  | .hbm, ⟨76, _⟩ => ⟨S16x2048x384, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x256, .f32⟩
  | .local _ .vmem, ⟨11, _⟩ => ⟨S1x128, .f32⟩
  | .local _ .vmem, ⟨12, _⟩ => ⟨S256x640, .bf16⟩
  | .local _ .vmem, ⟨13, _⟩ => ⟨S256x640, .bf16⟩
  | .local _ .vmem, ⟨14, _⟩ => ⟨S128x640, .bf16⟩
  | .local _ .vmem, ⟨15, _⟩ => ⟨S128x640, .bf16⟩
  | .local _ .vmem, ⟨16, _⟩ => ⟨S1x2048x384, .bf16⟩
  | .local _ .vmem, ⟨17, _⟩ => ⟨S1x2048x384, .bf16⟩
  | .local _ .vmem, ⟨18, _⟩ => ⟨S5x2048x128, .bf16⟩
  | .local _ .vmem, ⟨19, _⟩ => ⟨S5x2048x128, .bf16⟩
  | .local _ .vmem, ⟨20, _⟩ => ⟨S5x2048x128, .bf16⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c9_i32 : BitVec 32 := 9#32
  let c0_i32_0 : BitVec 32 := 0#32
  ![arg0.toNat, c0_i32.toNat, c9_i32.toNat]

def cc0_transform_1 (i : grid0.Coords) : Fin 3 → Nat :=
  let arg0 : BitVec 32 := BitVec.ofNat 32 (i 0).val
  let c0_i32 : BitVec 32 := 0#32
  let c28_i32 : BitVec 32 := 28#32
  let c0_i32_0 : BitVec 32 := 0#32
  ![arg0.toNat, c0_i32.toNat, c28_i32.toNat]

def cc0_transform_2 (i : grid0.Coords) : Fin 3 → Nat :=
  let arg0 : BitVec 32 := BitVec.ofNat 32 (i 0).val
  let c0_i32 : BitVec 32 := 0#32
  let c29_i32 : BitVec 32 := 29#32
  let c0_i32_0 : BitVec 32 := 0#32
  ![arg0.toNat, c0_i32.toNat, c29_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x640 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x640 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x640 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x640 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x2048x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask" => some ⊥
  | "scale2" => some (((Real.sqrt 96)⁻¹ * (Real.log 2)⁻¹ : ℝ) : EReal)
  | _ => none
-- ==== ReferenceIdeal.lean ====
abbrev S16x2048x256 : Shape := ⟨3, ![16, 2048, 256]⟩
abbrev S16x2048x128 : Shape := ⟨3, ![16, 2048, 128]⟩
abbrev S16x2048x32 : Shape := ⟨3, ![16, 2048, 32]⟩
abbrev S16x2048 : Shape := ⟨2, ![16, 2048]⟩
abbrev S16 : Shape := ⟨1, ![16]⟩
abbrev S256 : Shape := ⟨1, ![256]⟩
abbrev S256x480 : Shape := ⟨2, ![256, 480]⟩
abbrev S128 : Shape := ⟨1, ![128]⟩
abbrev S128x640 : Shape := ⟨2, ![128, 640]⟩
abbrev S_ : Shape := ⟨0, ![]⟩
abbrev S16x2048x1 : Shape := ⟨3, ![16, 2048, 1]⟩
abbrev S1x1x256 : Shape := ⟨3, ![1, 1, 256]⟩
abbrev S16x2048x480 : Shape := ⟨3, ![16, 2048, 480]⟩
abbrev S16x2048x5x96 : Shape := ⟨4, ![16, 2048, 5, 96]⟩
abbrev S16x2048x5x64 : Shape := ⟨4, ![16, 2048, 5, 64]⟩
abbrev S16x2048x5x32 : Shape := ⟨4, ![16, 2048, 5, 32]⟩
abbrev S1x1x16 : Shape := ⟨3, ![1, 1, 16]⟩
abbrev S16x2048x16 : Shape := ⟨3, ![16, 2048, 16]⟩
abbrev S16x2048x1x16 : Shape := ⟨4, ![16, 2048, 1, 16]⟩
abbrev S16x2048x5x16 : Shape := ⟨4, ![16, 2048, 5, 16]⟩
abbrev S1x1x128 : Shape := ⟨3, ![1, 1, 128]⟩
abbrev S16x2048x640 : Shape := ⟨3, ![16, 2048, 640]⟩
abbrev S16x2048x5x128 : Shape := ⟨4, ![16, 2048, 5, 128]⟩
abbrev S16x2048x1x32 : Shape := ⟨4, ![16, 2048, 1, 32]⟩
abbrev S16x5x2048x2048 : Shape := ⟨4, ![16, 5, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x5x2048 : Shape := ⟨3, ![16, 5, 2048]⟩
abbrev S16x5x2048x1 : Shape := ⟨4, ![16, 5, 2048, 1]⟩
abbrev S16x5x64x2048 : Shape := ⟨4, ![16, 5, 64, 2048]⟩
abbrev S16x2048x320 : Shape := ⟨3, ![16, 2048, 320]⟩
abbrev S16x2048x384 : Shape := ⟨3, ![16, 2048, 384]⟩

abbrev nBuf : Space → Nat
  | .hbm => 132
  | .vmem => 0
  | .smem => 0
  | _ => 0

abbrev hbmTy0_0 (i : Nat) : BufTy := match i % 128 with
  | 0 => ⟨S16x2048x256, .f32⟩
  | 1 => ⟨S16x2048x128, .f32⟩
  | 2 => ⟨S16x2048x32, .f32⟩
  | 3 => ⟨S16x2048, .i32⟩
  | 4 => ⟨S16, .f32⟩
  | 5 => ⟨S256, .f32⟩
  | 6 => ⟨S256x480, .f32⟩
  | 7 => ⟨S128, .f32⟩
  | 8 => ⟨S128x640, .f32⟩
  | 9 => ⟨S16x2048x256, .f32⟩
  | 10 => ⟨S_, .f32⟩
  | 11 => ⟨S16x2048, .f32⟩
  | 12 => ⟨S16x2048x1, .f32⟩
  | 13 => ⟨S_, .f32⟩
  | 14 => ⟨S16x2048x1, .f32⟩
  | 15 => ⟨S16x2048x1, .f32⟩
  | 16 => ⟨S_, .f32⟩
  | 17 => ⟨S16x2048x1, .f32⟩
  | 18 => ⟨S16x2048x1, .f32⟩
  | 19 => ⟨S16x2048x1, .f32⟩
  | 20 => ⟨S16x2048x256, .f32⟩
  | 21 => ⟨S16x2048x256, .f32⟩
  | 22 => ⟨S1x1x256, .f32⟩
  | 23 => ⟨S16x2048x256, .f32⟩
  | 24 => ⟨S16x2048x256, .f32⟩
  | 25 => ⟨S16x2048x480, .f32⟩
  | 26 => ⟨S16x2048x5x96, .f32⟩
  | 27 => ⟨S16x2048x5x64, .f32⟩
  | 28 => ⟨S16x2048x5x32, .f32⟩
  | 29 => ⟨S16x2048, .f32⟩
  | 30 => ⟨S16x2048x1, .f32⟩
  | 31 => ⟨S1x1x16, .f32⟩
  | 32 => ⟨S16x2048x16, .f32⟩
  | 33 => ⟨S16x2048x16, .f32⟩
  | 34 => ⟨S16x2048x16, .f32⟩
  | 35 => ⟨S16x2048x16, .f32⟩
  | 36 => ⟨S16x2048x1x16, .f32⟩
  | 37 => ⟨S16x2048x16, .f32⟩
  | 38 => ⟨S16x2048x1x16, .f32⟩
  | 39 => ⟨S16x2048x5x16, .f32⟩
  | 40 => ⟨S16x2048x5x16, .f32⟩
  | 41 => ⟨S16x2048x5x16, .f32⟩
  | 42 => ⟨S16x2048x5x16, .f32⟩
  | 43 => ⟨S16x2048x5x16, .f32⟩
  | 44 => ⟨S16x2048x5x16, .f32⟩
  | 45 => ⟨S16x2048x5x16, .f32⟩
  | 46 => ⟨S16x2048x5x16, .f32⟩
  | 47 => ⟨S16x2048x5x16, .f32⟩
  | 48 => ⟨S16x2048x5x16, .f32⟩
  | 49 => ⟨S16x2048x5x16, .f32⟩
  | 50 => ⟨S16x2048x5x16, .f32⟩
  | 51 => ⟨S16x2048x5x32, .f32⟩
  | 52 => ⟨S16x2048x5x96, .f32⟩
  | 53 => ⟨S16x2048x128, .f32⟩
  | 54 => ⟨S_, .f32⟩
  | 55 => ⟨S16x2048, .f32⟩
  | 56 => ⟨S16x2048x1, .f32⟩
  | 57 => ⟨S_, .f32⟩
  | 58 => ⟨S16x2048x1, .f32⟩
  | 59 => ⟨S16x2048x1, .f32⟩
  | 60 => ⟨S_, .f32⟩
  | 61 => ⟨S16x2048x1, .f32⟩
  | 62 => ⟨S16x2048x1, .f32⟩
  | 63 => ⟨S16x2048x1, .f32⟩
  | 64 => ⟨S16x2048x128, .f32⟩
  | 65 => ⟨S16x2048x128, .f32⟩
  | 66 => ⟨S1x1x128, .f32⟩
  | 67 => ⟨S16x2048x128, .f32⟩
  | 68 => ⟨S16x2048x128, .f32⟩
  | 69 => ⟨S16x2048x640, .f32⟩
  | 70 => ⟨S16x2048x5x128, .f32⟩
  | 71 => ⟨S16x2048x5x64, .f32⟩
  | 72 => ⟨S16x2048x5x64, .f32⟩
  | 73 => ⟨S16x2048x1x32, .f32⟩
  | 74 => ⟨S16x2048, .f32⟩
  | 75 => ⟨S16x2048x1, .f32⟩
  | 76 => ⟨S1x1x16, .f32⟩
  | 77 => ⟨S16x2048x16, .f32⟩
  | 78 => ⟨S16x2048x16, .f32⟩
  | 79 => ⟨S16x2048x16, .f32⟩
  | 80 => ⟨S16x2048x16, .f32⟩
  | 81 => ⟨S16x2048x1x16, .f32⟩
  | 82 => ⟨S16x2048x16, .f32⟩
  | 83 => ⟨S16x2048x1x16, .f32⟩
  | 84 => ⟨S16x2048x1x16, .f32⟩
  | 85 => ⟨S16x2048x1x16, .f32⟩
  | 86 => ⟨S16x2048x1x16, .f32⟩
  | 87 => ⟨S16x2048x1x16, .f32⟩
  | 88 => ⟨S16x2048x1x16, .f32⟩
  | 89 => ⟨S16x2048x1x16, .f32⟩
  | 90 => ⟨S16x2048x1x16, .f32⟩
  | 91 => ⟨S16x2048x1x16, .f32⟩
  | 92 => ⟨S16x2048x1x32, .f32⟩
  | 93 => ⟨S16x2048x5x32, .f32⟩
  | 94 => ⟨S16x2048x5x96, .f32⟩
  | 95 => ⟨S16x5x2048x2048, .f32⟩
  | 96 => ⟨S_, .f32⟩
  | 97 => ⟨S_, .f32⟩
  | 98 => ⟨S16x5x2048x2048, .f32⟩
  | 99 => ⟨S16x5x2048x2048, .f32⟩
  | 100 => ⟨S2048, .i32⟩
  | 101 => ⟨S1x2048, .i32⟩
  | 102 => ⟨S2048x1, .i32⟩
  | 103 => ⟨S2048x2048, .i32⟩
  | 104 => ⟨S2048x2048, .i32⟩
  | 105 => ⟨S2048x2048, .i1⟩
  | 106 => ⟨S_, .f32⟩
  | 107 => ⟨S_, .f32⟩
  | 108 => ⟨S16x5x2048x2048, .i1⟩
  | 109 => ⟨S16x5x2048x2048, .f32⟩
  | 110 => ⟨S16x5x2048x2048, .f32⟩
  | 111 => ⟨S_, .f32⟩
  | 112 => ⟨S16x5x2048, .f32⟩
  | 113 => ⟨S_, .f32⟩
  | 114 => ⟨S16x5x2048, .f32⟩
  | 115 => ⟨S16x5x2048, .f32⟩
  | 116 => ⟨S16x5x2048x1, .f32⟩
  | 117 => ⟨S16x5x2048x2048, .f32⟩
  | 118 => ⟨S16x5x2048x2048, .f32⟩
  | 119 => ⟨S16x5x2048x2048, .f32⟩
  | 120 => ⟨S_, .f32⟩
  | 121 => ⟨S16x5x2048, .f32⟩
  | 122 => ⟨S16x5x2048x1, .f32⟩
  | 123 => ⟨S16x5x2048x2048, .f32⟩
  | 124 => ⟨S16x5x2048x2048, .f32⟩
  | 125 => ⟨S16x5x64x2048, .f32⟩
  | 126 => ⟨S16x2048x5x64, .f32⟩
  | 127 => ⟨S16x2048x320, .f32⟩
  | _ => ⟨S16x2048x256, .f32⟩

abbrev hbmTy0_1 (i : Nat) : BufTy := match i % 128 with
  | 0 => ⟨S_, .i32⟩
  | 1 => ⟨S_, .f32⟩
  | 2 => ⟨S16x2048x384, .f32⟩
  | 3 => ⟨S16x2048x384, .bf16⟩
  | _ => ⟨S16x2048x256, .f32⟩

abbrev hbmTy (i : Nat) : BufTy := match i / 128 with
  | 0 => hbmTy0_0 i
  | 1 => hbmTy0_1 i
  | _ => ⟨S16x2048x256, .f32⟩

abbrev bufTy : (tb : Table) → Fin (tcTables nBuf tb) → BufTy
  | .hbm, ⟨i, _⟩ => hbmTy i
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_5 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_6 : Ref sig .tc := ⟨.hbm, 106, rfl⟩
abbrev main_call0_v0 : Ref sig .tc := ⟨.hbm, 107, rfl⟩
abbrev main_call0_v1 : Ref sig .tc := ⟨.hbm, 108, rfl⟩
abbrev main_call0_v2 : Ref sig .tc := ⟨.hbm, 109, rfl⟩
abbrev main_v90 : Ref sig .tc := ⟨.hbm, 110, rfl⟩
abbrev main_cst_7 : Ref sig .tc := ⟨.hbm, 111, rfl⟩
abbrev main_v91 : Ref sig .tc := ⟨.hbm, 112, rfl⟩
abbrev main_cst_8 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_9 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_c : Ref sig .tc := ⟨.hbm, 128, rfl⟩
abbrev main_call1_v0 : Ref sig .tc := ⟨.hbm, 129, rfl⟩
abbrev main_v105 : Ref sig .tc := ⟨.hbm, 130, rfl⟩
abbrev main_v106 : Ref sig .tc := ⟨.hbm, 131, rfl⟩

abbrev nD : Nat := 1
abbrev τ : Topo := Topo.v7x

variable {F : FTy → Type} [FloatOps F]
-- ==== Kernel2.lean ====
abbrev S16x2048x6x64 : Shape := ⟨4, ![16, 2048, 6, 64]⟩
abbrev S16x2048x5x64 : Shape := ⟨4, ![16, 2048, 5, 64]⟩
abbrev S16x2048x1024 : Shape := ⟨3, ![16, 2048, 1024]⟩
abbrev S16x9216 : Shape := ⟨2, ![16, 9216]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768x64 : Shape := ⟨2, ![32768, 64]⟩
abbrev S32768x320 : Shape := ⟨2, ![32768, 320]⟩
abbrev S32768x384 : Shape := ⟨2, ![32768, 384]⟩
abbrev S384x1024 : Shape := ⟨2, ![384, 1024]⟩
abbrev S320x1024 : Shape := ⟨2, ![320, 1024]⟩
abbrev S64x1024 : Shape := ⟨2, ![64, 1024]⟩
abbrev S1152x1024 : Shape := ⟨2, ![1152, 1024]⟩
abbrev S32768x1024 : Shape := ⟨2, ![32768, 1024]⟩
abbrev S16x9x1024 : Shape := ⟨3, ![16, 9, 1024]⟩
abbrev S1x1024 : Shape := ⟨2, ![1, 1024]⟩
abbrev S1024x384 : Shape := ⟨2, ![1024, 384]⟩
abbrev S1x9x1024 : Shape := ⟨3, ![1, 9, 1024]⟩
abbrev S1024x1152 : Shape := ⟨2, ![1024, 1152]⟩
abbrev S1x1x1024 : Shape := ⟨3, ![1, 1, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 38
  | .vmem => 17
  | .smem => 0
  | _ => 0

abbrev bufTy : (tb : Table) → Fin (tcTables nBuf tb) → BufTy
  | .hbm, ⟨0, _⟩ => ⟨S16x2048x6x64, .f32⟩
  | .hbm, ⟨1, _⟩ => ⟨S16x2048x5x64, .f32⟩
  | .hbm, ⟨2, _⟩ => ⟨S16x2048x5x64, .f32⟩
  | .hbm, ⟨3, _⟩ => ⟨S16x2048x1024, .f32⟩
  | .hbm, ⟨4, _⟩ => ⟨S16x9216, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S_, .bf16⟩
  | .hbm, ⟨11, _⟩ => ⟨S32768x64, .bf16⟩
  | .hbm, ⟨12, _⟩ => ⟨S32768x320, .f32⟩
  | .hbm, ⟨13, _⟩ => ⟨S32768x320, .bf16⟩
  | .hbm, ⟨14, _⟩ => ⟨S32768x384, .bf16⟩
  | .hbm, ⟨15, _⟩ => ⟨S32768x320, .f32⟩
  | .hbm, ⟨16, _⟩ => ⟨S32768x320, .bf16⟩
  | .hbm, ⟨17, _⟩ => ⟨S32768x384, .bf16⟩
  | .hbm, ⟨18, _⟩ => ⟨S32768x384, .f32⟩
  | .hbm, ⟨19, _⟩ => ⟨S32768x384, .bf16⟩
  | .hbm, ⟨20, _⟩ => ⟨S384x1024, .f32⟩
  | .hbm, ⟨21, _⟩ => ⟨S320x1024, .f32⟩
  | .hbm, ⟨22, _⟩ => ⟨S_, .f32⟩
  | .hbm, ⟨23, _⟩ => ⟨S64x1024, .f32⟩
  | .hbm, ⟨24, _⟩ => ⟨S384x1024, .f32⟩
  | .hbm, ⟨25, _⟩ => ⟨S320x1024, .f32⟩
  | .hbm, ⟨26, _⟩ => ⟨S_, .f32⟩
  | .hbm, ⟨27, _⟩ => ⟨S64x1024, .f32⟩
  | .hbm, ⟨28, _⟩ => ⟨S384x1024, .f32⟩
  | .hbm, ⟨29, _⟩ => ⟨S1152x1024, .f32⟩
  | .hbm, ⟨30, _⟩ => ⟨S1152x1024, .bf16⟩
  | .hbm, ⟨31, _⟩ => ⟨S32768x1024, .f32⟩
  | .hbm, ⟨32, _⟩ => ⟨S16x9x1024, .f32⟩
  | .hbm, ⟨33, _⟩ => ⟨S1x1024, .f32⟩
  | .hbm, ⟨34, _⟩ => ⟨S1024x5632, .bf16⟩
  | .hbm, ⟨35, _⟩ => ⟨S2816x1024, .bf16⟩
  | .hbm, ⟨36, _⟩ => ⟨S1x1024, .f32⟩
  | .hbm, ⟨37, _⟩ => ⟨S32768x1024, .f32⟩
  | .local _ .vmem, ⟨0, _⟩ => ⟨S1024x384, .bf16⟩
  | .local _ .vmem, ⟨1, _⟩ => ⟨S1024x384, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .bf16⟩
  | .local _ .vmem, ⟨6, _⟩ => ⟨S1152x1024, .bf16⟩
  | .local _ .vmem, ⟨7, _⟩ => ⟨S1024x1024, .f32⟩
  | .local _ .vmem, ⟨8, _⟩ => ⟨S1024x1024, .f32⟩
  | .local _ .vmem, ⟨9, _⟩ => ⟨S1x9x1024, .f32⟩
  | .local _ .vmem, ⟨10, _⟩ => ⟨S1x9x1024, .f32⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S16x2048x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1152x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x9x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16x2048x6x64 : Shape := ⟨4, ![16, 2048, 6, 64]⟩
abbrev S16x2048x5x64 : Shape := ⟨4, ![16, 2048, 5, 64]⟩
abbrev S16x2048x1024 : Shape := ⟨3, ![16, 2048, 1024]⟩
abbrev S16x9216 : Shape := ⟨2, ![16, 9216]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16x1024 : Shape := ⟨2, ![16, 1024]⟩
abbrev S16x2048x384 : Shape := ⟨3, ![16, 2048, 384]⟩
abbrev S16x2048x320 : Shape := ⟨3, ![16, 2048, 320]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 91
  | .vmem => 0
  | .smem => 0
  | _ => 0

abbrev bufTy : (tb : Table) → Fin (tcTables nBuf tb) → BufTy
  | .hbm, ⟨0, _⟩ => ⟨S16x2048x6x64, .f32⟩
  | .hbm, ⟨1, _⟩ => ⟨S16x2048x5x64, .f32⟩
  | .hbm, ⟨2, _⟩ => ⟨S16x2048x5x64, .f32⟩
  | .hbm, ⟨3, _⟩ => ⟨S16x2048x1024, .f32⟩
  | .hbm, ⟨4, _⟩ => ⟨S16x9216, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S16x2048x384, .f32⟩
  | .hbm, ⟨20, _⟩ => ⟨S16x2048x320, .f32⟩
  | .hbm, ⟨21, _⟩ => ⟨S16x2048x320, .f32⟩
  | .hbm, ⟨22, _⟩ => ⟨S16x2048x1024, .f32⟩
  | .hbm, ⟨23, _⟩ => ⟨S16x1x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1, .f32⟩
  | .hbm, ⟨39, _⟩ => ⟨S16x2048x1024, .f32⟩
  | .hbm, ⟨40, _⟩ => ⟨S16x2048x1024, .f32⟩
  | .hbm, ⟨41, _⟩ => ⟨S1x1x1024, .f32⟩
  | .hbm, ⟨42, _⟩ => ⟨S16x2048x1024, .f32⟩
  | .hbm, ⟨43, _⟩ => ⟨S16x2048x1024, .f32⟩
  | .hbm, ⟨44, _⟩ => ⟨S16x1x1024, .f32⟩
  | .hbm, ⟨45, _⟩ => ⟨S_, .f32⟩
  | .hbm, ⟨46, _⟩ => ⟨S16x1x1024, .f32⟩
  | .hbm, ⟨47, _⟩ => ⟨S16x1x1024, .f32⟩
  | .hbm, ⟨48, _⟩ => ⟨S16x2048x1024, .f32⟩
  | .hbm, ⟨49, _⟩ => ⟨S16x2048x1024, .f32⟩
  | .hbm, ⟨50, _⟩ => ⟨S16x1x1024, .f32⟩
  | .hbm, ⟨51, _⟩ => ⟨S16x2048x1024, .f32⟩
  | .hbm, ⟨52, _⟩ => ⟨S16x2048x1024, .f32⟩
  | .hbm, ⟨53, _⟩ => ⟨S16x1x1024, .f32⟩
  | .hbm, ⟨54, _⟩ => ⟨S_, .f32⟩
  | .hbm, ⟨55, _⟩ => ⟨S16x1x1024, .f32⟩
  | .hbm, ⟨56, _⟩ => ⟨S16x1x1024, .f32⟩
  | .hbm, ⟨57, _⟩ => ⟨S16x2048x5632, .f32⟩
  | .hbm, ⟨58, _⟩ => ⟨S16x2048x2816, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S_, .f32⟩
  | .hbm, ⟨63, _⟩ => ⟨S16x2048x2816, .f32⟩
  | .hbm, ⟨64, _⟩ => ⟨S16x2048x2816, .f32⟩
  | .hbm, ⟨65, _⟩ => ⟨S_, .f32⟩
  | .hbm, ⟨66, _⟩ => ⟨S16x2048x2816, .f32⟩
  | .hbm, ⟨67, _⟩ => ⟨S16x2048x2816, .f32⟩
  | .hbm, ⟨68, _⟩ => ⟨S16x2048x2816, .f32⟩
  | .hbm, ⟨69, _⟩ => ⟨S16x2048x2816, .f32⟩
  | .hbm, ⟨70, _⟩ => ⟨S16x2048x1024, .f32⟩
  | .hbm, ⟨71, _⟩ => ⟨S16x2048x1024, .f32⟩
  | .hbm, ⟨72, _⟩ => ⟨S16x2048x1024, .f32⟩
  | .hbm, ⟨73, _⟩ => ⟨S16x2048x1024, .f32⟩
  | .hbm, ⟨74, _⟩ => ⟨S16x2048x1024, .f32⟩
  | .hbm, ⟨75, _⟩ => ⟨S_, .f32⟩
  | .hbm, ⟨76, _⟩ => ⟨S16x2048, .f32⟩
  | .hbm, ⟨77, _⟩ => ⟨S16x2048x1, .f32⟩
  | .hbm, ⟨78, _⟩ => ⟨S_, .f32⟩
  | .hbm, ⟨79, _⟩ => ⟨S16x2048x1, .f32⟩
  | .hbm, ⟨80, _⟩ => ⟨S16x2048x1, .f32⟩
  | .hbm, ⟨81, _⟩ => ⟨S_, .f32⟩
  | .hbm, ⟨82, _⟩ => ⟨S16x2048x1, .f32⟩
  | .hbm, ⟨83, _⟩ => ⟨S16x2048x1, .f32⟩
  | .hbm, ⟨84, _⟩ => ⟨S16x2048x1, .f32⟩
  | .hbm, ⟨85, _⟩ => ⟨S16x2048x1024, .f32⟩
  | .hbm, ⟨86, _⟩ => ⟨S16x2048x1024, .f32⟩
  | .hbm, ⟨87, _⟩ => ⟨S1x1x1024, .f32⟩
  | .hbm, ⟨88, _⟩ => ⟨S16x2048x1024, .f32⟩
  | .hbm, ⟨89, _⟩ => ⟨S16x2048x1024, .f32⟩
  | .hbm, ⟨90, _⟩ => ⟨S32768x1024, .f32⟩
  | _, _ => ⟨S16x2048x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_4 : Ref sig .tc := ⟨.hbm, 75, rfl⟩
abbrev main_v52 : Ref sig .tc := ⟨.hbm, 76, rfl⟩
abbrev main_v53 : Ref sig .tc := ⟨.hbm, 77, rfl⟩
abbrev main_cst_5 : Ref sig .tc := ⟨.hbm, 78, rfl⟩
abbrev main_v54 : Ref sig .tc := ⟨.hbm, 79, rfl⟩
abbrev main_v55 : Ref sig .tc := ⟨.hbm, 80, rfl⟩
abbrev main_cst_6 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x9216 : Shape := ⟨2, ![16, 9216]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S32768x1024 : Shape := ⟨2, ![32768, 1024]⟩
abbrev S16x9x1024 : Shape := ⟨3, ![16, 9, 1024]⟩
abbrev S1024x1024 : Shape := ⟨2, ![1024, 1024]⟩
abbrev S1x9x1024 : Shape := ⟨3, ![1, 9, 1024]⟩
abbrev S1024x1 : Shape := ⟨2, ![1024, 1]⟩
abbrev S1x1x1024 : Shape := ⟨3, ![1, 1, 1024]⟩
abbrev S1024x256 : Shape := ⟨2, ![1024, 256]⟩
abbrev S256x1024 : Shape := ⟨2, ![256, 1024]⟩

abbrev nBuf : Space → Nat
  | .hbm => 11
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S16x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S32768x1024, .f32⟩
  | .hbm, ⟨7, _⟩ => ⟨S16x9x1024, .f32⟩
  | .hbm, ⟨8, _⟩ => ⟨S1024x5632, .bf16⟩
  | .hbm, ⟨9, _⟩ => ⟨S2816x1024, .bf16⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16x2048x1024 : Shape := ⟨3, ![16, 2048, 1024]⟩
abbrev S16x9216 : Shape := ⟨2, ![16, 9216]⟩
abbrev S1024 : Shape := ⟨1, ![1024]⟩
abbrev S1024x5632 : Shape := ⟨2, ![1024, 5632]⟩
abbrev S2816x1024 : Shape := ⟨2, ![2816, 1024]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S16x1024, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x2048x1024, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S1x1x1024, .f32⟩
  | .hbm, ⟨28, _⟩ => ⟨S16x2048x1024, .f32⟩
  | .hbm, ⟨29, _⟩ => ⟨S16x2048x1024, .f32⟩
  | .hbm, ⟨30, _⟩ => ⟨S16x1x1024, .f32⟩
  | .hbm, ⟨31, _⟩ => ⟨S_, .f32⟩
  | .hbm, ⟨32, _⟩ => ⟨S16x1x1024, .f32⟩
  | .hbm, ⟨33, _⟩ => ⟨S16x1x1024, .f32⟩
  | .hbm, ⟨34, _⟩ => ⟨S16x2048x1024, .f32⟩
  | .hbm, ⟨35, _⟩ => ⟨S16x2048x1024, .f32⟩
  | .hbm, ⟨36, _⟩ => ⟨S16x1x1024, .f32⟩
  | .hbm, ⟨37, _⟩ => ⟨S16x2048x1024, .f32⟩
  | .hbm, ⟨38, _⟩ => ⟨S16x2048x1024, .f32⟩
  | .hbm, ⟨39, _⟩ => ⟨S16x1x1024, .f32⟩
  | .hbm, ⟨40, _⟩ => ⟨S_, .f32⟩
  | .hbm, ⟨41, _⟩ => ⟨S16x1x1024, .f32⟩
  | .hbm, ⟨42, _⟩ => ⟨S16x1x1024, .f32⟩
  | .hbm, ⟨43, _⟩ => ⟨S16x2048x5632, .f32⟩
  | .hbm, ⟨44, _⟩ => ⟨S16x2048x2816, .f32⟩
  | .hbm, ⟨45, _⟩ => ⟨S16x2048x2816, .f32⟩
  | .hbm, ⟨46, _⟩ => ⟨S16x2048x2816, .f32⟩
  | .hbm, ⟨47, _⟩ => ⟨S16x2048x2816, .f32⟩
  | .hbm, ⟨48, _⟩ => ⟨S_, .f32⟩
  | .hbm, ⟨49, _⟩ => ⟨S16x2048x2816, .f32⟩
  | .hbm, ⟨50, _⟩ => ⟨S16x2048x2816, .f32⟩
  | .hbm, ⟨51, _⟩ => ⟨S_, .f32⟩
  | .hbm, ⟨52, _⟩ => ⟨S16x2048x2816, .f32⟩
  | .hbm, ⟨53, _⟩ => ⟨S16x2048x2816, .f32⟩
  | .hbm, ⟨54, _⟩ => ⟨S16x2048x2816, .f32⟩
  | .hbm, ⟨55, _⟩ => ⟨S16x2048x2816, .f32⟩
  | .hbm, ⟨56, _⟩ => ⟨S16x2048x1024, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel4.lean ====
abbrev S16x2048x1024 : Shape := ⟨3, ![16, 2048, 1024]⟩
abbrev S16x9216 : Shape := ⟨2, ![16, 9216]⟩
abbrev S1024 : Shape := ⟨1, ![1024]⟩
abbrev S1024x3112 : Shape := ⟨2, ![1024, 3112]⟩
abbrev S32768x1024 : Shape := ⟨2, ![32768, 1024]⟩
abbrev S16x9x1024 : Shape := ⟨3, ![16, 9, 1024]⟩
abbrev S1x1024 : Shape := ⟨2, ![1, 1024]⟩
abbrev S1024x384 : Shape := ⟨2, ![1024, 384]⟩
abbrev S1024x256 : Shape := ⟨2, ![1024, 256]⟩
abbrev S1024x128 : Shape := ⟨2, ![1024, 128]⟩
abbrev S1024x32 : Shape := ⟨2, ![1024, 32]⟩
abbrev S1024x320 : Shape := ⟨2, ![1024, 320]⟩
abbrev S1024x512 : Shape := ⟨2, ![1024, 512]⟩
abbrev S1024x64 : Shape := ⟨2, ![1024, 64]⟩
abbrev S1024x8 : Shape := ⟨2, ![1024, 8]⟩
abbrev S1024x8x64 : Shape := ⟨3, ![1024, 8, 64]⟩
abbrev S1024x8x16 : Shape := ⟨3, ![1024, 8, 16]⟩
abbrev S1024x8x32 : Shape := ⟨3, ![1024, 8, 32]⟩
abbrev S_ : Shape := ⟨0, ![]⟩
abbrev S1024x16 : Shape := ⟨2, ![1024, 16]⟩
abbrev S1024x24 : Shape := ⟨2, ![1024, 24]⟩
abbrev S1024x0 : Shape := ⟨2, ![1024, 0]⟩
abbrev S1024x3968 : Shape := ⟨2, ![1024, 3968]⟩
abbrev S32768x3968 : Shape := ⟨2, ![32768, 3968]⟩
abbrev S1024x1024 : Shape := ⟨2, ![1024, 1024]⟩
abbrev S1x9x1024 : Shape := ⟨3, ![1, 9, 1024]⟩
abbrev S1024x1 : Shape := ⟨2, ![1024, 1]⟩
abbrev S1x1x1024 : Shape := ⟨3, ![1, 1, 1024]⟩
abbrev S16x2048x3968 : Shape := ⟨3, ![16, 2048, 3968]⟩
abbrev S16x2048x384 : Shape := ⟨3, ![16, 2048, 384]⟩
abbrev S16x2048x256 : Shape := ⟨3, ![16, 2048, 256]⟩
abbrev S16x2048x128 : Shape := ⟨3, ![16, 2048, 128]⟩
abbrev S16x2048x32 : Shape := ⟨3, ![16, 2048, 32]⟩
abbrev S16x2048x320 : Shape := ⟨3, ![16, 2048, 320]⟩
abbrev S16x2048x512 : Shape := ⟨3, ![16, 2048, 512]⟩
abbrev S16x2048x64 : Shape := ⟨3, ![16, 2048, 64]⟩
abbrev S16x2048x8 : Shape := ⟨3, ![16, 2048, 8]⟩
abbrev S16x2048x3112 : Shape := ⟨3, ![16, 2048, 3112]⟩

abbrev nBuf : Space → Nat
  | .hbm => 74
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S16x9216, .f32⟩
  | .hbm, ⟨2, _⟩ => ⟨S1024, .f32⟩
  | .hbm, ⟨3, _⟩ => ⟨S1024x3112, .f32⟩
  | .hbm, ⟨4, _⟩ => ⟨S32768x1024, .f32⟩
  | .hbm, ⟨5, _⟩ => ⟨S16x9x1024, .f32⟩
  | .hbm, ⟨6, _⟩ => ⟨S1x1024, .f32⟩
  | .hbm, ⟨7, _⟩ => ⟨S1024x384, .f32⟩
  | .hbm, ⟨8, _⟩ => ⟨S1024x384, .f32⟩
  | .hbm, ⟨9, _⟩ => ⟨S1024x384, .f32⟩
  | .hbm, ⟨10, _⟩ => ⟨S1024x256, .f32⟩
  | .hbm, ⟨11, _⟩ => ⟨S1024x128, .f32⟩
  | .hbm, ⟨12, _⟩ => ⟨S1024x32, .f32⟩
  | .hbm, ⟨13, _⟩ => ⟨S1024x320, .f32⟩
  | .hbm, ⟨14, _⟩ => ⟨S1024x320, .f32⟩
  | .hbm, ⟨15, _⟩ => ⟨S1024x320, .f32⟩
  | .hbm, ⟨16, _⟩ => ⟨S1024x512, .f32⟩
  | .hbm, ⟨17, _⟩ => ⟨S1024x64, .f32⟩
  | .hbm, ⟨18, _⟩ => ⟨S1024x8, .f32⟩
  | .hbm, ⟨19, _⟩ => ⟨S1024x8x64, .f32⟩
  | .hbm, ⟨20, _⟩ => ⟨S1024x8x16, .f32⟩
  | .hbm, ⟨21, _⟩ => ⟨S1024x8x16, .f32⟩
  | .hbm, ⟨22, _⟩ => ⟨S1024x8x16, .f32⟩
  | .hbm, ⟨23, _⟩ => ⟨S1024x8x32, .f32⟩
  | .hbm, ⟨24, _⟩ => ⟨S_, .f32⟩
  | .hbm, ⟨25, _⟩ => ⟨S1024x8x32, .f32⟩
  | .hbm, ⟨26, _⟩ => ⟨S1024x8x64, .f32⟩
  | .hbm, ⟨27, _⟩ => ⟨S1024x512, .f32⟩
  | .hbm, ⟨28, _⟩ => ⟨S1024x16, .f32⟩
  | .hbm, ⟨29, _⟩ => ⟨S1024x16, .f32⟩
  | .hbm, ⟨30, _⟩ => ⟨S1024x16, .f32⟩
  | .hbm, ⟨31, _⟩ => ⟨S1024x32, .f32⟩
  | .hbm, ⟨32, _⟩ => ⟨S_, .f32⟩
  | .hbm, ⟨33, _⟩ => ⟨S1024x32, .f32⟩
  | .hbm, ⟨34, _⟩ => ⟨S1024x64, .f32⟩
  | .hbm, ⟨35, _⟩ => ⟨S1024x32, .f32⟩
  | .hbm, ⟨36, _⟩ => ⟨S_, .f32⟩
  | .hbm, ⟨37, _⟩ => ⟨S1024x24, .f32⟩
  | .hbm, ⟨38, _⟩ => ⟨S1024x32, .f32⟩
  | .hbm, ⟨39, _⟩ => ⟨S1024x16, .f32⟩
  | .hbm, ⟨40, _⟩ => ⟨S1024x16, .f32⟩
  | .hbm, ⟨41, _⟩ => ⟨S1024x16, .f32⟩
  | .hbm, ⟨42, _⟩ => ⟨S1024x0, .f32⟩
  | .hbm, ⟨43, _⟩ => ⟨S_, .f32⟩
  | .hbm, ⟨44, _⟩ => ⟨S1024x0, .f32⟩
  | .hbm, ⟨45, _⟩ => ⟨S1024x32, .f32⟩
  | .hbm, ⟨46, _⟩ => ⟨S1024x128, .f32⟩
  | .hbm, ⟨47, _⟩ => ⟨S_, .f32⟩
  | .hbm, ⟨48, _⟩ => ⟨S1024x64, .f32⟩
  | .hbm, ⟨49, _⟩ => ⟨S1024x384, .f32⟩
  | .hbm, ⟨50, _⟩ => ⟨S_, .f32⟩
  | .hbm, ⟨51, _⟩ => ⟨S1024x64, .f32⟩
  | .hbm, ⟨52, _⟩ => ⟨S1024x384, .f32⟩
  | .hbm, ⟨53, _⟩ => ⟨S_, .f32⟩
  | .hbm, ⟨54, _⟩ => ⟨S1024x64, .f32⟩
  | .hbm, ⟨55, _⟩ => ⟨S1024x384, .f32⟩
  | .hbm, ⟨56, _⟩ => ⟨S1024x128, .f32⟩
  | .hbm, ⟨57, _⟩ => ⟨S1024x3968, .f32⟩
  | .hbm, ⟨58, _⟩ => ⟨S1024x3968, .bf16⟩
  | .hbm, ⟨59, _⟩ => ⟨S32768x3968, .f32⟩
  | .hbm, ⟨60, _⟩ => ⟨S16x2048x3968, .f32⟩
  | .hbm, ⟨61, _⟩ => ⟨S16x2048x384, .f32⟩
  | .hbm, ⟨62, _⟩ => ⟨S16x2048x384, .f32⟩
  | .hbm, ⟨63, _⟩ => ⟨S16x2048x384, .f32⟩
  | .hbm, ⟨64, _⟩ => ⟨S16x2048x256, .f32⟩
  | .hbm, ⟨65, _⟩ => ⟨S16x2048x128, .f32⟩
  | .hbm, ⟨66, _⟩ => ⟨S16x2048x32, .f32⟩
  | .hbm, ⟨67, _⟩ => ⟨S16x2048x320, .f32⟩
  | .hbm, ⟨68, _⟩ => ⟨S16x2048x320, .f32⟩
  | .hbm, ⟨69, _⟩ => ⟨S16x2048x320, .f32⟩
  | .hbm, ⟨70, _⟩ => ⟨S16x2048x512, .f32⟩
  | .hbm, ⟨71, _⟩ => ⟨S16x2048x64, .f32⟩
  | .hbm, ⟨72, _⟩ => ⟨S16x2048x8, .f32⟩
  | .hbm, ⟨73, _⟩ => ⟨S16x2048x3112, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x3968, .bf16⟩
  | .local _ .vmem, ⟨6, _⟩ => ⟨S1024x3968, .f32⟩
  | .local _ .vmem, ⟨7, _⟩ => ⟨S1024x3968, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3968 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x3968 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16x2048x1024 : Shape := ⟨3, ![16, 2048, 1024]⟩
abbrev S16x9216 : Shape := ⟨2, ![16, 9216]⟩
abbrev S1024 : Shape := ⟨1, ![1024]⟩
abbrev S1024x3112 : Shape := ⟨2, ![1024, 3112]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x3112 : Shape := ⟨3, ![16, 2048, 3112]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x9216, .f32⟩
  | .hbm, ⟨2, _⟩ => ⟨S1024, .f32⟩
  | .hbm, ⟨3, _⟩ => ⟨S1024x3112, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S16x1x1024, .f32⟩
  | .hbm, ⟨30, _⟩ => ⟨S_, .f32⟩
  | .hbm, ⟨31, _⟩ => ⟨S16x1x1024, .f32⟩
  | .hbm, ⟨32, _⟩ => ⟨S16x1x1024, .f32⟩
  | .hbm, ⟨33, _⟩ => ⟨S16x2048x1024, .f32⟩
  | .hbm, ⟨34, _⟩ => ⟨S16x2048x1024, .f32⟩
  | .hbm, ⟨35, _⟩ => ⟨S16x1x1024, .f32⟩
  | .hbm, ⟨36, _⟩ => ⟨S16x2048x1024, .f32⟩
  | .hbm, ⟨37, _⟩ => ⟨S16x2048x1024, .f32⟩
  | .hbm, ⟨38, _⟩ => ⟨S16x2048x3112, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel5.lean ====
abbrev S16x1024 : Shape := ⟨2, ![16, 1024]⟩
abbrev S2x1024x9216 : Shape := ⟨3, ![2, 1024, 9216]⟩
abbrev S2x9216 : Shape := ⟨2, ![2, 9216]⟩
abbrev S2x1x9216 : Shape := ⟨3, ![2, 1, 9216]⟩
abbrev S2x16x9216 : Shape := ⟨3, ![2, 16, 9216]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x9216, .f32⟩
  | .hbm, ⟨2, _⟩ => ⟨S2x9216, .f32⟩
  | .hbm, ⟨3, _⟩ => ⟨S2x1x9216, .f32⟩
  | .hbm, ⟨4, _⟩ => ⟨S2x16x9216, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16x1024 : Shape := ⟨2, ![16, 1024]⟩
abbrev S2x1024x9216 : Shape := ⟨3, ![2, 1024, 9216]⟩
abbrev S2x9216 : Shape := ⟨2, ![2, 9216]⟩
abbrev S_ : Shape := ⟨0, ![]⟩
abbrev S1x1024x9216 : Shape := ⟨3, ![1, 1024, 9216]⟩
abbrev S1024x9216 : Shape := ⟨2, ![1024, 9216]⟩
abbrev S16x9216 : Shape := ⟨2, ![16, 9216]⟩
abbrev S1x9216 : Shape := ⟨2, ![1, 9216]⟩
abbrev S9216 : Shape := ⟨1, ![9216]⟩
abbrev S1x16x9216 : Shape := ⟨3, ![1, 16, 9216]⟩
abbrev S2x16x9216 : Shape := ⟨3, ![2, 16, 9216]⟩

abbrev nBuf : Space → Nat
  | .hbm => 31
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x9216, .f32⟩
  | .hbm, ⟨2, _⟩ => ⟨S2x9216, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x9216, .f32⟩
  | .hbm, ⟨13, _⟩ => ⟨S1024x9216, .f32⟩
  | .hbm, ⟨14, _⟩ => ⟨S16x9216, .f32⟩
  | .hbm, ⟨15, _⟩ => ⟨S1x9216, .f32⟩
  | .hbm, ⟨16, _⟩ => ⟨S9216, .f32⟩
  | .hbm, ⟨17, _⟩ => ⟨S1x9216, .f32⟩
  | .hbm, ⟨18, _⟩ => ⟨S16x9216, .f32⟩
  | .hbm, ⟨19, _⟩ => ⟨S16x9216, .f32⟩
  | .hbm, ⟨20, _⟩ => ⟨S1x1024x9216, .f32⟩
  | .hbm, ⟨21, _⟩ => ⟨S1024x9216, .f32⟩
  | .hbm, ⟨22, _⟩ => ⟨S16x9216, .f32⟩
  | .hbm, ⟨23, _⟩ => ⟨S1x9216, .f32⟩
  | .hbm, ⟨24, _⟩ => ⟨S9216, .f32⟩
  | .hbm, ⟨25, _⟩ => ⟨S1x9216, .f32⟩
  | .hbm, ⟨26, _⟩ => ⟨S16x9216, .f32⟩
  | .hbm, ⟨27, _⟩ => ⟨S16x9216, .f32⟩
  | .hbm, ⟨28, _⟩ => ⟨S1x16x9216, .f32⟩
  | .hbm, ⟨29, _⟩ => ⟨S1x16x9216, .f32⟩
  | .hbm, ⟨30, _⟩ => ⟨S2x16x9216, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel6.lean ====
abbrev S16x2048 : Shape := ⟨2, ![16, 2048]⟩
abbrev S16 : Shape := ⟨1, ![16]⟩
abbrev S_ : Shape := ⟨0, ![]⟩
abbrev S32 : Shape := ⟨1, ![32]⟩
abbrev S128 : Shape := ⟨1, ![128]⟩
abbrev S1x128 : Shape := ⟨2, ![1, 128]⟩
abbrev S16x2048x1 : Shape := ⟨3, ![16, 2048, 1]⟩
abbrev S16x2048x128 : Shape := ⟨3, ![16, 2048, 128]⟩
abbrev S1x2048x1 : Shape := ⟨3, ![1, 2048, 1]⟩
abbrev S1x2048x128 : Shape := ⟨3, ![1, 2048, 128]⟩
abbrev S2048x1 : Shape := ⟨2, ![2048, 1]⟩
abbrev S2048x128 : Shape := ⟨2, ![2048, 128]⟩

abbrev nBuf : Space → Nat
  | .hbm => 9
  | .vmem => 7
  | .smem => 0
  | _ => 0

abbrev bufTy : (tb : Table) → Fin (tcTables nBuf tb) → BufTy
  | .hbm, ⟨0, _⟩ => ⟨S16x2048, .i32⟩
  | .hbm, ⟨1, _⟩ => ⟨S16, .f32⟩
  | .hbm, ⟨2, _⟩ => ⟨S_, .f32⟩
  | .hbm, ⟨3, _⟩ => ⟨S32, .f32⟩
  | .hbm, ⟨4, _⟩ => ⟨S128, .f32⟩
  | .hbm, ⟨5, _⟩ => ⟨S1x128, .f32⟩
  | .hbm, ⟨6, _⟩ => ⟨S16x2048x1, .i32⟩
  | .hbm, ⟨7, _⟩ => ⟨S16x2048x128, .f32⟩
  | .hbm, ⟨8, _⟩ => ⟨S16x2048x128, .f32⟩
  | .local _ .vmem, ⟨0, _⟩ => ⟨S1x2048x1, .i32⟩
  | .local _ .vmem, ⟨1, _⟩ => ⟨S1x2048x1, .i32⟩
  | .local _ .vmem, ⟨2, _⟩ => ⟨S1x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S16x2048 : Shape := ⟨2, ![16, 2048]⟩
abbrev S16 : Shape := ⟨1, ![16]⟩
abbrev S16x2048x1 : Shape := ⟨3, ![16, 2048, 1]⟩
abbrev S1x1x16 : Shape := ⟨3, ![1, 1, 16]⟩
abbrev S16x2048x16 : Shape := ⟨3, ![16, 2048, 16]⟩
abbrev S_ : Shape := ⟨0, ![]⟩
abbrev S16x2048x32 : Shape := ⟨3, ![16, 2048, 32]⟩
abbrev S16x2048x128 : Shape := ⟨3, ![16, 2048, 128]⟩

abbrev nBuf : Space → Nat
  | .hbm => 16
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S16, .f32⟩
  | .hbm, ⟨2, _⟩ => ⟨S16x2048, .f32⟩
  | .hbm, ⟨3, _⟩ => ⟨S16x2048x1, .f32⟩
  | .hbm, ⟨4, _⟩ => ⟨S1x1x16, .f32⟩
  | .hbm, ⟨5, _⟩ => ⟨S16x2048x16, .f32⟩
  | .hbm, ⟨6, _⟩ => ⟨S16x2048x16, .f32⟩
  | .hbm, ⟨7, _⟩ => ⟨S16x2048x16, .f32⟩
  | .hbm, ⟨8, _⟩ => ⟨S16x2048x16, .f32⟩
  | .hbm, ⟨9, _⟩ => ⟨S16x2048x16, .f32⟩
  | .hbm, ⟨10, _⟩ => ⟨S_, .f32⟩
  | .hbm, ⟨11, _⟩ => ⟨S16x2048x32, .f32⟩
  | .hbm, ⟨12, _⟩ => ⟨S16x2048x128, .f32⟩
  | .hbm, ⟨13, _⟩ => ⟨S_, .f32⟩
  | .hbm, ⟨14, _⟩ => ⟨S16x2048x32, .f32⟩
  | .hbm, ⟨15, _⟩ => ⟨S16x2048x128, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Rows.lean ====
/-
  Row functions that both the kernels' and the references' arrays are read as, at the ideal instance.
-/
module

public import proofs.«01_k».proof.Defs
public import Idealize.ShloMosaic.Lib.Pipeline.Value
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)

namespace Cert.Rows

/-- `silu` as both programs compute it: numerator over one plus the exponential of its negative. -/
def swish (g : EReal) : EReal := Ideal.div g (1 + Ideal.exp (-g))

theorem exp_nonneg (x : EReal) : 0 ≤ Ideal.exp x := by
  induction x using EReal.rec with
  | bot => simp
  | top => simp
  | coe r => rw [Ideal.exp_coe]; exact_mod_cast (Real.exp_pos r).le

/-- Multiplying by a reciprocal whose denominator is not zero is dividing. -/
theorem mul_div_one (x y : EReal) (h : y ≠ 0) : x * Ideal.div 1 y = Ideal.div x y := by
  unfold Ideal.div
  rw [if_neg h, if_neg h, one_mul]

theorem mul_sigmoid (g : EReal) : g * Ideal.div 1 (1 + Ideal.exp (-g)) = swish g := by
  refine mul_div_one _ _ (ne_of_gt ?_)
  have h := exp_nonneg (-g)
  calc (0 : EReal) < 1 := by norm_num
    _ = 1 + 0 := by rw [add_zero]
    _ ≤ 1 + Ideal.exp (-g) := by gcongr

/-- A normalised element, from the row's elements and gain. -/
def gained (x : Fin 1024 → EReal) (g : Fin 1024 → EReal) (k : Fin 1024) : EReal :=
  x k * Ideal.rsqrt (Ideal.div (∑ k' : Fin 1024, x k' * x k') (Ideal.ofBits .f32 0x44800000#32) + Ideal.ofBits .f32 0x358637BD#32) * g k

theorem gained_congr {x x' g g' : Fin 1024 → EReal} (j : Fin 1024) (hx : ∀ k, x k = x' k) (hg : ∀ k, g k = g' k) : gained x g j = gained x' g' j := by
  obtain rfl := funext hx
  obtain rfl := funext hg
  rfl

/-- A normalised and modulated element, from the row's elements, gain, scale and shift. -/
def nrm (x : Fin 1024 → EReal) (g sc sh : Fin 1024 → EReal) (k : Fin 1024) : EReal :=
  x k * Ideal.rsqrt (Ideal.div (∑ k' : Fin 1024, x k' * x k') (Ideal.ofBits .f32 0x44800000#32) + Ideal.ofBits .f32 0x358637BD#32) * g k * (1 + sc k) + sh k

/-- The gated mix of a row: the row plus the gate times the three heads' groups projected. -/
def mixrow (a : Fin 384 → EReal) (b c : Fin 320 → EReal) (h gt : Fin 1024 → EReal) (w : Fin 1024 → Fin 1024 → EReal) (j : Fin 1024) : EReal :=
  h j + gt j * ((∑ f : Fin 384, a f * w ⟨f.val, by omega⟩ j) + (∑ f : Fin 320, b f * w ⟨384 + f.val, by omega⟩ j) + (∑ f : Fin 320, c f * w ⟨704 + f.val, by omega⟩ j))

theorem mixrow_congr {a a' : Fin 384 → EReal} {b b' c c' : Fin 320 → EReal} {h h' gt gt' : Fin 1024 → EReal} {w w' : Fin 1024 → Fin 1024 → EReal} (j : Fin 1024)
    (ha : ∀ k, a k = a' k) (hb : ∀ k, b k = b' k) (hc : ∀ k, c k = c' k) (hh : ∀ k, h k = h' k) (hg : ∀ k, gt k = gt' k) (hw : ∀ f k, w f k = w' f k) :
    mixrow a b c h gt w j = mixrow a' b' c' h' gt' w' j := by
  obtain rfl := funext ha
  obtain rfl := funext hb
  obtain rfl := funext hc
  obtain rfl := funext hh
  obtain rfl := funext hg
  obtain rfl := funext fun k => funext (hw k)
  rfl

/-- A sum of products over three groups of 384 lanes laid side by side. -/
theorem three_groups (a b c : Fin 384 → EReal) (w : Fin 1152 → EReal) :
    ∑ x : Fin 1152, (if h : x.val < 384 then a ⟨x.val, h⟩ else if h' : x.val - 384 < 384 then b ⟨x.val - 384, h'⟩ else c ⟨x.val - 384 - 384, by omega⟩) * w x
      = (∑ f : Fin 384, a f * w ⟨f.val, by omega⟩) + (∑ f : Fin 384, b f * w ⟨384 + f.val, by omega⟩) + (∑ f : Fin 384, c f * w ⟨768 + f.val, by omega⟩) := by
  rw [Fin.sum_univ_two_halves 384 768 rfl, Fin.sum_univ_two_halves (N := 768) 384 384 rfl, ← add_assoc]
  refine congrArg₂ (· + ·) ?_ ?_
  · refine congrArg₂ (· + ·) ?_ ?_
    · refine Finset.sum_congr rfl fun f _ => ?_
      rw [dif_pos f.isLt]
    · refine Finset.sum_congr rfl fun f _ => ?_
      rw [dif_neg (by show ¬ 384 + f.val < 384; omega), dif_pos (by show 384 + f.val - 384 < 384; omega)]
      simp only [Nat.add_sub_cancel_left]
  · refine Finset.sum_congr rfl fun f _ => ?_
    rw [dif_neg (by show ¬ 384 + (384 + f.val) < 384; omega), dif_neg (by show ¬ 384 + (384 + f.val) - 384 < 384; omega)]
    exact congrArg₂ (· * ·) (congrArg c (Fin.ext (by show 384 + (384 + f.val) - 384 - 384 = f.val; omega))) (congrArg w (Fin.ext (by show 384 + (384 + f.val) = 768 + f.val; omega)))

/-- Lanes padded with zeros add nothing. -/
theorem padded (a : Fin 320 → EReal) (w : Fin 384 → EReal) :
    ∑ f : Fin 384, (if h : f.val < 320 then a ⟨f.val, h⟩ else 0) * w f = ∑ f : Fin 320, a f * w ⟨f.val, by omega⟩ := by
  rw [Fin.sum_univ_two_halves 320 64 rfl]
  rw [Finset.sum_eq_zero (s := (Finset.univ : Finset (Fin 64))), add_zero]
  · refine Finset.sum_congr rfl fun f _ => ?_
    rw [dif_pos f.isLt]
  · intro f _
    rw [dif_neg (by show ¬ 320 + f.val < 320; omega), zero_mul]

/-- A sum of products over the heads of the three attentions laid side by side. -/
theorem three_heads (a : Fin 384 → EReal) (b c : Fin 320 → EReal) (w : Fin 1024 → EReal) :
    ∑ x : Fin 1024, (if h : x.val < 384 then a ⟨x.val, h⟩ else if h' : x.val - 384 < 320 then b ⟨x.val - 384, h'⟩ else c ⟨x.val - 384 - 320, by omega⟩) * w x
      = (∑ f : Fin 384, a f * w ⟨f.val, by omega⟩) + (∑ f : Fin 320, b f * w ⟨384 + f.val, by omega⟩) + (∑ f : Fin 320, c f * w ⟨704 + f.val, by omega⟩) := by
  rw [Fin.sum_univ_two_halves 384 640 rfl, Fin.sum_univ_two_halves (N := 640) 320 320 rfl, ← add_assoc]
  refine congrArg₂ (· + ·) ?_ ?_
  · refine congrArg₂ (· + ·) ?_ ?_
    · refine Finset.sum_congr rfl fun f _ => ?_
      rw [dif_pos f.isLt]
    · refine Finset.sum_congr rfl fun f _ => ?_
      rw [dif_neg (by show ¬ 384 + f.val < 384; omega), dif_pos (by show 384 + f.val - 384 < 320; omega)]
      simp only [Nat.add_sub_cancel_left]
  · refine Finset.sum_congr rfl fun f _ => ?_
    rw [dif_neg (by show ¬ 384 + (320 + f.val) < 384; omega), dif_neg (by show ¬ 384 + (320 + f.val) - 384 < 320; omega)]
    exact congrArg₂ (· * ·) (congrArg c (Fin.ext (by show 384 + (320 + f.val) - 384 - 320 = f.val; omega))) (congrArg w (Fin.ext (by show 384 + (320 + f.val) = 704 + f.val; omega)))

/-- The half's element from the row, the modulation row's shift, scale and gate, the gain and the two weight arrays. -/
def half (x : Fin 1024 → EReal) (g sc sh gt : Fin 1024 → EReal) (wgu : Fin 1024 → Fin 5632 → EReal) (wd : Fin 2816 → Fin 1024 → EReal) (j : Fin 1024) : EReal :=
  x j + (Ideal.ofBits .f32 0x3F000000#32 * gt j) *
    ∑ f : Fin 2816, (swish (∑ k : Fin 1024, nrm x g sc sh k * wgu k ⟨f.val, by omega⟩) * ∑ k : Fin 1024, nrm x g sc sh k * wgu k ⟨2816 + f.val, by omega⟩) * wd f j

theorem half_congr {x x' g g' sc sc' sh sh' gt gt' : Fin 1024 → EReal} {wgu wgu' : Fin 1024 → Fin 5632 → EReal} {wd wd' : Fin 2816 → Fin 1024 → EReal} (j : Fin 1024)
    (hx : ∀ k, x k = x' k) (hg : ∀ k, g k = g' k) (hsc : ∀ k, sc k = sc' k) (hsh : ∀ k, sh k = sh' k) (hgt : ∀ k, gt k = gt' k)
    (hw : ∀ k f, wgu k f = wgu' k f) (hd : ∀ f k, wd f k = wd' f k) : half x g sc sh gt wgu wd j = half x' g' sc' sh' gt' wgu' wd' j := by
  obtain rfl := funext hx
  obtain rfl := funext hg
  obtain rfl := funext hsc
  obtain rfl := funext hsh
  obtain rfl := funext hgt
  obtain rfl := funext fun k => funext (hw k)
  obtain rfl := funext fun k => funext (hd k)
  rfl

/-- A sum over the 2816 hidden columns, slab by slab. -/
theorem slabs (G : Fin 2816 → EReal) :
    ∑ f : Fin 2816, G f = (∑ l : Fin 256, G ⟨l.val, by omega⟩) + (∑ l : Fin 256, G ⟨256 + l.val, by omega⟩) + (∑ l : Fin 256, G ⟨512 + l.val, by omega⟩)
      + (∑ l : Fin 256, G ⟨768 + l.val, by omega⟩) + (∑ l : Fin 256, G ⟨1024 + l.val, by omega⟩) + (∑ l : Fin 256, G ⟨1280 + l.val, by omega⟩)
      + (∑ l : Fin 256, G ⟨1536 + l.val, by omega⟩) + (∑ l : Fin 256, G ⟨1792 + l.val, by omega⟩) + (∑ l : Fin 256, G ⟨2048 + l.val, by omega⟩)
      + (∑ l : Fin 256, G ⟨2304 + l.val, by omega⟩) + (∑ l : Fin 256, G ⟨2560 + l.val, by omega⟩) := by
  rw [Fin.sum_univ_tiles 11 256 rfl]
  simp only [Fin.sum_univ_castSucc (n := 10), Fin.sum_univ_castSucc (n := 9), Fin.sum_univ_castSucc (n := 8), Fin.sum_univ_castSucc (n := 7), Fin.sum_univ_castSucc (n := 6), Fin.sum_univ_castSucc (n := 5), Fin.sum_univ_castSucc (n := 4), Fin.sum_univ_castSucc (n := 3), Fin.sum_univ_castSucc (n := 2), Fin.sum_univ_castSucc (n := 1), Fin.sum_univ_castSucc (n := 0), Fin.sum_univ_zero, zero_add]
  simp only [Fin.val_castSucc, Fin.val_last, Nat.reduceMul, Nat.zero_mul, Nat.zero_add]

end Cert.Rows
-- ==== Proof.InProjBlock.lean ====
/-
  The input projection's body: sixteen slabs of columns of the modulated rows times the partitioned weights.
-/
module

public import proofs.«01_k».proof.Proof.Rows
public import proofs.«01_k».proof.Proof.Gen.Kernel4Ideal.Frame

@[expose] public section

set_option maxRecDepth 16384

noncomputable section

open Idealize.ShloMosaic Idealize.ShloMosaic.TcCoe Idealize.SL.Sem

namespace Cert.Kernel4Ideal.InProj
open Cert.Kernel4Ideal Cert.Kernel4Ideal.Gen Cert.Rows

section Pieces
variable {F : FTy → Type} [FloatOps F]

theorem inbSlab (i : Fin 15) : ∀ a, (![0, 256 * i.val] : Fin 2 → Nat) a + S1024x256.size a ≤ S1024x3968.size a := fun a => by
  fin_cases a
  · show 0 + 1024 ≤ 1024; omega
  · show 256 * i.val + 256 ≤ 3968; omega

/-- A slab of 256 columns. -/
abbrev slab (i : Fin 15) : Rect S1024x3968 := Rect.unit (s := S1024x3968) ![0, 256 * i.val] S1024x256.size (inbSlab i)

theorem inbLast : ∀ a, (![0, 3840] : Fin 2 → Nat) a + S1024x128.size a ≤ S1024x3968.size a := fun a => by
  fin_cases a
  · show 0 + 1024 ≤ 1024; omega
  · show 3840 + 128 ≤ 3968; omega

/-- The last slab, of 128 columns. -/
abbrev lastSlab : Rect S1024x3968 := Rect.unit (s := S1024x3968) ![0, 3840] S1024x128.size inbLast

theorem inbRows : ∀ a, (![0, 0] : Fin 2 → Nat) a + S1024x1024.size a ≤ S1024x1024.size a := fun a => by
  fin_cases a
  · show 0 + 1024 ≤ 1024; omega
  · show 0 + 1024 ≤ 1024; omega
abbrev rowsR : Rect S1024x1024 := Rect.unit (s := S1024x1024) ![0, 0] S1024x1024.size inbRows

theorem inbGain : ∀ a, (![0, 0] : Fin 2 → Nat) a + S1x1024.size a ≤ S1x1024.size a := fun a => by
  fin_cases a
  · show 0 + 1 ≤ 1; omega
  · show 0 + 1024 ≤ 1024; omega
abbrev gainR : Rect S1x1024 := Rect.unit (s := S1x1024) ![0, 0] S1x1024.size inbGain

theorem inbMod (q : Fin 9) : ∀ a, (![0, q.val, 0] : Fin 3 → Nat) a + S1x1x1024.size a ≤ S1x9x1024.size a := fun a => by
  fin_cases a
  · show 0 + 1 ≤ 1; omega
  · show q.val + 1 ≤ 9; omega
  · show 0 + 1024 ≤ 1024; omega
abbrev modR (q : Fin 9) : Rect S1x9x1024 := Rect.unit (s := S1x9x1024) ![0, q.val, 0] S1x1x1024.size (inbMod q)

/-- The rows times a slab of weight columns. -/
def slabProd (n : FVec F S1024x1024 .bf16) (w : Vec F S1024x256 .bf16) : FVec F S1024x256 .f32 :=
  matmul dot_S1024x1024_S1024x256_S1024x256_1_0_0_1_n_n none n (shapeCast S1024x256 w shapeCasts_S1024x256_S1024x256) (constant S1024x256 .f32 0x00000000#32)

/-- The rows times the last slab of weight columns. -/
def lastProd (n : FVec F S1024x1024 .bf16) (w : Vec F S1024x128 .bf16) : FVec F S1024x128 .f32 :=
  matmul dot_S1024x1024_S1024x128_S1024x128_1_0_0_1_n_n none n (shapeCast S1024x128 w shapeCasts_S1024x128_S1024x128) (constant S1024x128 .f32 0x00000000#32)

/-- The sixteen slabs, the last stored first. -/
def slabs16 (n : FVec F S1024x1024 .bf16) (W : Fin 15 → Vec F S1024x256 .bf16) (Z : Vec F S1024x128 .bf16) : List (View.Piece (Elt F) S1024x3968 .f32) :=
  [⟨lastSlab, lastProd n Z⟩, ⟨slab 14, slabProd n (W 14)⟩, ⟨slab 13, slabProd n (W 13)⟩, ⟨slab 12, slabProd n (W 12)⟩, ⟨slab 11, slabProd n (W 11)⟩, ⟨slab 10, slabProd n (W 10)⟩, ⟨slab 9, slabProd n (W 9)⟩, ⟨slab 8, slabProd n (W 8)⟩, ⟨slab 7, slabProd n (W 7)⟩, ⟨slab 6, slabProd n (W 6)⟩, ⟨slab 5, slabProd n (W 5)⟩, ⟨slab 4, slabProd n (W 4)⟩, ⟨slab 3, slabProd n (W 3)⟩, ⟨slab 2, slabProd n (W 2)⟩, ⟨slab 1, slabProd n (W 1)⟩, ⟨slab 0, slabProd n (W 0)⟩]

theorem stores_eq (c : Dev nD) (i : grid0.Coords) (arg1 : Memref sig .tc .vmem S1024x1024 .f32) (harg1 : arg1.IsWhole) (arg2 : Memref sig .tc .vmem S1x9x1024 .f32) (harg2 : arg2.IsWhole) (arg3 : Memref sig .tc .vmem S1x1024 .f32) (harg3 : arg3.IsWhole) (arg4 : Memref sig .tc .vmem S1024x3968 .bf16) (harg4 : arg4.IsWhole) (arg5 : Memref sig .tc .vmem S1024x3968 .f32) (harg5 : arg5.IsWhole)
  (x0 : Vec F S1024x1024 .f32) (x1 : Vec F S1x9x1024 .f32) (x2 : Vec F S1x1024 .f32) (x3 : Vec F S1024x3968 .bf16) :
    (kernelRun0_A c i arg1 harg1 arg2 harg2 arg3 harg3 arg4 harg4 arg5 harg5 x0 x1 x2 x3).1 = slabs16 (k0_pay3 (F := F) (arg1.view.readAt (Elt F) rowsR.toLoadRect (harg1.unread x0)) (arg3.view.readAt (Elt F) gainR.toLoadRect (harg3.unread x2)) (arg2.view.readAt (Elt F) (modR 4).toLoadRect (harg2.unread x1)) (arg2.view.readAt (Elt F) (modR 3).toLoadRect (harg2.unread x1))) (fun i => arg4.view.readAt (Elt F) (slab i).toLoadRect (harg4.unread x3)) (arg4.view.readAt (Elt F) lastSlab.toLoadRect (harg4.unread x3)) := rfl
end Pieces

theorem slab_emb (i : Fin 15) (r : Fin 1024) (l : Fin 256) : (slab i).idx (ix2 r l) = ix2 r (⟨256 * i.val + l.val, by omega⟩ : Fin 3968) := by
  funext a
  fin_cases a
  · exact Fin.ext (by show 0 + 1 * r.val = r.val; omega)
  · exact Fin.ext (by show 256 * i.val + 1 * l.val = 256 * i.val + l.val; omega)

theorem last_emb (r : Fin 1024) (l : Fin 128) : lastSlab.idx (ix2 r l) = ix2 r (⟨3840 + l.val, by omega⟩ : Fin 3968) := by
  funext a
  fin_cases a
  · exact Fin.ext (by show 0 + 1 * r.val = r.val; omega)
  · exact Fin.ext (by show 3840 + 1 * l.val = 3840 + l.val; omega)

theorem rows_emb (r k : Fin 1024) : rowsR.idx (ix2 r k) = ix2 r k := by
  funext a
  fin_cases a
  · exact Fin.ext (by show 0 + 1 * r.val = r.val; omega)
  · exact Fin.ext (by show 0 + 1 * k.val = k.val; omega)

theorem gain_emb (k : Fin 1024) : gainR.idx (ix2 (0 : Fin 1) k) = ix2 (0 : Fin 1) k := by
  funext a
  fin_cases a
  · exact Fin.ext (by show 0 + 1 * 0 = 0; omega)
  · exact Fin.ext (by show 0 + 1 * k.val = k.val; omega)

theorem mod_emb (q : Fin 9) (k : Fin 1024) : (modR q).idx (ix3 (0 : Fin 1) (0 : Fin 1) k) = ix3 (0 : Fin 1) q k := by
  funext a
  fin_cases a
  · exact Fin.ext (by show 0 + 1 * 0 = 0; omega)
  · exact Fin.ext (by show q.val + 1 * 0 = q.val; omega)
  · exact Fin.ext (by show 0 + 1 * k.val = k.val; omega)

theorem slabProd_apply (n : FVec Ideal S1024x1024 .bf16) (w : Vec Ideal S1024x256 .bf16) (r : Fin 1024) (l : Fin 256) :
    slabProd n w (ix2 r l) = ∑ k : Fin 1024, n (ix2 r k) * w (ix2 k l) := by
  pointwise [slabProd]

theorem lastProd_apply (n : FVec Ideal S1024x1024 .bf16) (w : Vec Ideal S1024x128 .bf16) (r : Fin 1024) (l : Fin 128) :
    lastProd n w (ix2 r l) = ∑ k : Fin 1024, n (ix2 r k) * w (ix2 k l) := by
  pointwise [lastProd]

theorem nrm_apply (x : FVec Ideal S1024x1024 .f32) (g : FVec Ideal S1x1024 .f32) (sc sh : FVec Ideal S1x1x1024 .f32) (r k : Fin 1024) :
    (k0_pay3 (F := Ideal) x g sc sh (ix2 r k) : EReal) = nrm (fun k => x (ix2 r k)) (fun k => g (ix2 0 k)) (fun k => sc (ix3 0 0 k)) (fun k => sh (ix3 0 0 k)) k := by
  unfold nrm
  pointwise [k0_pay3]

/-- An element of the projection, from the row's elements, gain, scale and shift and the weight column. -/
def proj (x g sc sh : Fin 1024 → EReal) (w : Fin 1024 → EReal) : EReal := ∑ k : Fin 1024, nrm x g sc sh k * w k

theorem proj_congr {x x' g g' sc sc' sh sh' w w' : Fin 1024 → EReal} (hx : ∀ k, x k = x' k) (hg : ∀ k, g k = g' k) (hsc : ∀ k, sc k = sc' k) (hsh : ∀ k, sh k = sh' k) (hw : ∀ k, w k = w' k) :
    proj x g sc sh w = proj x' g' sc' sh' w' := by
  obtain rfl := funext hx
  obtain rfl := funext hg
  obtain rfl := funext hsc
  obtain rfl := funext hsh
  obtain rfl := funext hw
  rfl

theorem eta2 {n m : Nat} (x : (⟨2, ![n, m]⟩ : Shape).Idx) : x = ix2 (x 0 : Fin n) (x 1 : Fin m) := by
  funext a
  fin_cases a <;> rfl

theorem slab_piece (G : Fin 1024 → Fin 3968 → EReal) (i : Fin 15) (P : Vec Ideal S1024x256 .f32) (hP : ∀ (r : Fin 1024) (l : Fin 256), P (ix2 r l) = G r ⟨256 * i.val + l.val, by omega⟩) (x : (slab i).shape.Idx) :
    P x = (fun y : S1024x3968.Idx => G (y 0) (y 1)) ((slab i).emb x) := by
  obtain ⟨r, l, rfl⟩ : ∃ (r : Fin 1024) (l : Fin 256), x = ix2 r l := ⟨x 0, x 1, eta2 (n := 1024) (m := 256) x⟩
  exact (hP r l).trans (congrArg (fun y : S1024x3968.Idx => G (y 0) (y 1)) (slab_emb i r l)).symm

theorem last_piece (G : Fin 1024 → Fin 3968 → EReal) (P : Vec Ideal S1024x128 .f32) (hP : ∀ (r : Fin 1024) (l : Fin 128), P (ix2 r l) = G r ⟨3840 + l.val, by omega⟩) (x : lastSlab.shape.Idx) :
    P x = (fun y : S1024x3968.Idx => G (y 0) (y 1)) (lastSlab.emb x) := by
  obtain ⟨r, l, rfl⟩ : ∃ (r : Fin 1024) (l : Fin 128), x = ix2 r l := ⟨x 0, x 1, eta2 (n := 1024) (m := 128) x⟩
  exact (hP r l).trans (congrArg (fun y : S1024x3968.Idx => G (y 0) (y 1)) (last_emb r l)).symm

/-- The rows times the weight columns, at an index of the output block. -/
def prodAt (n : FVec Ideal S1024x1024 .bf16) (w : Fin 1024 → Fin 3968 → EReal) (y : S1024x3968.Idx) : Elt Ideal .f32 := ((∑ k : Fin 1024, n (ix2 (y 0) k) * w k (y 1)) : EReal)

/-- Each slab holds the rows times its columns. -/
theorem slabs16_holds (n : FVec Ideal S1024x1024 .bf16) (W : Fin 15 → Vec Ideal S1024x256 .bf16) (Z : Vec Ideal S1024x128 .bf16) (w : Fin 1024 → Fin 3968 → EReal)
    (hW : ∀ i k (l : Fin 256), W i (ix2 k l) = w k ⟨256 * i.val + l.val, by omega⟩) (hZ : ∀ k (l : Fin 128), Z (ix2 k l) = w k ⟨3840 + l.val, by omega⟩) :
    ∀ p ∈ slabs16 (F := Ideal) n W Z, ∀ x : p.1.shape.Idx, p.2 x = prodAt n w (p.1.emb x) := by
  have hs : ∀ i, ∀ x : (slab i).shape.Idx, slabProd n (W i) x = prodAt n w ((slab i).emb x) := fun i =>
    slab_piece (fun r c => ∑ k : Fin 1024, n (ix2 r k) * w k c) i _ fun r l => (slabProd_apply n (W i) r l).trans (Finset.sum_congr rfl fun k _ => by rw [hW])
  have hz : ∀ x : lastSlab.shape.Idx, lastProd n Z x = prodAt n w (lastSlab.emb x) :=
    last_piece (fun r c => ∑ k : Fin 1024, n (ix2 r k) * w k c) _ fun r l => (lastProd_apply n Z r l).trans (Finset.sum_congr rfl fun k _ => by rw [hZ])
  intro p hp
  simp only [slabs16, List.mem_cons, List.not_mem_nil, or_false] at hp
  rcases hp with rfl | rfl | rfl | rfl | rfl | rfl | rfl | rfl | rfl | rfl | rfl | rfl | rfl | rfl | rfl | rfl
  · exact hz
  · exact hs 14
  · exact hs 13
  · exact hs 12
  · exact hs 11
  · exact hs 10
  · exact hs 9
  · exact hs 8
  · exact hs 7
  · exact hs 6
  · exact hs 5
  · exact hs 4
  · exact hs 3
  · exact hs 2
  · exact hs 1
  · exact hs 0

theorem readBack {S : Shape} {e : EltTy} (a : Memref sig .tc .vmem S e) (ha : a.IsWhole) (x : Vec Ideal S e) (B : Rect S) (j : B.shape.Idx) :
    a.view.readAt (Elt Ideal) B.toLoadRect (ha.unread x) j = x (B.toLoadRect.idx j) :=
  congrFun (ha.read_unread x) (B.toLoadRect.idx j)

/-- What a point leaves in the output block, element by element. -/
theorem block_apply (c : Dev nD) (i : grid0.Coords) (arg1 : Memref sig .tc .vmem S1024x1024 .f32) (harg1 : arg1.IsWhole) (arg2 : Memref sig .tc .vmem S1x9x1024 .f32) (harg2 : arg2.IsWhole) (arg3 : Memref sig .tc .vmem S1x1024 .f32) (harg3 : arg3.IsWhole) (arg4 : Memref sig .tc .vmem S1024x3968 .bf16) (harg4 : arg4.IsWhole) (arg5 : Memref sig .tc .vmem S1024x3968 .f32) (harg5 : arg5.IsWhole)
  (x0 : Vec Ideal S1024x1024 .f32) (x1 : Vec Ideal S1x9x1024 .f32) (x2 : Vec Ideal S1x1024 .f32) (x3 : Vec Ideal S1024x3968 .bf16) (r : Fin 1024) (j : Fin 3968) :
    (out0_A_4 (F := Ideal) c i arg1 harg1 arg2 harg2 arg3 harg3 arg4 harg4 arg5 harg5 x0 x1 x2 x3 (ix2 r j) : EReal) =
      proj (fun k => x0 (ix2 r k)) (fun k => x2 (ix2 0 k)) (fun k => x1 (ix3 0 4 k)) (fun k => x1 (ix3 0 3 k)) (fun k => x3 (ix2 k j)) := by
  have hc := cover0_A_4 (F := Ideal) c i arg1 harg1 arg2 harg2 arg3 harg3 arg4 harg4 arg5 harg5 x0 x1 x2 x3 (ix2 r j)
  unfold out0_A_4
  refine (View.read_writes_junk_apply_eq_canon _ _ _).trans ?_
  rw [stores_eq] at hc ⊢
  refine (View.canon_apply_of_pieces (Val := Elt Ideal) (S := S1024x3968) (e := .f32) (prodAt _ (fun k c => x3 (ix2 k c))) _ (slabs16_holds _ _ _ (fun k c => x3 (ix2 k c)) ?_ ?_) (ix2 r j) hc).trans ?_
  · exact fun i k l => (readBack arg4 harg4 x3 (slab i) _).trans (congrArg x3 (slab_emb i k l))
  · exact fun k l => (readBack arg4 harg4 x3 lastSlab _).trans (congrArg x3 (last_emb k l))
  · unfold prodAt proj
    refine Finset.sum_congr rfl fun k _ => ?_
    refine congrArg (· * x3 (ix2 k j)) ((nrm_apply _ _ _ _ r k).trans ?_)
    have e1 := funext fun k => (readBack arg1 harg1 x0 rowsR _).trans (congrArg x0 (rows_emb r k))
    have e2 := funext fun k => (readBack arg3 harg3 x2 gainR _).trans (congrArg x2 (gain_emb k))
    have e3 := fun q => funext fun k => (readBack arg2 harg2 x1 (modR q) _).trans (congrArg x1 (mod_emb q k))
    rw [e1, e2, e3 4, e3 3]

end Cert.Kernel4Ideal.InProj

end
-- ==== Proof.InProjHost.lean ====
/-
  The input projection's host lines: the weight columns laid out in tiles before the body, and the columns gathered after it.
-/
module

public import proofs.«01_k».proof.Proof.InProjBlock
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.Kernel4Ideal.InProj
open Cert.Kernel4Ideal Cert.Kernel4Ideal.Gen Cert.Rows

/-- 320 columns followed by 64 zero columns. -/
def padCols (x : S1024x320.Idx → EReal) : S1024x384.Idx → EReal :=
  concatenate S1024x384 1 [⟨S1024x320, x⟩, ⟨S1024x64, broadcastInDim S1024x64 ![] bcast_S_S1024x64 (constant (F := Ideal) S_ .f32 0x00000000#32)⟩] concatenates_S1024x320_S1024x64_S1024x384_d1

def zeros24 : S1024x24.Idx → EReal := broadcastInDim S1024x24 ![] bcast_S_S1024x24 (constant (F := Ideal) S_ .f32 0x00000000#32)

/-- The weight columns as they are laid out, with the rotary partner columns `a`, `b` and `d`, which the stated result does not read. -/
def laid (w : S1024x3112.Idx → EReal) (a : S1024x512.Idx → EReal) (b d : S1024x32.Idx → EReal) : S1024x3968.Idx → EReal :=
  concatenate S1024x3968 1 [⟨S1024x384, (extractStridedSlice (α := EReal) S1024x384 ![0, 0] w slices_S1024x3112_S1024x384_0_0 : S1024x384.Idx → EReal)⟩, ⟨S1024x384, (extractStridedSlice (α := EReal) S1024x384 ![0, 384] w slices_S1024x3112_S1024x384_0_384 : S1024x384.Idx → EReal)⟩, ⟨S1024x384, (extractStridedSlice (α := EReal) S1024x384 ![0, 768] w slices_S1024x3112_S1024x384_0_768 : S1024x384.Idx → EReal)⟩, ⟨S1024x384, (padCols (extractStridedSlice (α := EReal) S1024x320 ![0, 1568] w slices_S1024x3112_S1024x320_0_1568) : S1024x384.Idx → EReal)⟩, ⟨S1024x384, (padCols (extractStridedSlice (α := EReal) S1024x320 ![0, 1888] w slices_S1024x3112_S1024x320_0_1888) : S1024x384.Idx → EReal)⟩, ⟨S1024x384, (padCols (extractStridedSlice (α := EReal) S1024x320 ![0, 2208] w slices_S1024x3112_S1024x320_0_2208) : S1024x384.Idx → EReal)⟩, ⟨S1024x256, (extractStridedSlice (α := EReal) S1024x256 ![0, 1152] w slices_S1024x3112_S1024x256_0_1152 : S1024x256.Idx → EReal)⟩, ⟨S1024x512, (extractStridedSlice (α := EReal) S1024x512 ![0, 2528] w slices_S1024x3112_S1024x512_0_2528 : S1024x512.Idx → EReal)⟩, ⟨S1024x512, (a : S1024x512.Idx → EReal)⟩, ⟨S1024x128, (extractStridedSlice (α := EReal) S1024x128 ![0, 1408] w slices_S1024x3112_S1024x128_0_1408 : S1024x128.Idx → EReal)⟩, ⟨S1024x128, ((concatenate S1024x128 1 [⟨S1024x32, b⟩, ⟨S1024x32, concatenate S1024x32 1 [⟨S1024x8, extractStridedSlice (α := EReal) S1024x8 ![0, 3104] w slices_S1024x3112_S1024x8_0_3104⟩, ⟨S1024x24, zeros24⟩] concatenates_S1024x8_S1024x24_S1024x32_d1⟩, ⟨S1024x32, extractStridedSlice (α := EReal) S1024x32 ![0, 1536] w slices_S1024x3112_S1024x32_0_1536⟩, ⟨S1024x32, d⟩] concatenates_S1024x32_S1024x32_S1024x32_S1024x32_S1024x128_d1 : S1024x128.Idx → EReal) : S1024x128.Idx → EReal)⟩, ⟨S1024x128, ((concatenate S1024x128 1 [⟨S1024x64, extractStridedSlice (α := EReal) S1024x64 ![0, 3040] w slices_S1024x3112_S1024x64_0_3040⟩, ⟨S1024x64, extractStridedSlice (α := EReal) S1024x64 ![0, 3040] w slices_S1024x3112_S1024x64_0_3040⟩] concatenates_S1024x64_S1024x64_S1024x128_d1 : S1024x128.Idx → EReal) : S1024x128.Idx → EReal)⟩] concatenates_S1024x384_S1024x384_S1024x384_S1024x384_S1024x384_S1024x384_S1024x256_S1024x512_S1024x512_S1024x128_S1024x128_S1024x128_S1024x3968_d1

/-- The stated result's columns, gathered from the body's. -/
def gathered (Y : S16x2048x3968.Idx → EReal) : S16x2048x3112.Idx → EReal :=
  concatenate S16x2048x3112 2 [⟨S16x2048x384, extractStridedSlice (α := EReal) S16x2048x384 ![0, 0, 0] Y slices_S16x2048x3968_S16x2048x384_0_0_0⟩, ⟨S16x2048x384, extractStridedSlice (α := EReal) S16x2048x384 ![0, 0, 384] Y slices_S16x2048x3968_S16x2048x384_0_0_384⟩, ⟨S16x2048x384, extractStridedSlice (α := EReal) S16x2048x384 ![0, 0, 768] Y slices_S16x2048x3968_S16x2048x384_0_0_768⟩, ⟨S16x2048x256, extractStridedSlice (α := EReal) S16x2048x256 ![0, 0, 2304] Y slices_S16x2048x3968_S16x2048x256_0_0_2304⟩, ⟨S16x2048x128, extractStridedSlice (α := EReal) S16x2048x128 ![0, 0, 3584] Y slices_S16x2048x3968_S16x2048x128_0_0_3584⟩, ⟨S16x2048x32, extractStridedSlice (α := EReal) S16x2048x32 ![0, 0, 3776] Y slices_S16x2048x3968_S16x2048x32_0_0_3776⟩, ⟨S16x2048x320, extractStridedSlice (α := EReal) S16x2048x320 ![0, 0, 1152] Y slices_S16x2048x3968_S16x2048x320_0_0_1152⟩, ⟨S16x2048x320, extractStridedSlice (α := EReal) S16x2048x320 ![0, 0, 1536] Y slices_S16x2048x3968_S16x2048x320_0_0_1536⟩, ⟨S16x2048x320, extractStridedSlice (α := EReal) S16x2048x320 ![0, 0, 1920] Y slices_S16x2048x3968_S16x2048x320_0_0_1920⟩, ⟨S16x2048x512, extractStridedSlice (α := EReal) S16x2048x512 ![0, 0, 2560] Y slices_S16x2048x3968_S16x2048x512_0_0_2560⟩, ⟨S16x2048x64, extractStridedSlice (α := EReal) S16x2048x64 ![0, 0, 3840] Y slices_S16x2048x3968_S16x2048x64_0_0_3840⟩, ⟨S16x2048x8, extractStridedSlice (α := EReal) S16x2048x8 ![0, 0, 3744] Y slices_S16x2048x3968_S16x2048x8_0_0_3744⟩] concatenates_S16x2048x384_S16x2048x384_S16x2048x384_S16x2048x256_S16x2048x128_S16x2048x32_S16x2048x320_S16x2048x320_S16x2048x320_S16x2048x512_S16x2048x64_S16x2048x8_S16x2048x3112_d2

theorem off_axis2 {n m m' : Nat} {k : Fin n} (l : Fin m) (c : Fin m') (b : Fin 2) (hb : b ≠ 1) : (ix2 k l b).val = (ix2 k c b).val := by
  fin_cases b
  · rfl
  · exact absurd rfl hb

theorem off_axis3 {n q m m' : Nat} {i : Fin n} {k : Fin q} (l : Fin m) (c : Fin m') (b : Fin 3) (hb : b ≠ 2) : (ix3 i k l b).val = (ix3 i k c b).val := by
  fin_cases b
  · rfl
  · rfl
  · exact absurd rfl hb

section Columns
variable (w : S1024x3112.Idx → EReal) (a : S1024x512.Idx → EReal) (b d : S1024x32.Idx → EReal)

theorem col0 (k : Fin 1024) (l : Fin 384) : laid w a b d (ix2 k (⟨0 + l.val, by omega⟩ : Fin 3968)) = w (ix2 k (⟨0 + l.val, by omega⟩ : Fin 3112)) := by
  unfold laid
  refine (concatenate_apply_piece (t := S1024x3968) 1 _ _ (ix2 k (⟨0 + l.val, by omega⟩ : Fin 3968)) 0 (by simp) S1024x384 _ rfl rfl 0 rfl (ix2 k (⟨0 + l.val, by omega⟩ : Fin 384)) (off_axis2 _ _) (by show 0 + (0 + l.val) = 0 + l.val; omega)).trans ?_
  pointwise [padCols]
  try split_ifs
  all_goals first
    | omega
    | exact congrArg w (congrArg (ix2 k) (Fin.ext (by dsimp only; omega)))

theorem col1 (k : Fin 1024) (l : Fin 384) : laid w a b d (ix2 k (⟨384 + l.val, by omega⟩ : Fin 3968)) = w (ix2 k (⟨384 + l.val, by omega⟩ : Fin 3112)) := by
  unfold laid
  refine (concatenate_apply_piece (t := S1024x3968) 1 _ _ (ix2 k (⟨384 + l.val, by omega⟩ : Fin 3968)) 1 (by simp) S1024x384 _ rfl rfl 384 rfl (ix2 k (⟨0 + l.val, by omega⟩ : Fin 384)) (off_axis2 _ _) (by show 384 + (0 + l.val) = 384 + l.val; omega)).trans ?_
  pointwise [padCols]
  try split_ifs
  all_goals first
    | omega
    | exact congrArg w (congrArg (ix2 k) (Fin.ext (by dsimp only; omega)))

theorem col2 (k : Fin 1024) (l : Fin 384) : laid w a b d (ix2 k (⟨768 + l.val, by omega⟩ : Fin 3968)) = w (ix2 k (⟨768 + l.val, by omega⟩ : Fin 3112)) := by
  unfold laid
  refine (concatenate_apply_piece (t := S1024x3968) 1 _ _ (ix2 k (⟨768 + l.val, by omega⟩ : Fin 3968)) 2 (by simp) S1024x384 _ rfl rfl 768 rfl (ix2 k (⟨0 + l.val, by omega⟩ : Fin 384)) (off_axis2 _ _) (by show 768 + (0 + l.val) = 768 + l.val; omega)).trans ?_
  pointwise [padCols]
  try split_ifs
  all_goals first
    | omega
    | exact congrArg w (congrArg (ix2 k) (Fin.ext (by dsimp only; omega)))

theorem col3 (k : Fin 1024) (l : Fin 256) : laid w a b d (ix2 k (⟨2304 + l.val, by omega⟩ : Fin 3968)) = w (ix2 k (⟨1152 + l.val, by omega⟩ : Fin 3112)) := by
  unfold laid
  refine (concatenate_apply_piece (t := S1024x3968) 1 _ _ (ix2 k (⟨2304 + l.val, by omega⟩ : Fin 3968)) 6 (by simp) S1024x256 _ rfl rfl 2304 rfl (ix2 k (⟨0 + l.val, by omega⟩ : Fin 256)) (off_axis2 _ _) (by show 2304 + (0 + l.val) = 2304 + l.val; omega)).trans ?_
  pointwise [padCols]
  try split_ifs
  all_goals first
    | omega
    | exact congrArg w (congrArg (ix2 k) (Fin.ext (by dsimp only; omega)))

theorem col4 (k : Fin 1024) (l : Fin 128) : laid w a b d (ix2 k (⟨3584 + l.val, by omega⟩ : Fin 3968)) = w (ix2 k (⟨1408 + l.val, by omega⟩ : Fin 3112)) := by
  unfold laid
  refine (concatenate_apply_piece (t := S1024x3968) 1 _ _ (ix2 k (⟨3584 + l.val, by omega⟩ : Fin 3968)) 9 (by simp) S1024x128 _ rfl rfl 3584 rfl (ix2 k (⟨0 + l.val, by omega⟩ : Fin 128)) (off_axis2 _ _) (by show 3584 + (0 + l.val) = 3584 + l.val; omega)).trans ?_
  pointwise [padCols]
  try split_ifs
  all_goals first
    | omega
    | exact congrArg w (congrArg (ix2 k) (Fin.ext (by dsimp only; omega)))

theorem col5 (k : Fin 1024) (l : Fin 32) : laid w a b d (ix2 k (⟨3776 + l.val, by omega⟩ : Fin 3968)) = w (ix2 k (⟨1536 + l.val, by omega⟩ : Fin 3112)) := by
  unfold laid
  refine (concatenate_apply_piece (t := S1024x3968) 1 _ _ (ix2 k (⟨3776 + l.val, by omega⟩ : Fin 3968)) 10 (by simp) S1024x128 _ rfl rfl 3712 rfl (ix2 k (⟨64 + l.val, by omega⟩ : Fin 128)) (off_axis2 _ _) (by show 3712 + (64 + l.val) = 3776 + l.val; omega)).trans ?_
  refine (concatenate_apply_piece (t := S1024x128) 1 _ _ (ix2 k (⟨64 + l.val, by omega⟩ : Fin 128)) 2 (by simp) S1024x32 _ rfl rfl 64 rfl (ix2 k (⟨0 + l.val, by omega⟩ : Fin 32)) (off_axis2 _ _) (by show 64 + (0 + l.val) = 64 + l.val; omega)).trans ?_
  pointwise [padCols]
  try split_ifs
  all_goals first
    | omega
    | exact congrArg w (congrArg (ix2 k) (Fin.ext (by dsimp only; omega)))

theorem col6 (k : Fin 1024) (l : Fin 320) : laid w a b d (ix2 k (⟨1152 + l.val, by omega⟩ : Fin 3968)) = w (ix2 k (⟨1568 + l.val, by omega⟩ : Fin 3112)) := by
  unfold laid
  refine (concatenate_apply_piece (t := S1024x3968) 1 _ _ (ix2 k (⟨1152 + l.val, by omega⟩ : Fin 3968)) 3 (by simp) S1024x384 _ rfl rfl 1152 rfl (ix2 k (⟨0 + l.val, by omega⟩ : Fin 384)) (off_axis2 _ _) (by show 1152 + (0 + l.val) = 1152 + l.val; omega)).trans ?_
  pointwise [padCols]
  try split_ifs
  all_goals first
    | omega
    | exact congrArg w (congrArg (ix2 k) (Fin.ext (by dsimp only; omega)))

theorem col7 (k : Fin 1024) (l : Fin 320) : laid w a b d (ix2 k (⟨1536 + l.val, by omega⟩ : Fin 3968)) = w (ix2 k (⟨1888 + l.val, by omega⟩ : Fin 3112)) := by
  unfold laid
  refine (concatenate_apply_piece (t := S1024x3968) 1 _ _ (ix2 k (⟨1536 + l.val, by omega⟩ : Fin 3968)) 4 (by simp) S1024x384 _ rfl rfl 1536 rfl (ix2 k (⟨0 + l.val, by omega⟩ : Fin 384)) (off_axis2 _ _) (by show 1536 + (0 + l.val) = 1536 + l.val; omega)).trans ?_
  pointwise [padCols]
  try split_ifs
  all_goals first
    | omega
    | exact congrArg w (congrArg (ix2 k) (Fin.ext (by dsimp only; omega)))

theorem col8 (k : Fin 1024) (l : Fin 320) : laid w a b d (ix2 k (⟨1920 + l.val, by omega⟩ : Fin 3968)) = w (ix2 k (⟨2208 + l.val, by omega⟩ : Fin 3112)) := by
  unfold laid
  refine (concatenate_apply_piece (t := S1024x3968) 1 _ _ (ix2 k (⟨1920 + l.val, by omega⟩ : Fin 3968)) 5 (by simp) S1024x384 _ rfl rfl 1920 rfl (ix2 k (⟨0 + l.val, by omega⟩ : Fin 384)) (off_axis2 _ _) (by show 1920 + (0 + l.val) = 1920 + l.val; omega)).trans ?_
  pointwise [padCols]
  try split_ifs
  all_goals first
    | omega
    | exact congrArg w (congrArg (ix2 k) (Fin.ext (by dsimp only; omega)))

theorem col9 (k : Fin 1024) (l : Fin 512) : laid w a b d (ix2 k (⟨2560 + l.val, by omega⟩ : Fin 3968)) = w (ix2 k (⟨2528 + l.val, by omega⟩ : Fin 3112)) := by
  unfold laid
  refine (concatenate_apply_piece (t := S1024x3968) 1 _ _ (ix2 k (⟨2560 + l.val, by omega⟩ : Fin 3968)) 7 (by simp) S1024x512 _ rfl rfl 2560 rfl (ix2 k (⟨0 + l.val, by omega⟩ : Fin 512)) (off_axis2 _ _) (by show 2560 + (0 + l.val) = 2560 + l.val; omega)).trans ?_
  pointwise [padCols]
  try split_ifs
  all_goals first
    | omega
    | exact congrArg w (congrArg (ix2 k) (Fin.ext (by dsimp only; omega)))

theorem col10 (k : Fin 1024) (l : Fin 64) : laid w a b d (ix2 k (⟨3840 + l.val, by omega⟩ : Fin 3968)) = w (ix2 k (⟨3040 + l.val, by omega⟩ : Fin 3112)) := by
  unfold laid
  refine (concatenate_apply_piece (t := S1024x3968) 1 _ _ (ix2 k (⟨3840 + l.val, by omega⟩ : Fin 3968)) 11 (by simp) S1024x128 _ rfl rfl 3840 rfl (ix2 k (⟨0 + l.val, by omega⟩ : Fin 128)) (off_axis2 _ _) (by show 3840 + (0 + l.val) = 3840 + l.val; omega)).trans ?_
  pointwise [padCols]
  try split_ifs
  all_goals first
    | omega
    | exact congrArg w (congrArg (ix2 k) (Fin.ext (by dsimp only; omega)))

theorem col11 (k : Fin 1024) (l : Fin 8) : laid w a b d (ix2 k (⟨3744 + l.val, by omega⟩ : Fin 3968)) = w (ix2 k (⟨3104 + l.val, by omega⟩ : Fin 3112)) := by
  unfold laid
  refine (concatenate_apply_piece (t := S1024x3968) 1 _ _ (ix2 k (⟨3744 + l.val, by omega⟩ : Fin 3968)) 10 (by simp) S1024x128 _ rfl rfl 3712 rfl (ix2 k (⟨32 + l.val, by omega⟩ : Fin 128)) (off_axis2 _ _) (by show 3712 + (32 + l.val) = 3744 + l.val; omega)).trans ?_
  refine (concatenate_apply_piece (t := S1024x128) 1 _ _ (ix2 k (⟨32 + l.val, by omega⟩ : Fin 128)) 1 (by simp) S1024x32 _ rfl rfl 32 rfl (ix2 k (⟨0 + l.val, by omega⟩ : Fin 32)) (off_axis2 _ _) (by show 32 + (0 + l.val) = 32 + l.val; omega)).trans ?_
  pointwise [padCols]
  try split_ifs
  all_goals first
    | omega
    | exact congrArg w (congrArg (ix2 k) (Fin.ext (by dsimp only; omega)))

theorem gathered0 (Y : S16x2048x3968.Idx → EReal) (b : Fin 16) (t : Fin 2048) (l : Fin 384) : gathered Y (ix3 b t (⟨0 + l.val, by omega⟩ : Fin 3112)) = Y (ix3 b t (⟨0 + l.val, by omega⟩ : Fin 3968)) := by
  unfold gathered
  refine (concatenate_apply_piece (t := S16x2048x3112) 2 _ _ (ix3 b t (⟨0 + l.val, by omega⟩ : Fin 3112)) 0 (by simp) S16x2048x384 _ rfl rfl 0 rfl (ix3 b t l) (off_axis3 _ _) rfl).trans ?_
  pointwise

theorem gathered1 (Y : S16x2048x3968.Idx → EReal) (b : Fin 16) (t : Fin 2048) (l : Fin 384) : gathered Y (ix3 b t (⟨384 + l.val, by omega⟩ : Fin 3112)) = Y (ix3 b t (⟨384 + l.val, by omega⟩ : Fin 3968)) := by
  unfold gathered
  refine (concatenate_apply_piece (t := S16x2048x3112) 2 _ _ (ix3 b t (⟨384 + l.val, by omega⟩ : Fin 3112)) 1 (by simp) S16x2048x384 _ rfl rfl 384 rfl (ix3 b t l) (off_axis3 _ _) rfl).trans ?_
  pointwise

theorem gathered2 (Y : S16x2048x3968.Idx → EReal) (b : Fin 16) (t : Fin 2048) (l : Fin 384) : gathered Y (ix3 b t (⟨768 + l.val, by omega⟩ : Fin 3112)) = Y (ix3 b t (⟨768 + l.val, by omega⟩ : Fin 3968)) := by
  unfold gathered
  refine (concatenate_apply_piece (t := S16x2048x3112) 2 _ _ (ix3 b t (⟨768 + l.val, by omega⟩ : Fin 3112)) 2 (by simp) S16x2048x384 _ rfl rfl 768 rfl (ix3 b t l) (off_axis3 _ _) rfl).trans ?_
  pointwise

theorem gathered3 (Y : S16x2048x3968.Idx → EReal) (b : Fin 16) (t : Fin 2048) (l : Fin 256) : gathered Y (ix3 b t (⟨1152 + l.val, by omega⟩ : Fin 3112)) = Y (ix3 b t (⟨2304 + l.val, by omega⟩ : Fin 3968)) := by
  unfold gathered
  refine (concatenate_apply_piece (t := S16x2048x3112) 2 _ _ (ix3 b t (⟨1152 + l.val, by omega⟩ : Fin 3112)) 3 (by simp) S16x2048x256 _ rfl rfl 1152 rfl (ix3 b t l) (off_axis3 _ _) rfl).trans ?_
  pointwise

theorem gathered4 (Y : S16x2048x3968.Idx → EReal) (b : Fin 16) (t : Fin 2048) (l : Fin 128) : gathered Y (ix3 b t (⟨1408 + l.val, by omega⟩ : Fin 3112)) = Y (ix3 b t (⟨3584 + l.val, by omega⟩ : Fin 3968)) := by
  unfold gathered
  refine (concatenate_apply_piece (t := S16x2048x3112) 2 _ _ (ix3 b t (⟨1408 + l.val, by omega⟩ : Fin 3112)) 4 (by simp) S16x2048x128 _ rfl rfl 1408 rfl (ix3 b t l) (off_axis3 _ _) rfl).trans ?_
  pointwise

theorem gathered5 (Y : S16x2048x3968.Idx → EReal) (b : Fin 16) (t : Fin 2048) (l : Fin 32) : gathered Y (ix3 b t (⟨1536 + l.val, by omega⟩ : Fin 3112)) = Y (ix3 b t (⟨3776 + l.val, by omega⟩ : Fin 3968)) := by
  unfold gathered
  refine (concatenate_apply_piece (t := S16x2048x3112) 2 _ _ (ix3 b t (⟨1536 + l.val, by omega⟩ : Fin 3112)) 5 (by simp) S16x2048x32 _ rfl rfl 1536 rfl (ix3 b t l) (off_axis3 _ _) rfl).trans ?_
  pointwise

theorem gathered6 (Y : S16x2048x3968.Idx → EReal) (b : Fin 16) (t : Fin 2048) (l : Fin 320) : gathered Y (ix3 b t (⟨1568 + l.val, by omega⟩ : Fin 3112)) = Y (ix3 b t (⟨1152 + l.val, by omega⟩ : Fin 3968)) := by
  unfold gathered
  refine (concatenate_apply_piece (t := S16x2048x3112) 2 _ _ (ix3 b t (⟨1568 + l.val, by omega⟩ : Fin 3112)) 6 (by simp) S16x2048x320 _ rfl rfl 1568 rfl (ix3 b t l) (off_axis3 _ _) rfl).trans ?_
  pointwise

theorem gathered7 (Y : S16x2048x3968.Idx → EReal) (b : Fin 16) (t : Fin 2048) (l : Fin 320) : gathered Y (ix3 b t (⟨1888 + l.val, by omega⟩ : Fin 3112)) = Y (ix3 b t (⟨1536 + l.val, by omega⟩ : Fin 3968)) := by
  unfold gathered
  refine (concatenate_apply_piece (t := S16x2048x3112) 2 _ _ (ix3 b t (⟨1888 + l.val, by omega⟩ : Fin 3112)) 7 (by simp) S16x2048x320 _ rfl rfl 1888 rfl (ix3 b t l) (off_axis3 _ _) rfl).trans ?_
  pointwise

theorem gathered8 (Y : S16x2048x3968.Idx → EReal) (b : Fin 16) (t : Fin 2048) (l : Fin 320) : gathered Y (ix3 b t (⟨2208 + l.val, by omega⟩ : Fin 3112)) = Y (ix3 b t (⟨1920 + l.val, by omega⟩ : Fin 3968)) := by
  unfold gathered
  refine (concatenate_apply_piece (t := S16x2048x3112) 2 _ _ (ix3 b t (⟨2208 + l.val, by omega⟩ : Fin 3112)) 8 (by simp) S16x2048x320 _ rfl rfl 2208 rfl (ix3 b t l) (off_axis3 _ _) rfl).trans ?_
  pointwise

theorem gathered9 (Y : S16x2048x3968.Idx → EReal) (b : Fin 16) (t : Fin 2048) (l : Fin 512) : gathered Y (ix3 b t (⟨2528 + l.val, by omega⟩ : Fin 3112)) = Y (ix3 b t (⟨2560 + l.val, by omega⟩ : Fin 3968)) := by
  unfold gathered
  refine (concatenate_apply_piece (t := S16x2048x3112) 2 _ _ (ix3 b t (⟨2528 + l.val, by omega⟩ : Fin 3112)) 9 (by simp) S16x2048x512 _ rfl rfl 2528 rfl (ix3 b t l) (off_axis3 _ _) rfl).trans ?_
  pointwise

theorem gathered10 (Y : S16x2048x3968.Idx → EReal) (b : Fin 16) (t : Fin 2048) (l : Fin 64) : gathered Y (ix3 b t (⟨3040 + l.val, by omega⟩ : Fin 3112)) = Y (ix3 b t (⟨3840 + l.val, by omega⟩ : Fin 3968)) := by
  unfold gathered
  refine (concatenate_apply_piece (t := S16x2048x3112) 2 _ _ (ix3 b t (⟨3040 + l.val, by omega⟩ : Fin 3112)) 10 (by simp) S16x2048x64 _ rfl rfl 3040 rfl (ix3 b t l) (off_axis3 _ _) rfl).trans ?_
  pointwise

theorem gathered11 (Y : S16x2048x3968.Idx → EReal) (b : Fin 16) (t : Fin 2048) (l : Fin 8) : gathered Y (ix3 b t (⟨3104 + l.val, by omega⟩ : Fin 3112)) = Y (ix3 b t (⟨3744 + l.val, by omega⟩ : Fin 3968)) := by
  unfold gathered
  refine (concatenate_apply_piece (t := S16x2048x3112) 2 _ _ (ix3 b t (⟨3104 + l.val, by omega⟩ : Fin 3112)) 11 (by simp) S16x2048x8 _ rfl rfl 3104 rfl (ix3 b t l) (off_axis3 _ _) rfl).trans ?_
  pointwise

end Columns

section Lines
variable (m : (ℓ : Loc nD τ sig) → Buf (Elt Ideal) ℓ)

theorem V0_eq (c : Dev nD) : V m c main_v0 = shapeCast S32768x1024 (m ((c : Thread nD τ).loc main_arg0)) shapeCasts_S16x2048x1024_S32768x1024 := by
  show StableHlo.after hostOps0 (fun b => m (c, b)) (Proc.devRef .tc main_v0) = _
  after_reads_simp
  rfl

theorem V1_eq (c : Dev nD) : V m c main_v1 = shapeCast S16x9x1024 (m ((c : Thread nD τ).loc main_arg1)) shapeCasts_S16x9216_S16x9x1024 := by
  show StableHlo.after hostOps0 (fun b => m (c, b)) (Proc.devRef .tc main_v1) = _
  after_reads_simp
  rfl

theorem V2_eq (c : Dev nD) : V m c main_v2 = shapeCast S1x1024 (m ((c : Thread nD τ).loc main_arg2)) shapeCasts_S1024_S1x1024 := by
  show StableHlo.after hostOps0 (fun b => m (c, b)) (Proc.devRef .tc main_v2) = _
  after_reads_simp
  rfl

set_option maxHeartbeats 1600000 in
theorem V47_eq (c : Dev nD) : ∃ a b d, V m c main_v47 = laid (m ((c : Thread nD τ).loc main_arg3)) a b d := by
  show ∃ a b d, StableHlo.after hostOps0 (fun b => m (c, b)) (Proc.devRef .tc main_v47) = _
  after_reads_simp
  exact ⟨_, _, _, rfl⟩

/-- What the lines after the body leave in the result buffer. -/
theorem tail_eq (c : Dev nD) : Pipeline.afterTail₀ cfgs (dats m) 0 (V0 m) [hostOps1] c main_v62 =
    gathered (shapeCast S16x2048x3968 ((dats m 0 c).arrAt 4 cfg0.N) shapeCasts_S32768x3968_S16x2048x3968) := by
  have h : Pipeline.withArrays (cfgs 0).spec c (V0 m c) (fun w => (dats m 0 c).arrAt w (cfgs 0).N) (Proc.devRef .tc main_v48) = (dats m 0 c).arrAt 4 cfg0.N :=
    Pipeline.withArrays_arr (cfgs 0).spec (by decide) c (V0 m c) (fun w => (dats m 0 c).arrAt w (cfgs 0).N) 4
  unfold Pipeline.afterTail₀
  generalize Pipeline.withArrays (cfgs 0).spec c (V0 m c) (fun w => (dats m 0 c).arrAt w (cfgs 0).N) = U at h ⊢
  rw [← h]
  show StableHlo.after hostOps1 U (Proc.devRef .tc main_v62) = _
  after_reads_simp
  rfl
end Lines

end Cert.Kernel4Ideal.InProj

end
-- ==== Proof.InProj.lean ====
/-
  The input projection: the kernel's result is the reference's.
-/
module

public import proofs.«01_k».proof.Proof.InProjHost
public import proofs.«01_k».proof.Proof.Gen.Reference4Ideal.Read
public import proofs.«01_k».proof.Proof.Gen.Reference4Ideal.Run

@[expose] public section

set_option maxRecDepth 16384

noncomputable section

open Idealize.ShloMosaic Idealize.ShloMosaic.TcCoe Idealize.SL.Sem
open Idealize.ShloMosaic.Pipeline (Dat)

namespace Cert.Kernel4Ideal.InProj
open Cert.Kernel4Ideal Cert.Kernel4Ideal.Gen Cert.Rows

variable (m : (ℓ : Loc nD τ sig) → Buf (Elt Ideal) ℓ)

theorem pos0 : ∀ t : Fin grid0.N, win0_0.index t 0 = t.val ∧ win0_0.index t 1 = 0 := by decide +kernel
theorem pos1 : ∀ t : Fin grid0.N, win0_1.index t 0 = t.val / 2 ∧ win0_1.index t 1 = 0 ∧ win0_1.index t 2 = 0 := by decide +kernel
theorem pos2 : ∀ t : Fin grid0.N, win0_2.index t 0 = 0 ∧ win0_2.index t 1 = 0 := by decide +kernel
theorem pos3 : ∀ t : Fin grid0.N, win0_3.index t 0 = 0 ∧ win0_3.index t 1 = 0 := by decide +kernel
theorem pos4 : ∀ t : Fin grid0.N, win0_4.index t 0 = t.val ∧ win0_4.index t 1 = 0 := by decide +kernel

theorem iblk0_apply (c : Dev nD) (t : Fin grid0.N) (r k : Fin 1024) (i : S32768x1024.Idx) (h0 : (i 0).val = 1024 * t.val + r.val) (h1 : (i 1).val = k.val) :
    iblk m c 0 t (ix2 r k) = V m c main_v0 i := by
  show V m c main_v0 ((win0_0.rect t).emb (ix2 r k)) = _
  refine congrArg _ (funext fun a => Fin.ext ?_)
  rw [Pipeline.Window.rect_emb_val win0_0]
  fin_cases a
  · show win0_0.index t 0 * 1024 + r.val = (i 0).val
    rw [(pos0 t).1]; omega
  · show win0_0.index t 1 * 1024 + k.val = (i 1).val
    rw [(pos0 t).2]; omega

theorem iblk1_apply (c : Dev nD) (t : Fin grid0.N) (q : Fin 9) (k : Fin 1024) (b : Fin 16) (hb : b.val = t.val / 2) :
    iblk m c 1 t (ix3 0 q k) = V m c main_v1 (ix3 b q k) := by
  show V m c main_v1 ((win0_1.rect t).emb (ix3 0 q k)) = _
  refine congrArg _ (funext fun a => Fin.ext ?_)
  rw [Pipeline.Window.rect_emb_val win0_1]
  fin_cases a
  · show win0_1.index t 0 * 1 + 0 = b.val
    rw [(pos1 t).1]; omega
  · show win0_1.index t 1 * 9 + q.val = q.val
    rw [(pos1 t).2.1]; omega
  · show win0_1.index t 2 * 1024 + k.val = k.val
    rw [(pos1 t).2.2]; omega

theorem iblk2_apply (c : Dev nD) (t : Fin grid0.N) (k : Fin 1024) : iblk m c 2 t (ix2 0 k) = V m c main_v2 (ix2 0 k) := by
  show V m c main_v2 ((win0_2.rect t).emb (ix2 0 k)) = _
  refine congrArg _ (funext fun a => Fin.ext ?_)
  rw [Pipeline.Window.rect_emb_val win0_2]
  fin_cases a
  · show win0_2.index t 0 * 1 + 0 = 0
    rw [(pos2 t).1]
  · show win0_2.index t 1 * 1024 + k.val = k.val
    rw [(pos2 t).2]; omega

theorem iblk3_apply (c : Dev nD) (t : Fin grid0.N) (k : Fin 1024) (f : Fin 3968) : iblk m c 3 t (ix2 k f) = V m c main_v47 (ix2 k f) := by
  show V m c main_v47 ((win0_3.rect t).emb (ix2 k f)) = _
  refine congrArg _ (funext fun a => Fin.ext ?_)
  rw [Pipeline.Window.rect_emb_val win0_3]
  fin_cases a
  · show win0_3.index t 0 * 1024 + k.val = k.val
    rw [(pos3 t).1]; omega
  · show win0_3.index t 1 * 3968 + f.val = f.val
    rw [(pos3 t).2]; omega

/-- The token rows of a batch, read in one line of rows. -/
theorem rows_apply (X : S16x2048x1024.Idx → EReal) (b : Fin 16) (t : Fin 2048) (k : Fin 1024) (i : S32768x1024.Idx) (h0 : (i 0).val = 2048 * b.val + t.val) (h1 : (i 1).val = k.val) :
    shapeCast S32768x1024 X shapeCasts_S16x2048x1024_S32768x1024 i = X (ix3 b t k) := by
  refine shapeCast_apply _ _ _ _ ?_
  rw [Shape.rowMajor_val_two, Shape.rowMajor_val_three]
  show (b.val * 2048 + t.val) * 1024 + k.val = (i 0).val * 1024 + (i 1).val
  omega

/-- The nine modulation vectors of a batch, read as rows. -/
theorem mods_apply (X : S16x9216.Idx → EReal) (b : Fin 16) (q : Fin 9) (k : Fin 1024) (f : Fin 9216) (hf : f.val = 1024 * q.val + k.val) :
    shapeCast S16x9x1024 X shapeCasts_S16x9216_S16x9x1024 (ix3 b q k) = X (ix2 b f) := by
  refine shapeCast_apply _ _ _ _ ?_
  rw [Shape.rowMajor_val_two, Shape.rowMajor_val_three]
  show b.val * 9216 + f.val = (b.val * 9 + q.val) * 1024 + k.val
  omega

/-- The body's rows, read by batch and token. -/
theorem out_rows_apply (Y : S32768x3968.Idx → EReal) (b : Fin 16) (t : Fin 2048) (j : Fin 3968) :
    shapeCast S16x2048x3968 Y shapeCasts_S32768x3968_S16x2048x3968 (ix3 b t j) = Y (ix2 (⟨2048 * b.val + t.val, by omega⟩ : Fin 32768) j) := by
  refine shapeCast_apply _ _ _ _ ?_
  rw [Shape.rowMajor_val_two, Shape.rowMajor_val_three]
  show (2048 * b.val + t.val) * 3968 + j.val = (b.val * 2048 + t.val) * 3968 + j.val
  omega

/-- Different points write different blocks. -/
theorem apart (t t' : Fin cfg0.N) (h : t ≠ t') : Disjoint ((cfg0.win 4).blk t).view.set ((cfg0.win 4).blk t').view.set :=
  (cfg0.win 4).disjoint_blk fun e => h ((by decide +kernel : ∀ t t' : Fin grid0.N, win0_4.index t = win0_4.index t' → t = t') t t' e)

/-- The body's result array at row `1024·t + r`: the projection of that token's row. -/
theorem arr_apply (c : Dev nD) (t : Fin grid0.N) (r : Fin 1024) (j : Fin 3968) (b : Fin 16) (s : Fin 2048) (hb : b.val = t.val / 2) (hs : 2048 * b.val + s.val = 1024 * t.val + r.val)
    (i : S32768x3968.Idx) (h0 : (i 0).val = 1024 * t.val + r.val) (h1 : (i 1).val = j.val) :
    ((dats m 0 c).arrAt 4 cfg0.N i : EReal) =
      proj (fun k => m ((c : Thread nD τ).loc main_arg0) (ix3 b s k)) (fun k => m ((c : Thread nD τ).loc main_arg2) (ix1 k))
        (fun k => m ((c : Thread nD τ).loc main_arg1) (ix2 b ⟨4096 + k.val, by omega⟩)) (fun k => m ((c : Thread nD τ).loc main_arg1) (ix2 b ⟨3072 + k.val, by omega⟩))
        (fun k => V m c main_v47 (ix2 k j)) := by
  have hfl : (dats m 0 c).flushed 4 t (ix2 r j) = (dats m 0 c).arrAt 4 cfg0.N i := by
    rw [← (dats m 0 c).read_blk_arrAt_eq_flushed 4 (fun t t' _ _ h => apart t t' h) cfg0.N t t.isLt (flush0_4 t)]
    show (dats m 0 c).arrAt 4 cfg0.N ((win0_4.rect t).emb (ix2 r j)) = _
    refine congrArg _ (funext fun a => Fin.ext ?_)
    rw [Pipeline.Window.rect_emb_val win0_4]
    fin_cases a
    · show win0_4.index t 0 * 1024 + r.val = (i 0).val
      rw [(pos4 t).1]; omega
    · show win0_4.index t 1 * 3968 + j.val = (i 1).val
      rw [(pos4 t).2]; omega
  have hout : (dats m 0 c).flushed 4 t = (cfg0.win 4).cut (grid0.coords t) (outsAt0 m c t) := by
    show (cfg0.win 4).cut (grid0.coords t) ((dats m 0 c).after 4 t) = _
    rw [after0_4]
  rw [← hfl, hout]
  unfold outsAt0
  refine (block_apply _ _ _ _ _ _ _ _ _ _ _ _ _ _ _ _ r j).trans ?_
  refine proj_congr ?_ ?_ ?_ ?_ ?_
  · intro k
    exact (iblk0_apply m c t r k (ix2 ⟨1024 * t.val + r.val, by have := t.isLt; have : grid0.N = 32 := rfl; omega⟩ k) rfl rfl).trans ((congrFun (V0_eq m c) _).trans (rows_apply _ b s k _ hs.symm rfl))
  · intro k
    refine (iblk2_apply m c t k).trans ((congrFun (V2_eq m c) _).trans ?_)
    pointwise
  · intro k
    exact (iblk1_apply m c t 4 k b hb).trans ((congrFun (V1_eq m c) _).trans (mods_apply _ b 4 k _ rfl))
  · intro k
    exact (iblk1_apply m c t 3 k b hb).trans ((congrFun (V1_eq m c) _).trans (mods_apply _ b 3 k _ rfl))
  · intro k
    exact iblk3_apply m c t k j

end Cert.Kernel4Ideal.InProj

namespace Cert.Reference4Ideal.InProj
open Cert.Reference4Ideal Cert.Reference4Ideal.Gen Cert.Reference4Ideal.Read Cert.Rows

theorem nrm_apply (x0 : (⟨S16x2048x1024, .f32⟩ : BufTy).Contents (Elt Ideal)) (x1 : (⟨S16x9216, .f32⟩ : BufTy).Contents (Elt Ideal)) (x2 : (⟨S1024, .f32⟩ : BufTy).Contents (Elt Ideal)) (b : Fin 16) (t : Fin 2048) (j : Fin 1024) :
    (val_main_v29 (F := Ideal) x0 x1 x2 (ix3 b t j) : EReal) = nrm (fun k => x0 (ix3 b t k)) (fun k => x2 (ix1 k)) (fun k => x1 (ix2 b ⟨4096 + k.val, by omega⟩)) (fun k => x1 (ix2 b ⟨3072 + k.val, by omega⟩)) j := by
  unfold nrm
  pointwise [val_main_v3, val_main_v4, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_cst, val_main_cst_0, val_main_cst_1, val_main_cst_2]

/-- The reference's result, element by element. -/
theorem result_apply (x0 : (⟨S16x2048x1024, .f32⟩ : BufTy).Contents (Elt Ideal)) (x1 : (⟨S16x9216, .f32⟩ : BufTy).Contents (Elt Ideal)) (x2 : (⟨S1024, .f32⟩ : BufTy).Contents (Elt Ideal)) (x3 : (⟨S1024x3112, .f32⟩ : BufTy).Contents (Elt Ideal)) (b : Fin 16) (t : Fin 2048) (j : Fin 3112) :
    (val_main_v30 (F := Ideal) x0 x1 x2 x3 (ix3 b t j) : EReal) = Cert.Kernel4Ideal.InProj.proj (fun k => x0 (ix3 b t k)) (fun k => x2 (ix1 k)) (fun k => x1 (ix2 b ⟨4096 + k.val, by omega⟩)) (fun k => x1 (ix2 b ⟨3072 + k.val, by omega⟩)) (fun k => x3 (ix2 k j)) := by
  unfold Cert.Kernel4Ideal.InProj.proj
  pointwise [val_main_v30]
  simp only [nrm_apply]

end Cert.Reference4Ideal.InProj

namespace Cert.Kernel4Ideal.InProj
open Cert.Kernel4Ideal Cert.Kernel4Ideal.Gen Cert.Rows

variable (m : (ℓ : Loc nD τ sig) → Buf (Elt Ideal) ℓ)

/-- A column of the body's result, laid where the weights hold the reference's column. -/
theorem column (c : Dev nD) (a : S1024x512.Idx → EReal) (p q : S1024x32.Idx → EReal) (hw : V m c main_v47 = laid (m ((c : Thread nD τ).loc main_arg3)) a p q) (b : Fin 16) (s : Fin 2048) (j : Fin 3968) (f : Fin 3112)
    (h : ∀ k : Fin 1024, laid (m ((c : Thread nD τ).loc main_arg3)) a p q (ix2 k j) = m ((c : Thread nD τ).loc main_arg3) (ix2 k f)) :
    shapeCast S16x2048x3968 ((dats m 0 c).arrAt 4 cfg0.N) shapeCasts_S32768x3968_S16x2048x3968 (ix3 b s j) =
      Cert.Reference4Ideal.Read.val_main_v30 (F := Ideal) (m ((c : Thread nD τ).loc main_arg0)) (m ((c : Thread nD τ).loc main_arg1)) (m ((c : Thread nD τ).loc main_arg2)) (m ((c : Thread nD τ).loc main_arg3)) (ix3 b s f) := by
  have hN : grid0.N = 32 := rfl
  refine (out_rows_apply _ b s j).trans ?_
  refine Eq.trans ?_ (Cert.Reference4Ideal.InProj.result_apply _ _ _ _ b s f).symm
  refine (arr_apply m c ⟨(2048 * b.val + s.val) / 1024, by omega⟩ ⟨(2048 * b.val + s.val) % 1024, by omega⟩ j b s ?_ ?_ _ ?_ rfl).trans ?_
  · show b.val = (2048 * b.val + s.val) / 1024 / 2; omega
  · show 2048 * b.val + s.val = 1024 * ((2048 * b.val + s.val) / 1024) + (2048 * b.val + s.val) % 1024; omega
  · show 2048 * b.val + s.val = 1024 * ((2048 * b.val + s.val) / 1024) + (2048 * b.val + s.val) % 1024; omega
  · exact proj_congr (fun _ => rfl) (fun _ => rfl) (fun _ => rfl) (fun _ => rfl) fun k => (congrFun hw _).trans (h k)

theorem eta3 {n q m : Nat} (x : (⟨3, ![n, q, m]⟩ : Shape).Idx) : x = ix3 (x 0 : Fin n) (x 1 : Fin q) (x 2 : Fin m) := by
  funext a
  fin_cases a <;> rfl

/-- What the host lines leave in the result buffer is the reference's result of the same arguments. -/
theorem result_eq (c : Dev nD) : gathered (shapeCast S16x2048x3968 ((dats m 0 c).arrAt 4 cfg0.N) shapeCasts_S32768x3968_S16x2048x3968) =
    Cert.Reference4Ideal.Read.val_main_v30 (F := Ideal) (m ((c : Thread nD τ).loc main_arg0)) (m ((c : Thread nD τ).loc main_arg1)) (m ((c : Thread nD τ).loc main_arg2)) (m ((c : Thread nD τ).loc main_arg3)) := by
  obtain ⟨a, p, q, hw⟩ := V47_eq m c
  funext i
  obtain ⟨b, s, j, rfl⟩ : ∃ (b : Fin 16) (s : Fin 2048) (j : Fin 3112), i = ix3 b s j := ⟨i 0, i 1, i 2, eta3 (n := 16) (q := 2048) (m := 3112) i⟩
  by_cases h0 : j.val < 384
  · obtain ⟨l, hl⟩ : ∃ l : Fin 384, j.val = 0 + l.val := ⟨⟨j.val - 0, by omega⟩, by show j.val = 0 + (j.val - 0); omega⟩
    rw [show j = ⟨0 + l.val, hl ▸ j.isLt⟩ from Fin.ext hl]
    exact (gathered0 _ b s l).trans (column m c a p q hw b s _ _ fun k => col0 _ a p q k l)
  by_cases h1 : j.val < 768
  · obtain ⟨l, hl⟩ : ∃ l : Fin 384, j.val = 384 + l.val := ⟨⟨j.val - 384, by omega⟩, by show j.val = 384 + (j.val - 384); omega⟩
    rw [show j = ⟨384 + l.val, hl ▸ j.isLt⟩ from Fin.ext hl]
    exact (gathered1 _ b s l).trans (column m c a p q hw b s _ _ fun k => col1 _ a p q k l)
  by_cases h2 : j.val < 1152
  · obtain ⟨l, hl⟩ : ∃ l : Fin 384, j.val = 768 + l.val := ⟨⟨j.val - 768, by omega⟩, by show j.val = 768 + (j.val - 768); omega⟩
    rw [show j = ⟨768 + l.val, hl ▸ j.isLt⟩ from Fin.ext hl]
    exact (gathered2 _ b s l).trans (column m c a p q hw b s _ _ fun k => col2 _ a p q k l)
  by_cases h3 : j.val < 1408
  · obtain ⟨l, hl⟩ : ∃ l : Fin 256, j.val = 1152 + l.val := ⟨⟨j.val - 1152, by omega⟩, by show j.val = 1152 + (j.val - 1152); omega⟩
    rw [show j = ⟨1152 + l.val, hl ▸ j.isLt⟩ from Fin.ext hl]
    exact (gathered3 _ b s l).trans (column m c a p q hw b s _ _ fun k => col3 _ a p q k l)
  by_cases h4 : j.val < 1536
  · obtain ⟨l, hl⟩ : ∃ l : Fin 128, j.val = 1408 + l.val := ⟨⟨j.val - 1408, by omega⟩, by show j.val = 1408 + (j.val - 1408); omega⟩
    rw [show j = ⟨1408 + l.val, hl ▸ j.isLt⟩ from Fin.ext hl]
    exact (gathered4 _ b s l).trans (column m c a p q hw b s _ _ fun k => col4 _ a p q k l)
  by_cases h5 : j.val < 1568
  · obtain ⟨l, hl⟩ : ∃ l : Fin 32, j.val = 1536 + l.val := ⟨⟨j.val - 1536, by omega⟩, by show j.val = 1536 + (j.val - 1536); omega⟩
    rw [show j = ⟨1536 + l.val, hl ▸ j.isLt⟩ from Fin.ext hl]
    exact (gathered5 _ b s l).trans (column m c a p q hw b s _ _ fun k => col5 _ a p q k l)
  by_cases h6 : j.val < 1888
  · obtain ⟨l, hl⟩ : ∃ l : Fin 320, j.val = 1568 + l.val := ⟨⟨j.val - 1568, by omega⟩, by show j.val = 1568 + (j.val - 1568); omega⟩
    rw [show j = ⟨1568 + l.val, hl ▸ j.isLt⟩ from Fin.ext hl]
    exact (gathered6 _ b s l).trans (column m c a p q hw b s _ _ fun k => col6 _ a p q k l)
  by_cases h7 : j.val < 2208
  · obtain ⟨l, hl⟩ : ∃ l : Fin 320, j.val = 1888 + l.val := ⟨⟨j.val - 1888, by omega⟩, by show j.val = 1888 + (j.val - 1888); omega⟩
    rw [show j = ⟨1888 + l.val, hl ▸ j.isLt⟩ from Fin.ext hl]
    exact (gathered7 _ b s l).trans (column m c a p q hw b s _ _ fun k => col7 _ a p q k l)
  by_cases h8 : j.val < 2528
  · obtain ⟨l, hl⟩ : ∃ l : Fin 320, j.val = 2208 + l.val := ⟨⟨j.val - 2208, by omega⟩, by show j.val = 2208 + (j.val - 2208); omega⟩
    rw [show j = ⟨2208 + l.val, hl ▸ j.isLt⟩ from Fin.ext hl]
    exact (gathered8 _ b s l).trans (column m c a p q hw b s _ _ fun k => col8 _ a p q k l)
  by_cases h9 : j.val < 3040
  · obtain ⟨l, hl⟩ : ∃ l : Fin 512, j.val = 2528 + l.val := ⟨⟨j.val - 2528, by omega⟩, by show j.val = 2528 + (j.val - 2528); omega⟩
    rw [show j = ⟨2528 + l.val, hl ▸ j.isLt⟩ from Fin.ext hl]
    exact (gathered9 _ b s l).trans (column m c a p q hw b s _ _ fun k => col9 _ a p q k l)
  by_cases h10 : j.val < 3104
  · obtain ⟨l, hl⟩ : ∃ l : Fin 64, j.val = 3040 + l.val := ⟨⟨j.val - 3040, by omega⟩, by show j.val = 3040 + (j.val - 3040); omega⟩
    rw [show j = ⟨3040 + l.val, hl ▸ j.isLt⟩ from Fin.ext hl]
    exact (gathered10 _ b s l).trans (column m c a p q hw b s _ _ fun k => col10 _ a p q k l)
  obtain ⟨l, hl⟩ : ∃ l : Fin 8, j.val = 3104 + l.val := ⟨⟨j.val - 3104, by omega⟩, by show j.val = 3104 + (j.val - 3104); omega⟩
  rw [show j = ⟨3104 + l.val, hl ▸ j.isLt⟩ from Fin.ext hl]
  exact (gathered11 _ b s l).trans (column m c a p q hw b s _ _ fun k => col11 _ a p q k l)

/-- Every execution ends with the result buffer at the gathered columns and the arguments as launched. -/
theorem run (g : Dev nD → PrngReg) : θ_run defs (onTc (τ := τ) (main (F := Ideal))) ⟨m, fun _ => 0, g⟩ (fun r => ∀ c : Dev nD,
      r.2.mem ((c.tc : Thread nD τ).loc main_v62) = gathered (shapeCast S16x2048x3968 ((dats m 0 c).arrAt 4 cfg0.N) shapeCasts_S32768x3968_S16x2048x3968)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_mono (θ_run_and (run_main m g) (unchanged m g)) fun r h c =>
    ⟨((h.1 c).2 main_v62 (Pipeline.mem_restRefs_of main_v62 (by decide) (by decide))).trans (tail_eq m c), h.2 c⟩

end Cert.Kernel4Ideal.InProj

end
-- ==== Proof.MlaAttn.lean ====
/-
  One query block of the latent attention: its operations over 256, 512, ..., 2048 keys, and what they compute at an index.
-/
module

public import proofs.«01_k».proof.Proof.Gen.KernelIdeal.Value
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.KernelIdeal.Mla
open Cert.KernelIdeal Cert.KernelIdeal.Gen

variable {F : FTy → Type} [FloatOps F] [Named F]

/-- The lower triangle of a square block. -/
def tri : IVec S256x256 1 := cmpi .sle (iota .tc S256x256 32 [1] iota_S256x256_d1_w32) (iota .tc S256x256 32 [0] iota_S256x256_d0_w32)

/-- The lanes that carry a head's values. -/
def low : IVec S256x128 1 := cmpi .slt (iota .tc S256x128 32 [1] iota_S256x128_d1_w32) (broadcast S256x128 64#32)

/-- A logit, or the mask where the key comes after the query. -/
def maskE {n : Nat} (x : Fin n → EReal) (t : Nat) (j : Fin n) : EReal :=
  if j.val ≤ t then x j else Named.named (F := Ideal) κ "mask" (φ := .f32) 0xF149F2CA#32

/-- A numerator of the row's softmax. -/
def numE {n : Nat} (x : Fin n → EReal) (t : Nat) (j : Fin n) : EReal :=
  Ideal.exp2 ((maskE x t j - Finset.fold max (Ideal.ofBits .f32 0xFF800000#32) (maskE x t) Finset.univ) * Named.named (F := Ideal) κ "scale2" (φ := .f32) 0x3E16C740#32)

/-- The weighted values of a lane over those of its partner lane, zero on the lanes past the head. -/
def ratioE {n : Nat} (e : Fin n → EReal) (v : Fin n → Fin 128 → EReal) (l : Fin 128) : EReal :=
  if l.val < 64 then Ideal.div (∑ j, e j * v j l) (∑ j, e j * v j ⟨(l.val + 128 - 64) % 128, Nat.mod_lt _ (by norm_num)⟩) else 0

theorem ratioE_congr {n : Nat} {e e' : Fin n → EReal} {v : Fin n → Fin 128 → EReal} (h : ∀ j, e j = e' j) (l : Fin 128) : ratioE e v l = ratioE e' v l := by
  obtain rfl := funext h
  rfl

/-- One query's head from its lanes, the keys' and the values'. -/
def attnE {n : Nat} (q : Fin 128 → EReal) (k v : Fin n → Fin 128 → EReal) (t : Nat) (l : Fin 128) : EReal :=
  ratioE (numE (fun j => ∑ d : Fin 128, q d * k j d) t) v l

theorem sel_low {α : Type} (l : Fin 128) (x y : α) :
    Scalar.select (IntOp.cmpi CmpIPredicate.slt (BitVec.ofNat 32 l.val) 64#32) x y = if l.val < 64 then x else y := by
  have h : IntOp.cmpi CmpIPredicate.slt (BitVec.ofNat 32 l.val) 64#32 = BitVec.ofBool (decide (l.val < 64)) :=
    WordCmp.cmpi_slt_ofNat (by have := l.isLt; norm_num; omega) (by norm_num)
  rw [h]
  by_cases hl : l.val < 64 <;> simp [Scalar.select, hl]

theorem sel_le {α : Type} (a b : Nat) (ha : a < 2048) (hb : b < 2048) (x y : α) :
    Scalar.select (IntOp.cmpi CmpIPredicate.sle (BitVec.ofNat 32 a) (BitVec.ofNat 32 b)) x y = if a ≤ b then x else y := by
  have h : IntOp.cmpi CmpIPredicate.sle (BitVec.ofNat 32 a) (BitVec.ofNat 32 b) = BitVec.ofBool (decide (a ≤ b)) :=
    WordCmp.cmpi_sle_ofNat (by norm_num; omega) (by norm_num; omega)
  rw [h]
  by_cases hl : a ≤ b <;> simp [Scalar.select, hl]

theorem sel_tri (x : Fin 256 → EReal) (i j : Fin 256) :
    Scalar.select (IntOp.cmpi CmpIPredicate.sle (BitVec.ofNat 32 j.val) (BitVec.ofNat 32 i.val)) (x j) (Named.named (F := Ideal) κ "mask" (φ := .f32) 0xF149F2CA#32) = maskE x (0 + i.val) j := by
  rw [sel_le _ _ (by omega) (by omega), maskE, Nat.zero_add]

/-- The last square block masked under its triangle, the keys before it not. -/
theorem sel_tail {n p : Nat} (hn : n = p + 256) (hp : n ≤ 2048) (x : Fin n → EReal) (i : Fin 256) (j : Fin n) :
    (if h : j.val < p then x j else Scalar.select (IntOp.cmpi CmpIPredicate.sle (BitVec.ofNat 32 (j.val - p)) (BitVec.ofNat 32 i.val))
      (x ⟨p + (j.val - p), by omega⟩) (Named.named (F := Ideal) κ "mask" (φ := .f32) 0xF149F2CA#32)) = maskE x (p + i.val) j := by
  by_cases h : j.val < p
  · rw [dif_pos h, maskE, if_pos (by omega)]
  · rw [dif_neg h, sel_le _ _ (by omega) (by omega), maskE]
    have e : (⟨p + (j.val - p), by omega⟩ : Fin n) = j := Fin.ext (by show p + (j.val - p) = j.val; omega)
    rw [e]
    exact if_congr (by omega) rfl rfl

/-- The logits of a query block against 256 keys. -/
def logits256 (Q : Vec F S1x256x128 .bf16) (K : Vec F S1x256x128 .bf16) : FVec F S256x256 .f32 :=
  matmul dot_S256x128_S256x128_S256x256_1_1_0_0_n_n none (shapeCast S256x128 Q shapeCasts_S1x256x128_S256x128) (shapeCast S256x128 K shapeCasts_S1x256x128_S256x128) (constant S256x256 .f32 0x00000000#32)

/-- A query block's numerators from its logits over 256 keys. -/
def nums256 (X : FVec F S256x256 .f32) : FVec F S256x256 .bf16 :=
  let L : FVec F S256x256 .f32 := select tri X (broadcast S256x256 (Named.named κ "mask" 0xF149F2CA#32 : F .f32))
  let M : FVec F S256 .f32 := multiReduction .maximumf [1] S256 L 0xFF800000#32 reduces_S256x256_S256 (.inl rfl) rfl
  truncf .bf16 (exp2 (mulf (subf L (broadcastTo S256x256 (shapeCast S256x1 M shapeCasts_S256_S256x1) broadcasts_S256x1_S256x256)) (broadcast S256x256 (Named.named κ "scale2" 0x3E16C740#32 : F .f32)))) bitsLt_bf16_f32

/-- A query block's head over 256 keys. -/
def heads256 (X : FVec F S256x256 .bf16) (V : Vec F S1x256x128 .bf16) : FVec F S256x128 .f32 :=
  let P : FVec F S256x128 .f32 := matmul dot_S256x256_S256x128_S256x128_1_0_0_1_n_n none X (shapeCast S256x128 V shapeCasts_S1x256x128_S256x128) (constant S256x128 .f32 0x00000000#32)
  select low (divf P (dynamicRotate 1 64#32 none P rotates_S256x128_d1)) (broadcast S256x128 (Scalar.ofBits .f32 0x00000000#32 : F .f32))

theorem logits256_apply (Q : Vec Ideal S1x256x128 .bf16) (K : Vec Ideal S1x256x128 .bf16) (i : Fin 256) (j : Fin 256) :
    logits256 (F := Ideal) Q K (ix2 i j) = ∑ d : Fin 128, Q (ix3 0 i d) * K (ix3 0 j d) := by
  pointwise [logits256]

theorem nums256_apply (X : FVec Ideal S256x256 .f32) (i : Fin 256) (j : Fin 256) :
    nums256 (F := Ideal) X (ix2 i j) = numE (fun j => X (ix2 i j)) (0 + i.val) j := by
  pointwise [nums256, tri, numE]
  simp only [sel_tri (fun j => X (ix2 i j)), Nat.zero_add]
  rfl

theorem heads256_apply (X : FVec Ideal S256x256 .bf16) (V : Vec Ideal S1x256x128 .bf16) (i : Fin 256) (l : Fin 128) :
    heads256 (F := Ideal) X V (ix2 i l) = ratioE (fun j => X (ix2 i j)) (fun j l => V (ix3 0 j l)) l := by
  pointwise [heads256, low, ratioE]
  exact sel_low l _ _

theorem block256_apply (Q : Vec Ideal S1x256x128 .bf16) (K V : Vec Ideal S1x256x128 .bf16) (i : Fin 256) (l : Fin 128) :
    heads256 (F := Ideal) (nums256 (logits256 Q K)) V (ix2 i l) = attnE (fun d => Q (ix3 0 i d)) (fun j d => K (ix3 0 j d)) (fun j l => V (ix3 0 j l)) (0 + i.val) l := by
  rw [heads256_apply]
  refine ratioE_congr (fun j => ?_) l
  rw [nums256_apply]
  simp only [logits256_apply]

/-- The logits of a query block against 512 keys. -/
def logits512 (Q : Vec F S1x256x128 .bf16) (K : Vec F S1x512x128 .bf16) : FVec F S256x512 .f32 :=
  matmul dot_S256x128_S512x128_S256x512_1_1_0_0_n_n none (shapeCast S256x128 Q shapeCasts_S1x256x128_S256x128) (shapeCast S512x128 K shapeCasts_S1x512x128_S512x128) (constant S256x512 .f32 0x00000000#32)

/-- A query block's numerators from its logits over 512 keys. -/
def nums512 (X : FVec F S256x512 .f32) : FVec F S256x512 .bf16 :=
  let L : FVec F S256x512 .f32 := concatenate S256x512 1 [⟨S256x256, extractStridedSlice S256x256 ![0, 0] X slices_S256x512_o0_0_S256x256⟩, ⟨S256x256, select tri (extractStridedSlice S256x256 ![0, 256] X slices_S256x512_o0_256_S256x256) (broadcast S256x256 (Named.named κ "mask" 0xF149F2CA#32 : F .f32))⟩] concatenates_S256x256_S256x256_S256x512_d1
  let M : FVec F S256 .f32 := multiReduction .maximumf [1] S256 L 0xFF800000#32 reduces_S256x512_S256 (.inl rfl) rfl
  truncf .bf16 (exp2 (mulf (subf L (broadcastTo S256x512 (shapeCast S256x1 M shapeCasts_S256_S256x1) broadcasts_S256x1_S256x512)) (broadcast S256x512 (Named.named κ "scale2" 0x3E16C740#32 : F .f32)))) bitsLt_bf16_f32

/-- A query block's head over 512 keys. -/
def heads512 (X : FVec F S256x512 .bf16) (V : Vec F S1x512x128 .bf16) : FVec F S256x128 .f32 :=
  let P : FVec F S256x128 .f32 := matmul dot_S256x512_S512x128_S256x128_1_0_0_1_n_n none X (shapeCast S512x128 V shapeCasts_S1x512x128_S512x128) (constant S256x128 .f32 0x00000000#32)
  select low (divf P (dynamicRotate 1 64#32 none P rotates_S256x128_d1)) (broadcast S256x128 (Scalar.ofBits .f32 0x00000000#32 : F .f32))

theorem logits512_apply (Q : Vec Ideal S1x256x128 .bf16) (K : Vec Ideal S1x512x128 .bf16) (i : Fin 256) (j : Fin 512) :
    logits512 (F := Ideal) Q K (ix2 i j) = ∑ d : Fin 128, Q (ix3 0 i d) * K (ix3 0 j d) := by
  pointwise [logits512]

theorem nums512_apply (X : FVec Ideal S256x512 .f32) (i : Fin 256) (j : Fin 512) :
    nums512 (F := Ideal) X (ix2 i j) = numE (fun j => X (ix2 i j)) (256 + i.val) j := by
  pointwise [nums512, tri, numE]
  simp only [sel_tail (n := 512) (p := 256) rfl (by norm_num) (fun j => X (ix2 i j))]
  rfl

theorem heads512_apply (X : FVec Ideal S256x512 .bf16) (V : Vec Ideal S1x512x128 .bf16) (i : Fin 256) (l : Fin 128) :
    heads512 (F := Ideal) X V (ix2 i l) = ratioE (fun j => X (ix2 i j)) (fun j l => V (ix3 0 j l)) l := by
  pointwise [heads512, low, ratioE]
  exact sel_low l _ _

theorem block512_apply (Q : Vec Ideal S1x256x128 .bf16) (K V : Vec Ideal S1x512x128 .bf16) (i : Fin 256) (l : Fin 128) :
    heads512 (F := Ideal) (nums512 (logits512 Q K)) V (ix2 i l) = attnE (fun d => Q (ix3 0 i d)) (fun j d => K (ix3 0 j d)) (fun j l => V (ix3 0 j l)) (256 + i.val) l := by
  rw [heads512_apply]
  refine ratioE_congr (fun j => ?_) l
  rw [nums512_apply]
  simp only [logits512_apply]

/-- The logits of a query block against 768 keys. -/
def logits768 (Q : Vec F S1x256x128 .bf16) (K : Vec F S1x768x128 .bf16) : FVec F S256x768 .f32 :=
  matmul dot_S256x128_S768x128_S256x768_1_1_0_0_n_n none (shapeCast S256x128 Q shapeCasts_S1x256x128_S256x128) (shapeCast S768x128 K shapeCasts_S1x768x128_S768x128) (constant S256x768 .f32 0x00000000#32)

/-- A query block's numerators from its logits over 768 keys. -/
def nums768 (X : FVec F S256x768 .f32) : FVec F S256x768 .bf16 :=
  let L : FVec F S256x768 .f32 := concatenate S256x768 1 [⟨S256x512, extractStridedSlice S256x512 ![0, 0] X slices_S256x768_o0_0_S256x512⟩, ⟨S256x256, select tri (extractStridedSlice S256x256 ![0, 512] X slices_S256x768_o0_512_S256x256) (broadcast S256x256 (Named.named κ "mask" 0xF149F2CA#32 : F .f32))⟩] concatenates_S256x512_S256x256_S256x768_d1
  let M : FVec F S256 .f32 := multiReduction .maximumf [1] S256 L 0xFF800000#32 reduces_S256x768_S256 (.inl rfl) rfl
  truncf .bf16 (exp2 (mulf (subf L (broadcastTo S256x768 (shapeCast S256x1 M shapeCasts_S256_S256x1) broadcasts_S256x1_S256x768)) (broadcast S256x768 (Named.named κ "scale2" 0x3E16C740#32 : F .f32)))) bitsLt_bf16_f32

/-- A query block's head over 768 keys. -/
def heads768 (X : FVec F S256x768 .bf16) (V : Vec F S1x768x128 .bf16) : FVec F S256x128 .f32 :=
  let P : FVec F S256x128 .f32 := matmul dot_S256x768_S768x128_S256x128_1_0_0_1_n_n none X (shapeCast S768x128 V shapeCasts_S1x768x128_S768x128) (constant S256x128 .f32 0x00000000#32)
  select low (divf P (dynamicRotate 1 64#32 none P rotates_S256x128_d1)) (broadcast S256x128 (Scalar.ofBits .f32 0x00000000#32 : F .f32))

theorem logits768_apply (Q : Vec Ideal S1x256x128 .bf16) (K : Vec Ideal S1x768x128 .bf16) (i : Fin 256) (j : Fin 768) :
    logits768 (F := Ideal) Q K (ix2 i j) = ∑ d : Fin 128, Q (ix3 0 i d) * K (ix3 0 j d) := by
  pointwise [logits768]

theorem nums768_apply (X : FVec Ideal S256x768 .f32) (i : Fin 256) (j : Fin 768) :
    nums768 (F := Ideal) X (ix2 i j) = numE (fun j => X (ix2 i j)) (512 + i.val) j := by
  pointwise [nums768, tri, numE]
  simp only [sel_tail (n := 768) (p := 512) rfl (by norm_num) (fun j => X (ix2 i j))]
  rfl

theorem heads768_apply (X : FVec Ideal S256x768 .bf16) (V : Vec Ideal S1x768x128 .bf16) (i : Fin 256) (l : Fin 128) :
    heads768 (F := Ideal) X V (ix2 i l) = ratioE (fun j => X (ix2 i j)) (fun j l => V (ix3 0 j l)) l := by
  pointwise [heads768, low, ratioE]
  exact sel_low l _ _

theorem block768_apply (Q : Vec Ideal S1x256x128 .bf16) (K V : Vec Ideal S1x768x128 .bf16) (i : Fin 256) (l : Fin 128) :
    heads768 (F := Ideal) (nums768 (logits768 Q K)) V (ix2 i l) = attnE (fun d => Q (ix3 0 i d)) (fun j d => K (ix3 0 j d)) (fun j l => V (ix3 0 j l)) (512 + i.val) l := by
  rw [heads768_apply]
  refine ratioE_congr (fun j => ?_) l
  rw [nums768_apply]
  simp only [logits768_apply]

/-- The logits of a query block against 1024 keys. -/
def logits1024 (Q : Vec F S1x256x128 .bf16) (K : Vec F S1x1024x128 .bf16) : FVec F S256x1024 .f32 :=
  matmul dot_S256x128_S1024x128_S256x1024_1_1_0_0_n_n none (shapeCast S256x128 Q shapeCasts_S1x256x128_S256x128) (shapeCast S1024x128 K shapeCasts_S1x1024x128_S1024x128) (constant S256x1024 .f32 0x00000000#32)

/-- A query block's numerators from its logits over 1024 keys. -/
def nums1024 (X : FVec F S256x1024 .f32) : FVec F S256x1024 .bf16 :=
  let L : FVec F S256x1024 .f32 := concatenate S256x1024 1 [⟨S256x768, extractStridedSlice S256x768 ![0, 0] X slices_S256x1024_o0_0_S256x768⟩, ⟨S256x256, select tri (extractStridedSlice S256x256 ![0, 768] X slices_S256x1024_o0_768_S256x256) (broadcast S256x256 (Named.named κ "mask" 0xF149F2CA#32 : F .f32))⟩] concatenates_S256x768_S256x256_S256x1024_d1
  let M : FVec F S256 .f32 := multiReduction .maximumf [1] S256 L 0xFF800000#32 reduces_S256x1024_S256 (.inl rfl) rfl
  truncf .bf16 (exp2 (mulf (subf L (broadcastTo S256x1024 (shapeCast S256x1 M shapeCasts_S256_S256x1) broadcasts_S256x1_S256x1024)) (broadcast S256x1024 (Named.named κ "scale2" 0x3E16C740#32 : F .f32)))) bitsLt_bf16_f32

/-- A query block's head over 1024 keys. -/
def heads1024 (X : FVec F S256x1024 .bf16) (V : Vec F S1x1024x128 .bf16) : FVec F S256x128 .f32 :=
  let P : FVec F S256x128 .f32 := matmul dot_S256x1024_S1024x128_S256x128_1_0_0_1_n_n none X (shapeCast S1024x128 V shapeCasts_S1x1024x128_S1024x128) (constant S256x128 .f32 0x00000000#32)
  select low (divf P (dynamicRotate 1 64#32 none P rotates_S256x128_d1)) (broadcast S256x128 (Scalar.ofBits .f32 0x00000000#32 : F .f32))

theorem logits1024_apply (Q : Vec Ideal S1x256x128 .bf16) (K : Vec Ideal S1x1024x128 .bf16) (i : Fin 256) (j : Fin 1024) :
    logits1024 (F := Ideal) Q K (ix2 i j) = ∑ d : Fin 128, Q (ix3 0 i d) * K (ix3 0 j d) := by
  pointwise [logits1024]

theorem nums1024_apply (X : FVec Ideal S256x1024 .f32) (i : Fin 256) (j : Fin 1024) :
    nums1024 (F := Ideal) X (ix2 i j) = numE (fun j => X (ix2 i j)) (768 + i.val) j := by
  pointwise [nums1024, tri, numE]
  simp only [sel_tail (n := 1024) (p := 768) rfl (by norm_num) (fun j => X (ix2 i j))]
  rfl

theorem heads1024_apply (X : FVec Ideal S256x1024 .bf16) (V : Vec Ideal S1x1024x128 .bf16) (i : Fin 256) (l : Fin 128) :
    heads1024 (F := Ideal) X V (ix2 i l) = ratioE (fun j => X (ix2 i j)) (fun j l => V (ix3 0 j l)) l := by
  pointwise [heads1024, low, ratioE]
  exact sel_low l _ _

theorem block1024_apply (Q : Vec Ideal S1x256x128 .bf16) (K V : Vec Ideal S1x1024x128 .bf16) (i : Fin 256) (l : Fin 128) :
    heads1024 (F := Ideal) (nums1024 (logits1024 Q K)) V (ix2 i l) = attnE (fun d => Q (ix3 0 i d)) (fun j d => K (ix3 0 j d)) (fun j l => V (ix3 0 j l)) (768 + i.val) l := by
  rw [heads1024_apply]
  refine ratioE_congr (fun j => ?_) l
  rw [nums1024_apply]
  simp only [logits1024_apply]

/-- The logits of a query block against 1280 keys. -/
def logits1280 (Q : Vec F S1x256x128 .bf16) (K : Vec F S1x1280x128 .bf16) : FVec F S256x1280 .f32 :=
  matmul dot_S256x128_S1280x128_S256x1280_1_1_0_0_n_n none (shapeCast S256x128 Q shapeCasts_S1x256x128_S256x128) (shapeCast S1280x128 K shapeCasts_S1x1280x128_S1280x128) (constant S256x1280 .f32 0x00000000#32)

/-- A query block's numerators from its logits over 1280 keys. -/
def nums1280 (X : FVec F S256x1280 .f32) : FVec F S256x1280 .bf16 :=
  let L : FVec F S256x1280 .f32 := concatenate S256x1280 1 [⟨S256x1024, extractStridedSlice S256x1024 ![0, 0] X slices_S256x1280_o0_0_S256x1024⟩, ⟨S256x256, select tri (extractStridedSlice S256x256 ![0, 1024] X slices_S256x1280_o0_1024_S256x256) (broadcast S256x256 (Named.named κ "mask" 0xF149F2CA#32 : F .f32))⟩] concatenates_S256x1024_S256x256_S256x1280_d1
  let M : FVec F S256 .f32 := multiReduction .maximumf [1] S256 L 0xFF800000#32 reduces_S256x1280_S256 (.inl rfl) rfl
  truncf .bf16 (exp2 (mulf (subf L (broadcastTo S256x1280 (shapeCast S256x1 M shapeCasts_S256_S256x1) broadcasts_S256x1_S256x1280)) (broadcast S256x1280 (Named.named κ "scale2" 0x3E16C740#32 : F .f32)))) bitsLt_bf16_f32

/-- A query block's head over 1280 keys. -/
def heads1280 (X : FVec F S256x1280 .bf16) (V : Vec F S1x1280x128 .bf16) : FVec F S256x128 .f32 :=
  let P : FVec F S256x128 .f32 := matmul dot_S256x1280_S1280x128_S256x128_1_0_0_1_n_n none X (shapeCast S1280x128 V shapeCasts_S1x1280x128_S1280x128) (constant S256x128 .f32 0x00000000#32)
  select low (divf P (dynamicRotate 1 64#32 none P rotates_S256x128_d1)) (broadcast S256x128 (Scalar.ofBits .f32 0x00000000#32 : F .f32))

theorem logits1280_apply (Q : Vec Ideal S1x256x128 .bf16) (K : Vec Ideal S1x1280x128 .bf16) (i : Fin 256) (j : Fin 1280) :
    logits1280 (F := Ideal) Q K (ix2 i j) = ∑ d : Fin 128, Q (ix3 0 i d) * K (ix3 0 j d) := by
  pointwise [logits1280]

theorem nums1280_apply (X : FVec Ideal S256x1280 .f32) (i : Fin 256) (j : Fin 1280) :
    nums1280 (F := Ideal) X (ix2 i j) = numE (fun j => X (ix2 i j)) (1024 + i.val) j := by
  pointwise [nums1280, tri, numE]
  simp only [sel_tail (n := 1280) (p := 1024) rfl (by norm_num) (fun j => X (ix2 i j))]
  rfl

theorem heads1280_apply (X : FVec Ideal S256x1280 .bf16) (V : Vec Ideal S1x1280x128 .bf16) (i : Fin 256) (l : Fin 128) :
    heads1280 (F := Ideal) X V (ix2 i l) = ratioE (fun j => X (ix2 i j)) (fun j l => V (ix3 0 j l)) l := by
  pointwise [heads1280, low, ratioE]
  exact sel_low l _ _

theorem block1280_apply (Q : Vec Ideal S1x256x128 .bf16) (K V : Vec Ideal S1x1280x128 .bf16) (i : Fin 256) (l : Fin 128) :
    heads1280 (F := Ideal) (nums1280 (logits1280 Q K)) V (ix2 i l) = attnE (fun d => Q (ix3 0 i d)) (fun j d => K (ix3 0 j d)) (fun j l => V (ix3 0 j l)) (1024 + i.val) l := by
  rw [heads1280_apply]
  refine ratioE_congr (fun j => ?_) l
  rw [nums1280_apply]
  simp only [logits1280_apply]

/-- The logits of a query block against 1536 keys. -/
def logits1536 (Q : Vec F S1x256x128 .bf16) (K : Vec F S1x1536x128 .bf16) : FVec F S256x1536 .f32 :=
  matmul dot_S256x128_S1536x128_S256x1536_1_1_0_0_n_n none (shapeCast S256x128 Q shapeCasts_S1x256x128_S256x128) (shapeCast S1536x128 K shapeCasts_S1x1536x128_S1536x128) (constant S256x1536 .f32 0x00000000#32)

/-- A query block's numerators from its logits over 1536 keys. -/
def nums1536 (X : FVec F S256x1536 .f32) : FVec F S256x1536 .bf16 :=
  let L : FVec F S256x1536 .f32 := concatenate S256x1536 1 [⟨S256x1280, extractStridedSlice S256x1280 ![0, 0] X slices_S256x1536_o0_0_S256x1280⟩, ⟨S256x256, select tri (extractStridedSlice S256x256 ![0, 1280] X slices_S256x1536_o0_1280_S256x256) (broadcast S256x256 (Named.named κ "mask" 0xF149F2CA#32 : F .f32))⟩] concatenates_S256x1280_S256x256_S256x1536_d1
  let M : FVec F S256 .f32 := multiReduction .maximumf [1] S256 L 0xFF800000#32 reduces_S256x1536_S256 (.inl rfl) rfl
  truncf .bf16 (exp2 (mulf (subf L (broadcastTo S256x1536 (shapeCast S256x1 M shapeCasts_S256_S256x1) broadcasts_S256x1_S256x1536)) (broadcast S256x1536 (Named.named κ "scale2" 0x3E16C740#32 : F .f32)))) bitsLt_bf16_f32

/-- A query block's head over 1536 keys. -/
def heads1536 (X : FVec F S256x1536 .bf16) (V : Vec F S1x1536x128 .bf16) : FVec F S256x128 .f32 :=
  let P : FVec F S256x128 .f32 := matmul dot_S256x1536_S1536x128_S256x128_1_0_0_1_n_n none X (shapeCast S1536x128 V shapeCasts_S1x1536x128_S1536x128) (constant S256x128 .f32 0x00000000#32)
  select low (divf P (dynamicRotate 1 64#32 none P rotates_S256x128_d1)) (broadcast S256x128 (Scalar.ofBits .f32 0x00000000#32 : F .f32))

theorem logits1536_apply (Q : Vec Ideal S1x256x128 .bf16) (K : Vec Ideal S1x1536x128 .bf16) (i : Fin 256) (j : Fin 1536) :
    logits1536 (F := Ideal) Q K (ix2 i j) = ∑ d : Fin 128, Q (ix3 0 i d) * K (ix3 0 j d) := by
  pointwise [logits1536]

theorem nums1536_apply (X : FVec Ideal S256x1536 .f32) (i : Fin 256) (j : Fin 1536) :
    nums1536 (F := Ideal) X (ix2 i j) = numE (fun j => X (ix2 i j)) (1280 + i.val) j := by
  pointwise [nums1536, tri, numE]
  simp only [sel_tail (n := 1536) (p := 1280) rfl (by norm_num) (fun j => X (ix2 i j))]
  rfl

theorem heads1536_apply (X : FVec Ideal S256x1536 .bf16) (V : Vec Ideal S1x1536x128 .bf16) (i : Fin 256) (l : Fin 128) :
    heads1536 (F := Ideal) X V (ix2 i l) = ratioE (fun j => X (ix2 i j)) (fun j l => V (ix3 0 j l)) l := by
  pointwise [heads1536, low, ratioE]
  exact sel_low l _ _

theorem block1536_apply (Q : Vec Ideal S1x256x128 .bf16) (K V : Vec Ideal S1x1536x128 .bf16) (i : Fin 256) (l : Fin 128) :
    heads1536 (F := Ideal) (nums1536 (logits1536 Q K)) V (ix2 i l) = attnE (fun d => Q (ix3 0 i d)) (fun j d => K (ix3 0 j d)) (fun j l => V (ix3 0 j l)) (1280 + i.val) l := by
  rw [heads1536_apply]
  refine ratioE_congr (fun j => ?_) l
  rw [nums1536_apply]
  simp only [logits1536_apply]

/-- The logits of a query block against 1792 keys. -/
def logits1792 (Q : Vec F S1x256x128 .bf16) (K : Vec F S1x1792x128 .bf16) : FVec F S256x1792 .f32 :=
  matmul dot_S256x128_S1792x128_S256x1792_1_1_0_0_n_n none (shapeCast S256x128 Q shapeCasts_S1x256x128_S256x128) (shapeCast S1792x128 K shapeCasts_S1x1792x128_S1792x128) (constant S256x1792 .f32 0x00000000#32)

/-- A query block's numerators from its logits over 1792 keys. -/
def nums1792 (X : FVec F S256x1792 .f32) : FVec F S256x1792 .bf16 :=
  let L : FVec F S256x1792 .f32 := concatenate S256x1792 1 [⟨S256x1536, extractStridedSlice S256x1536 ![0, 0] X slices_S256x1792_o0_0_S256x1536⟩, ⟨S256x256, select tri (extractStridedSlice S256x256 ![0, 1536] X slices_S256x1792_o0_1536_S256x256) (broadcast S256x256 (Named.named κ "mask" 0xF149F2CA#32 : F .f32))⟩] concatenates_S256x1536_S256x256_S256x1792_d1
  let M : FVec F S256 .f32 := multiReduction .maximumf [1] S256 L 0xFF800000#32 reduces_S256x1792_S256 (.inl rfl) rfl
  truncf .bf16 (exp2 (mulf (subf L (broadcastTo S256x1792 (shapeCast S256x1 M shapeCasts_S256_S256x1) broadcasts_S256x1_S256x1792)) (broadcast S256x1792 (Named.named κ "scale2" 0x3E16C740#32 : F .f32)))) bitsLt_bf16_f32

/-- A query block's head over 1792 keys. -/
def heads1792 (X : FVec F S256x1792 .bf16) (V : Vec F S1x1792x128 .bf16) : FVec F S256x128 .f32 :=
  let P : FVec F S256x128 .f32 := matmul dot_S256x1792_S1792x128_S256x128_1_0_0_1_n_n none X (shapeCast S1792x128 V shapeCasts_S1x1792x128_S1792x128) (constant S256x128 .f32 0x00000000#32)
  select low (divf P (dynamicRotate 1 64#32 none P rotates_S256x128_d1)) (broadcast S256x128 (Scalar.ofBits .f32 0x00000000#32 : F .f32))

theorem logits1792_apply (Q : Vec Ideal S1x256x128 .bf16) (K : Vec Ideal S1x1792x128 .bf16) (i : Fin 256) (j : Fin 1792) :
    logits1792 (F := Ideal) Q K (ix2 i j) = ∑ d : Fin 128, Q (ix3 0 i d) * K (ix3 0 j d) := by
  pointwise [logits1792]

theorem nums1792_apply (X : FVec Ideal S256x1792 .f32) (i : Fin 256) (j : Fin 1792) :
    nums1792 (F := Ideal) X (ix2 i j) = numE (fun j => X (ix2 i j)) (1536 + i.val) j := by
  pointwise [nums1792, tri, numE]
  simp only [sel_tail (n := 1792) (p := 1536) rfl (by norm_num) (fun j => X (ix2 i j))]
  rfl

theorem heads1792_apply (X : FVec Ideal S256x1792 .bf16) (V : Vec Ideal S1x1792x128 .bf16) (i : Fin 256) (l : Fin 128) :
    heads1792 (F := Ideal) X V (ix2 i l) = ratioE (fun j => X (ix2 i j)) (fun j l => V (ix3 0 j l)) l := by
  pointwise [heads1792, low, ratioE]
  exact sel_low l _ _

theorem block1792_apply (Q : Vec Ideal S1x256x128 .bf16) (K V : Vec Ideal S1x1792x128 .bf16) (i : Fin 256) (l : Fin 128) :
    heads1792 (F := Ideal) (nums1792 (logits1792 Q K)) V (ix2 i l) = attnE (fun d => Q (ix3 0 i d)) (fun j d => K (ix3 0 j d)) (fun j l => V (ix3 0 j l)) (1536 + i.val) l := by
  rw [heads1792_apply]
  refine ratioE_congr (fun j => ?_) l
  rw [nums1792_apply]
  simp only [logits1792_apply]

/-- The logits of a query block against 2048 keys. -/
def logits2048 (Q : Vec F S1x256x128 .bf16) (K : Vec F S1x2048x128 .bf16) : FVec F S256x2048 .f32 :=
  matmul dot_S256x128_S2048x128_S256x2048_1_1_0_0_n_n none (shapeCast S256x128 Q shapeCasts_S1x256x128_S256x128) (shapeCast S2048x128 K shapeCasts_S1x2048x128_S2048x128) (constant S256x2048 .f32 0x00000000#32)

/-- A query block's numerators from its logits over 2048 keys. -/
def nums2048 (X : FVec F S256x2048 .f32) : FVec F S256x2048 .bf16 :=
  let L : FVec F S256x2048 .f32 := concatenate S256x2048 1 [⟨S256x1792, extractStridedSlice S256x1792 ![0, 0] X slices_S256x2048_o0_0_S256x1792⟩, ⟨S256x256, select tri (extractStridedSlice S256x256 ![0, 1792] X slices_S256x2048_o0_1792_S256x256) (broadcast S256x256 (Named.named κ "mask" 0xF149F2CA#32 : F .f32))⟩] concatenates_S256x1792_S256x256_S256x2048_d1
  let M : FVec F S256 .f32 := multiReduction .maximumf [1] S256 L 0xFF800000#32 reduces_S256x2048_S256 (.inl rfl) rfl
  truncf .bf16 (exp2 (mulf (subf L (broadcastTo S256x2048 (shapeCast S256x1 M shapeCasts_S256_S256x1) broadcasts_S256x1_S256x2048)) (broadcast S256x2048 (Named.named κ "scale2" 0x3E16C740#32 : F .f32)))) bitsLt_bf16_f32

/-- A query block's head over 2048 keys. -/
def heads2048 (X : FVec F S256x2048 .bf16) (V : Vec F S1x2048x128 .bf16) : FVec F S256x128 .f32 :=
  let P : FVec F S256x128 .f32 := matmul dot_S256x2048_S2048x128_S256x128_1_0_0_1_n_n none X (shapeCast S2048x128 V shapeCasts_S1x2048x128_S2048x128) (constant S256x128 .f32 0x00000000#32)
  select low (divf P (dynamicRotate 1 64#32 none P rotates_S256x128_d1)) (broadcast S256x128 (Scalar.ofBits .f32 0x00000000#32 : F .f32))

theorem logits2048_apply (Q : Vec Ideal S1x256x128 .bf16) (K : Vec Ideal S1x2048x128 .bf16) (i : Fin 256) (j : Fin 2048) :
    logits2048 (F := Ideal) Q K (ix2 i j) = ∑ d : Fin 128, Q (ix3 0 i d) * K (ix3 0 j d) := by
  pointwise [logits2048]

theorem nums2048_apply (X : FVec Ideal S256x2048 .f32) (i : Fin 256) (j : Fin 2048) :
    nums2048 (F := Ideal) X (ix2 i j) = numE (fun j => X (ix2 i j)) (1792 + i.val) j := by
  pointwise [nums2048, tri, numE]
  simp only [sel_tail (n := 2048) (p := 1792) rfl (by norm_num) (fun j => X (ix2 i j))]
  rfl

theorem heads2048_apply (X : FVec Ideal S256x2048 .bf16) (V : Vec Ideal S1x2048x128 .bf16) (i : Fin 256) (l : Fin 128) :
    heads2048 (F := Ideal) X V (ix2 i l) = ratioE (fun j => X (ix2 i j)) (fun j l => V (ix3 0 j l)) l := by
  pointwise [heads2048, low, ratioE]
  exact sel_low l _ _

theorem block2048_apply (Q : Vec Ideal S1x256x128 .bf16) (K V : Vec Ideal S1x2048x128 .bf16) (i : Fin 256) (l : Fin 128) :
    heads2048 (F := Ideal) (nums2048 (logits2048 Q K)) V (ix2 i l) = attnE (fun d => Q (ix3 0 i d)) (fun j d => K (ix3 0 j d)) (fun j l => V (ix3 0 j l)) (1792 + i.val) l := by
  rw [heads2048_apply]
  refine ratioE_congr (fun j => ?_) l
  rw [nums2048_apply]
  simp only [logits2048_apply]

end Cert.KernelIdeal.Mla

end
-- ==== Proof.MlaMath.lean ====
/-
  The softmax of one row on real numbers: what the attention block computes from real logits and values, what the
  reference's row computes, and that both are one quotient of sums.
-/
module

public import proofs.«01_k».proof.Proof.MlaAttn

@[expose] public section

noncomputable section

open Idealize.ShloMosaic Idealize.ShloMosaic.TcCoe Idealize.SL.Sem

namespace Cert.KernelIdeal.Mla

/-- The weight of a key of real logit, zero where it comes after the query. -/
def weightR {n : Nat} (s : Fin n → ℝ) (t : Nat) (j : Fin n) : ℝ := if j.val ≤ t then Real.exp (s j * (Real.sqrt 96)⁻¹) else 0

/-- The weighted mean of the values. -/
def softR {n : Nat} (s v : Fin n → ℝ) (t : Nat) : ℝ := (∑ j, weightR s t j * v j) / ∑ j, weightR s t j

theorem coe_sum {n : Nat} (f : Fin n → ℝ) : ∑ j, ((f j : ℝ) : EReal) = ((∑ j, f j : ℝ) : EReal) :=
  (map_sum (⟨⟨(fun r : ℝ => (r : EReal)), EReal.coe_zero⟩, EReal.coe_add⟩ : ℝ →+ EReal) f Finset.univ).symm

theorem weightR_pos {n : Nat} (s : Fin n → ℝ) (t : Nat) (ht : t < n) : 0 < ∑ j, weightR s t j := by
  refine Finset.sum_pos' (fun j _ => ?_) ⟨⟨t, ht⟩, Finset.mem_univ _, ?_⟩
  · unfold weightR
    split
    · exact (Real.exp_pos _).le
    · exact le_refl _
  · unfold weightR
    rw [if_pos (le_refl _)]
    exact Real.exp_pos _

/-- Keys after the query may be left out. -/
theorem softR_castLE {n N : Nat} (h : n ≤ N) (s v : Fin N → ℝ) (t : Nat) (ht : t < n) :
    softR (fun j : Fin n => s (Fin.castLE h j)) (fun j => v (Fin.castLE h j)) t = softR s v t := by
  have key : ∀ f : Fin N → ℝ, (∀ j : Fin N, t < j.val → f j = 0) → ∑ j : Fin n, f (Fin.castLE h j) = ∑ j, f j := fun f hf => by
    refine (Finset.sum_map Finset.univ (Fin.castLEEmb h) f).symm.trans ?_
    refine Finset.sum_subset (Finset.subset_univ _) fun j _ hj => hf j ?_
    by_contra hlt
    exact hj (Finset.mem_map.mpr ⟨⟨j.val, by omega⟩, Finset.mem_univ _, Fin.ext rfl⟩)
  have hw : ∀ j : Fin N, t < j.val → weightR s t j = 0 := fun j hj => if_neg (by omega)
  unfold softR
  refine congrArg₂ (fun a b : ℝ => a / b) ?_ ?_
  · exact key (fun j => weightR s t j * v j) fun j hj => by rw [hw j hj, zero_mul]
  · exact key (fun j => weightR s t j) hw

theorem ofBits_ninf : Ideal.ofBits .f32 0xFF800000#32 = ⊥ := by
  simp [Ideal.ofBits, Ideal.ieee, -EReal.coe_mul]

theorem ofBits_root : Ideal.ofBits .f32 0x42C00000#32 = ((96 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_inf : Ideal.ofBits .f32 0x7F800000#32 = ⊤ := by
  simp [Ideal.ofBits, Ideal.ieee, -EReal.coe_mul]

theorem ofBits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

theorem sqrt96_pos : 0 < Real.sqrt 96 := Real.sqrt_pos.mpr (by norm_num)

/-- The greatest of a row is real if no entry is infinite above and some entry is real. -/
theorem fold_real {n : Nat} (f : Fin n → EReal) (hb : ∃ j, f j ≠ ⊥) (ht : ∀ j, f j ≠ ⊤) :
    ∃ M : ℝ, Finset.fold max (⊥ : EReal) f Finset.univ = (M : EReal) := by
  have h1 : Finset.fold max (⊥ : EReal) f Finset.univ ≠ ⊤ := by
    refine ne_of_lt ((Finset.fold_max_lt _).mpr ⟨bot_lt_top, fun j _ => lt_top_iff_ne_top.mpr (ht j)⟩)
  have h2 : Finset.fold max (⊥ : EReal) f Finset.univ ≠ ⊥ := by
    obtain ⟨j, hj⟩ := hb
    exact ne_of_gt ((Finset.lt_fold_max _).mpr (.inr ⟨j, Finset.mem_univ _, bot_lt_iff_ne_bot.mpr hj⟩))
  exact ⟨_, (EReal.coe_toReal h1 h2).symm⟩

theorem bot_mul_pos {r : ℝ} (h : 0 < r) : (⊥ : EReal) * (r : EReal) = ⊥ := EReal.bot_mul_of_pos (EReal.coe_pos.mpr h)

/-- The kernel's numerator on real logits. -/
theorem numE_real {n : Nat} (s : Fin n → ℝ) (t : Nat) (ht : t < n) :
    ∃ M : ℝ, ∀ j, numE (fun j => ((s j : ℝ) : EReal)) t j = ((weightR s t j * M : ℝ) : EReal) ∧ 0 < M := by
  have hm : Named.named (F := Ideal) κ "mask" (φ := .f32) 0xF149F2CA#32 = ⊥ := IdealRules.named_const.ideal_named_scalar _ _ _ _ rfl
  have hs : Named.named (F := Ideal) κ "scale2" (φ := .f32) 0x3E16C740#32 = (((Real.sqrt 96)⁻¹ * (Real.log 2)⁻¹ : ℝ) : EReal) := IdealRules.named_const.ideal_named_scalar _ _ _ _ rfl
  have hx : ∀ j, maskE (fun j => ((s j : ℝ) : EReal)) t j = if j.val ≤ t then ((s j : ℝ) : EReal) else ⊥ := fun j => by
    unfold maskE
    rw [hm]
  have hl : 0 < Real.log 2 := Real.log_pos (by norm_num)
  have hc : 0 < (Real.sqrt 96)⁻¹ * (Real.log 2)⁻¹ := mul_pos (inv_pos.mpr sqrt96_pos) (inv_pos.mpr hl)
  obtain ⟨M, hM⟩ := fold_real (maskE (fun j => ((s j : ℝ) : EReal)) t)
    ⟨⟨t, ht⟩, by rw [hx, if_pos (le_refl _)]; exact EReal.coe_ne_bot _⟩
    (fun j => by rw [hx]; split
                 · exact EReal.coe_ne_top _
                 · exact bot_ne_top)
  refine ⟨Real.exp (-(M * (Real.sqrt 96)⁻¹)), fun j => ⟨?_, Real.exp_pos _⟩⟩
  unfold numE
  rw [ofBits_ninf, hM, hs, hx]
  unfold weightR
  by_cases hj : j.val ≤ t
  · rw [if_pos hj, if_pos hj, ← EReal.coe_sub, ← EReal.coe_mul, Ideal.exp2_coe, ← Real.exp_add]
    refine congrArg (fun r : ℝ => (r : EReal)) ?_
    show (2 : ℝ) ^ (_ : ℝ) = _
    rw [Real.rpow_def_of_pos (by norm_num : (0 : ℝ) < 2)]
    refine congrArg Real.exp ?_
    field_simp
    ring
  · rw [if_neg hj, if_neg hj, EReal.bot_sub, bot_mul_pos hc, Ideal.exp2_bot, zero_mul, EReal.coe_zero]

/-- A head's lane of the block on real logits and values. -/
theorem ratioE_real {n : Nat} (s : Fin n → ℝ) (t : Nat) (ht : t < n) (V : Fin n → Fin 128 → EReal) (v : Fin n → ℝ) (l : Fin 128) (hl : l.val < 64)
    (hv : ∀ j, V j l = ((v j : ℝ) : EReal)) (h1 : ∀ j (l : Fin 128), 64 ≤ l.val → V j l = 1) :
    ratioE (numE (fun j => ((s j : ℝ) : EReal)) t) V l = ((softR s v t : ℝ) : EReal) := by
  obtain ⟨M, hM⟩ := numE_real s t ht
  have hM0 : 0 < M := (hM ⟨t, ht⟩).2
  have hd : 0 < ∑ j, weightR s t j * M := by
    rw [← Finset.sum_mul]
    exact mul_pos (weightR_pos s t ht) hM0
  unfold ratioE
  rw [if_pos hl]
  have e1 : ∑ j, numE (fun j => ((s j : ℝ) : EReal)) t j * V j l = ((∑ j, weightR s t j * M * v j : ℝ) : EReal) := by
    rw [← coe_sum]
    refine Finset.sum_congr rfl fun j _ => ?_
    rw [(hM j).1, hv j, ← EReal.coe_mul]
  have e2 : ∑ j, numE (fun j => ((s j : ℝ) : EReal)) t j * V j ⟨(l.val + 128 - 64) % 128, Nat.mod_lt _ (by norm_num)⟩ = ((∑ j, weightR s t j * M : ℝ) : EReal) := by
    rw [← coe_sum]
    refine Finset.sum_congr rfl fun j _ => ?_
    rw [(hM j).1, h1 j _ (by show 64 ≤ (l.val + 128 - 64) % 128; omega), mul_one]
  rw [e1, e2, Ideal.div_coe hd.ne', ← EReal.coe_mul]
  refine congrArg (fun r : ℝ => (r : EReal)) ?_
  unfold softR
  have e3 : ∑ j, weightR s t j * M * v j = (∑ j, weightR s t j * v j) * M := by
    rw [Finset.sum_mul]
    exact Finset.sum_congr rfl fun j _ => by ring
  have hp := weightR_pos s t ht
  rw [e3, ← Finset.sum_mul]
  field_simp

/-- The reference's row on real logits and values. -/
theorem softmax_real {n : Nat} (s v : Fin n → ℝ) (t : Nat) (ht : t < n) (y V : Fin n → EReal) (hV : ∀ j, V j = ((v j : ℝ) : EReal))
    (hy : ∀ j, y j = if j.val ≤ t then Ideal.div ((s j : ℝ) : EReal) (Ideal.sqrt (Ideal.ofBits .f32 0x42C00000#32)) else Ideal.ofBits .f32 0xFF800000#32) :
    ∑ j, V j * Ideal.div (Ideal.exp (y j - max (Ideal.ofBits .f32 0xFF800000#32) (Finset.fold max (Ideal.ofBits .f32 0xFF800000#32) y Finset.univ)))
      (∑ j, Ideal.exp (y j - max (Ideal.ofBits .f32 0xFF800000#32) (Finset.fold max (Ideal.ofBits .f32 0xFF800000#32) y Finset.univ)))
      = ((softR s v t : ℝ) : EReal) := by
  have hr : Ideal.sqrt (Ideal.ofBits .f32 0x42C00000#32) = ((Real.sqrt 96 : ℝ) : EReal) := by
    rw [ofBits_root, Ideal.sqrt_coe, if_neg (by norm_num)]
  have hx : ∀ j, y j = if j.val ≤ t then ((s j * (Real.sqrt 96)⁻¹ : ℝ) : EReal) else ⊥ := fun j => by
    rw [hy j, hr, ofBits_ninf, Ideal.div_coe sqrt96_pos.ne', one_div, ← EReal.coe_mul]
  obtain ⟨M, hM⟩ := fold_real y
    ⟨⟨t, ht⟩, by rw [hx, if_pos (le_refl _)]; exact EReal.coe_ne_bot _⟩
    (fun j => by rw [hx]; split
                 · exact EReal.coe_ne_top _
                 · exact bot_ne_top)
  have he : ∀ j, Ideal.exp (y j - (M : EReal)) = ((weightR s t j * Real.exp (-M) : ℝ) : EReal) := fun j => by
    rw [hx]
    unfold weightR
    by_cases hj : j.val ≤ t
    · rw [if_pos hj, if_pos hj, ← EReal.coe_sub, Ideal.exp_coe, ← Real.exp_add, sub_eq_add_neg]
    · rw [if_neg hj, if_neg hj, EReal.bot_sub, Ideal.exp_bot, zero_mul, EReal.coe_zero]
  have hp := weightR_pos s t ht
  have hd : 0 < ∑ j, weightR s t j * Real.exp (-M) := by
    rw [← Finset.sum_mul]
    exact mul_pos hp (Real.exp_pos _)
  rw [ofBits_ninf, hM, max_eq_right bot_le]
  simp only [he, coe_sum, hV, Ideal.div_coe hd.ne', ← EReal.coe_mul]
  refine congrArg (fun r : ℝ => (r : EReal)) ?_
  unfold softR
  have hM0 := Real.exp_pos (-M)
  rw [← Finset.sum_mul, Finset.sum_div]
  refine Finset.sum_congr rfl fun j _ => ?_
  field_simp

end Cert.KernelIdeal.Mla

end
-- ==== Proof.MlaProj.lean ====
/-
  The projections of the latent attention on one chunk of 512 rows: queries, keys and values of one head, and what they
  compute at an index.
-/
module

public import proofs.«01_k».proof.Proof.Gen.KernelIdeal.Value
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.KernelIdeal.Mla
open Cert.KernelIdeal Cert.KernelIdeal.Gen

variable {F : FTy → Type} [FloatOps F] [Named F]

/-- The lanes the rotary embedding turns. -/
def rotC : IVec S512x128 1 :=
  andi (cmpi .sge (iota .tc S512x128 32 [1] iota_S512x128_d1_w32) (broadcast S512x128 64#32))
    (cmpi .slt (iota .tc S512x128 32 [1] iota_S512x128_d1_w32) (broadcast S512x128 96#32))

/-- The cosines of a chunk, one off the turned lanes. -/
def cosC (C : Vec F S1x512x128 .f32) : FVec F S512x128 .f32 :=
  select rotC (shapeCast S512x128 C shapeCasts_S1x512x128_S512x128) (broadcast S512x128 (Scalar.ofBits .f32 0x3F800000#32 : F .f32))

/-- The sines of a chunk, zero off the turned lanes. -/
def sinC (S : Vec F S1x512x128 .f32) : FVec F S512x128 .f32 :=
  select rotC (shapeCast S512x128 S shapeCasts_S1x512x128_S512x128) (broadcast S512x128 (Scalar.ofBits .f32 0x00000000#32 : F .f32))

/-- The normalised query columns of a chunk. -/
def nqC (X : Vec F S1x512x256 .f32) (g : Vec F S1x256 .f32) : FVec F S512x256 .bf16 :=
  let x : FVec F S512x256 .f32 := shapeCast S512x256 X shapeCasts_S1x512x256_S512x256
  let s : FVec F S512x1 .f32 := shapeCast S512x1 (multiReduction .add [1] S512 (mulf x x) 0x00000000#32 reduces_S512x256_S512 (.inl rfl) rfl) shapeCasts_S512_S512x1
  let r : FVec F S512x1 .f32 := rsqrt (addf (divf s (broadcast S512x1 (Scalar.ofBits .f32 0x43800000#32 : F .f32))) (broadcast S512x1 (Scalar.ofBits .f32 0x358637BD#32 : F .f32)))
  truncf .bf16 (mulf (mulf x (broadcastTo S512x256 r broadcasts_S512x1_S512x256)) (broadcastTo S512x256 (shapeCast S1x256 g shapeCasts_S1x256_S1x256) broadcasts_S1x256_S512x256)) bitsLt_bf16_f32

/-- The normalised key and value columns of a chunk. -/
def nkvC (X : Vec F S1x512x128 .f32) (g : Vec F S1x128 .f32) : FVec F S512x128 .bf16 :=
  let x : FVec F S512x128 .f32 := shapeCast S512x128 X shapeCasts_S1x512x128_S512x128
  let s : FVec F S512x1 .f32 := shapeCast S512x1 (multiReduction .add [1] S512 (mulf x x) 0x00000000#32 reduces_S512x128_S512 (.inl rfl) rfl) shapeCasts_S512_S512x1
  let r : FVec F S512x1 .f32 := rsqrt (addf (divf s (broadcast S512x1 (Scalar.ofBits .f32 0x43000000#32 : F .f32))) (broadcast S512x1 (Scalar.ofBits .f32 0x358637BD#32 : F .f32)))
  truncf .bf16 (mulf (mulf x (broadcastTo S512x128 r broadcasts_S512x1_S512x128)) (broadcastTo S512x128 (shapeCast S1x128 g shapeCasts_S1x128_S1x128) broadcasts_S1x128_S512x128)) bitsLt_bf16_f32

/-- The turned rotary columns of a chunk's keys. -/
def krC (M C S : Vec F S1x512x128 .f32) : FVec F S512x128 .f32 :=
  let x : FVec F S512x128 .f32 := shapeCast S512x128 M shapeCasts_S1x512x128_S512x128
  select rotC (addf (mulf x (cosC C)) (mulf (dynamicRotate 1 96#32 none x rotates_S512x128_d1) (sinC S))) (broadcast S512x128 (Scalar.ofBits .f32 0x00000000#32 : F .f32))

/-- A head's queries. -/
def qC (X : Vec F S1x512x256 .f32) (g : Vec F S1x256 .f32) (C S : Vec F S1x512x128 .f32) (W W' : Vec F S256x128 .bf16) : FVec F S1x512x128 .bf16 :=
  shapeCast S1x512x128 (truncf .bf16 (addf
    (mulf (matmul dot_S512x256_S256x128_S512x128_1_0_0_1_n_n none (nqC X g) (shapeCast S256x128 W shapeCasts_S256x128_S256x128) (constant S512x128 .f32 0x00000000#32)) (cosC C))
    (mulf (matmul dot_S512x256_S256x128_S512x128_1_0_0_1_n_n none (nqC X g) (shapeCast S256x128 W' shapeCasts_S256x128_S256x128) (constant S512x128 .f32 0x00000000#32)) (sinC S))) bitsLt_bf16_f32) shapeCasts_S512x128_S1x512x128

/-- A head's keys. -/
def kC (X : Vec F S1x512x128 .f32) (g : Vec F S1x128 .f32) (M C S : Vec F S1x512x128 .f32) (W : Vec F S128x128 .bf16) : FVec F S1x512x128 .bf16 :=
  shapeCast S1x512x128 (truncf .bf16 (addf
    (matmul dot_S512x128_S128x128_S512x128_1_0_0_1_n_n none (nkvC X g) (shapeCast S128x128 W shapeCasts_S128x128_S128x128) (constant S512x128 .f32 0x00000000#32))
    (krC M C S)) bitsLt_bf16_f32) shapeCasts_S512x128_S1x512x128

/-- A head's values. -/
def vC (X : Vec F S1x512x128 .f32) (g : Vec F S1x128 .f32) (W : Vec F S128x128 .bf16) : FVec F S1x512x128 .bf16 :=
  shapeCast S1x512x128 (truncf .bf16 (select
    (cmpi .slt (iota .tc S512x128 32 [1] iota_S512x128_d1_w32) (broadcast S512x128 64#32))
    (matmul dot_S512x128_S128x128_S512x128_1_0_0_1_n_n none (nkvC X g) (shapeCast S128x128 W shapeCasts_S128x128_S128x128) (constant S512x128 .f32 0x00000000#32))
    (broadcast S512x128 (Scalar.ofBits .f32 0x3F800000#32 : F .f32))) bitsLt_bf16_f32) shapeCasts_S512x128_S1x512x128

/-- An element of a row normalised by its mean square over `w` columns and multiplied by its gain. -/
def gainE {n : Nat} (w : EReal) (x g : Fin n → EReal) (k : Fin n) : EReal :=
  x k * Ideal.rsqrt (Ideal.div (∑ k' : Fin n, x k' * x k') w + Ideal.ofBits .f32 0x358637BD#32) * g k

/-- A table's entry on the turned lanes, another value off them. -/
def turnE (c : Fin 128 → EReal) (z : EReal) (l : Fin 128) : EReal := if 64 ≤ l.val ∧ l.val < 96 then c l else z

/-- A query's lane. -/
def qE (x g : Fin 256 → EReal) (c s : Fin 128 → EReal) (w w' : Fin 256 → Fin 128 → EReal) (l : Fin 128) : EReal :=
  (∑ k : Fin 256, gainE (Ideal.ofBits .f32 0x43800000#32) x g k * w k l) * turnE c (Ideal.ofBits .f32 0x3F800000#32) l
    + (∑ k : Fin 256, gainE (Ideal.ofBits .f32 0x43800000#32) x g k * w' k l) * turnE s 0 l

/-- A key's lane. -/
def kE (x g m c s : Fin 128 → EReal) (w : Fin 128 → Fin 128 → EReal) (l : Fin 128) : EReal :=
  (∑ k : Fin 128, gainE (Ideal.ofBits .f32 0x43000000#32) x g k * w k l)
    + turnE (fun l => m l * turnE c (Ideal.ofBits .f32 0x3F800000#32) l + m ⟨(l.val + 128 - 96) % 128, Nat.mod_lt _ (by norm_num)⟩ * turnE s 0 l) 0 l

/-- A value's lane. -/
def vE (x g : Fin 128 → EReal) (w : Fin 128 → Fin 128 → EReal) (l : Fin 128) : EReal :=
  if l.val < 64 then ∑ k : Fin 128, gainE (Ideal.ofBits .f32 0x43000000#32) x g k * w k l else Ideal.ofBits .f32 0x3F800000#32

theorem sel_rot {α : Type} (l : Fin 128) (x y : α) :
    Scalar.select (IntOp.andi (IntOp.cmpi CmpIPredicate.sge (BitVec.ofNat 32 l.val) 64#32) (IntOp.cmpi CmpIPredicate.slt (BitVec.ofNat 32 l.val) 96#32)) x y
      = if 64 ≤ l.val ∧ l.val < 96 then x else y := by
  have h : IntOp.cmpi CmpIPredicate.slt (BitVec.ofNat 32 l.val) 96#32 = BitVec.ofBool (decide (l.val < 96)) :=
    WordCmp.cmpi_slt_ofNat (by have := l.isLt; norm_num; omega) (by norm_num)
  have h' : IntOp.cmpi CmpIPredicate.sge (BitVec.ofNat 32 l.val) 64#32 = BitVec.ofBool (decide (64 ≤ l.val)) :=
    WordCmp.cmpi_sge_ofNat (by have := l.isLt; norm_num; omega) (by norm_num)
  rw [h, h']
  by_cases h1 : l.val < 96 <;> by_cases h2 : 64 ≤ l.val <;> simp [Scalar.select, h1, h2, IntOp.andi]

theorem qC_apply (X : Vec Ideal S1x512x256 .f32) (g : Vec Ideal S1x256 .f32) (C S : Vec Ideal S1x512x128 .f32) (W W' : Vec Ideal S256x128 .bf16) (i : Fin 512) (l : Fin 128) :
    qC (F := Ideal) X g C S W W' (ix3 0 i l) = qE (fun k => X (ix3 0 i k)) (fun k => g (ix2 0 k)) (fun l => C (ix3 0 i l)) (fun l => S (ix3 0 i l)) (fun k l => W (ix2 k l)) (fun k l => W' (ix2 k l)) l := by
  pointwise [qC, nqC, cosC, sinC, rotC, qE, gainE, turnE]
  simp only [sel_rot, mul_ite, mul_zero, mul_one]

theorem kC_apply (X : Vec Ideal S1x512x128 .f32) (g : Vec Ideal S1x128 .f32) (M C S : Vec Ideal S1x512x128 .f32) (W : Vec Ideal S128x128 .bf16) (i : Fin 512) (l : Fin 128) :
    kC (F := Ideal) X g M C S W (ix3 0 i l) = kE (fun k => X (ix3 0 i k)) (fun k => g (ix2 0 k)) (fun k => M (ix3 0 i k)) (fun l => C (ix3 0 i l)) (fun l => S (ix3 0 i l)) (fun k l => W (ix2 k l)) l := by
  pointwise [kC, nkvC, krC, cosC, sinC, rotC, kE, gainE, turnE]
  simp only [sel_rot, mul_ite, mul_zero, mul_one]

theorem vC_apply (X : Vec Ideal S1x512x128 .f32) (g : Vec Ideal S1x128 .f32) (W : Vec Ideal S128x128 .bf16) (i : Fin 512) (l : Fin 128) :
    vC (F := Ideal) X g W (ix3 0 i l) = vE (fun k => X (ix3 0 i k)) (fun k => g (ix2 0 k)) (fun k l => W (ix2 k l)) l := by
  pointwise [vC, nkvC, vE, gainE]
  have h : IntOp.cmpi CmpIPredicate.slt (BitVec.ofNat 32 l.val) 64#32 = BitVec.ofBool (decide (l.val < 64)) :=
    WordCmp.cmpi_slt_ofNat (by have := l.isLt; norm_num; omega) (by norm_num)
  rw [h]
  by_cases hl : l.val < 64 <;> simp [Scalar.select, hl]

end Cert.KernelIdeal.Mla

end
-- ==== Proof.MlaRef.lean ====
/-
  The reference of the latent attention at an index: its projections, its rotary embedding, its masked logits, its softmax.
-/
module
public import proofs.«01_k».proof.Proof.Gen.ReferenceIdeal.Read
public import proofs.«01_k».proof.Proof.MlaProj
public import proofs.«01_k».proof.Proof.MlaMath

@[expose] public section

set_option maxRecDepth 16384

noncomputable section

open Idealize.ShloMosaic Idealize.ShloMosaic.TcCoe Idealize.SL.Sem

namespace Cert.ReferenceIdeal.Mla
open Cert.ReferenceIdeal Cert.ReferenceIdeal.Read
open Cert.KernelIdeal.Mla (gainE softR softmax_real)

variable (x0 : (⟨S16x2048x256, .f32⟩ : BufTy).Contents (Elt Ideal)) (x1 : (⟨S16x2048x128, .f32⟩ : BufTy).Contents (Elt Ideal)) (x2 : (⟨S16x2048x32, .f32⟩ : BufTy).Contents (Elt Ideal)) (x3 : (⟨S16x2048, .i32⟩ : BufTy).Contents (Elt Ideal)) (x4 : (⟨S16, .f32⟩ : BufTy).Contents (Elt Ideal)) (x5 : (⟨S256, .f32⟩ : BufTy).Contents (Elt Ideal)) (x6 : (⟨S256x480, .f32⟩ : BufTy).Contents (Elt Ideal)) (x7 : (⟨S128, .f32⟩ : BufTy).Contents (Elt Ideal)) (x8 : (⟨S128x640, .f32⟩ : BufTy).Contents (Elt Ideal))

/-- A row's entry of the queries' projection. -/
def qcol (b : Fin 16) (t : Fin 2048) (c : Fin 480) : EReal :=
  ∑ k : Fin 256, gainE (Ideal.ofBits .f32 0x43800000#32) (fun k => x0 (ix3 b t k)) (fun k => x5 (ix1 k)) k * x6 (ix2 k c)

/-- A row's entry of the keys' and values' projection. -/
def kvcol (b : Fin 16) (t : Fin 2048) (c : Fin 640) : EReal :=
  ∑ k : Fin 128, gainE (Ideal.ofBits .f32 0x43000000#32) (fun k => x1 (ix3 b t k)) (fun k => x7 (ix1 k)) k * x8 (ix2 k c)

/-- A position's angle. -/
def angle (b : Fin 16) (t : Fin 2048) (i : Fin 16) : EReal := FloatOps.sitofp (F := Ideal) .f32 (x3 (ix2 b t)) * x4 (ix1 i)

theorem v13_apply (b : Fin 16) (t : Fin 2048) (c : Fin 480) : val_main_v13 (F := Ideal) x0 x5 x6 (ix3 b t c) = qcol x0 x5 x6 b t c := by
  unfold qcol gainE
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]

theorem v54_apply (b : Fin 16) (t : Fin 2048) (c : Fin 640) : val_main_v54 (F := Ideal) x1 x7 x8 (ix3 b t c) = kvcol x1 x7 x8 b t c := by
  unfold kvcol gainE
  pointwise [val_main_v54, val_main_v53, val_main_v52, val_main_v51, val_main_v50, val_main_v49, val_main_v48, val_main_v47, val_main_v46, val_main_cst_4, val_main_v45, val_main_v44, val_main_cst_3, val_main_v43, val_main_v42, val_main_cst_2, val_main_v41]

theorem v57_apply (b : Fin 16) (t : Fin 2048) (h : Fin 5) (l : Fin 64) : val_main_v57 (F := Ideal) x1 x7 x8 (ix4 b t h l) = kvcol x1 x7 x8 b t ⟨h.val * 128 + (64 + l.val), by omega⟩ := by
  rw [← v54_apply]
  pointwise [val_main_v57, val_main_v55]

theorem v22_apply (b : Fin 16) (t : Fin 2048) (i : Fin 16) : val_main_v22 (F := Ideal) x3 x4 (ix3 b t i) = angle x3 x4 b t i := by
  unfold angle
  pointwise [val_main_v22, val_main_v21, val_main_v20, val_main_v19, val_main_v18, val_main_v17]

theorem v64_apply (b : Fin 16) (t : Fin 2048) (i : Fin 16) : val_main_v64 (F := Ideal) x3 x4 (ix3 b t i) = angle x3 x4 b t i := by
  unfold angle
  pointwise [val_main_v64, val_main_v63, val_main_v62, val_main_v61, val_main_v60, val_main_v59]

/-- A query's lane: the plain ones, then the two halves of the turned ones. -/
def qlane (b : Fin 16) (t : Fin 2048) (h : Fin 5) (d : Fin 96) : EReal :=
  if h0 : d.val < 64 then qcol x0 x5 x6 b t ⟨h.val * 96 + d.val, by omega⟩
  else if h1 : d.val - 64 < 16 then
    qcol x0 x5 x6 b t ⟨h.val * 96 + (64 + (d.val - 64)), by omega⟩ * Ideal.cos (angle x3 x4 b t ⟨d.val - 64, h1⟩)
      - qcol x0 x5 x6 b t ⟨h.val * 96 + (64 + (16 + (d.val - 64))), by omega⟩ * Ideal.sin (angle x3 x4 b t ⟨d.val - 64, h1⟩)
  else
    qcol x0 x5 x6 b t ⟨h.val * 96 + (64 + (16 + (d.val - 64 - 16))), by omega⟩ * Ideal.cos (angle x3 x4 b t ⟨d.val - 64 - 16, by omega⟩)
      + qcol x0 x5 x6 b t ⟨h.val * 96 + (64 + (d.val - 64 - 16)), by omega⟩ * Ideal.sin (angle x3 x4 b t ⟨d.val - 64 - 16, by omega⟩)

/-- A key's lane: the plain ones of its head, then the two halves of the turned ones, which the heads share. -/
def klane (b : Fin 16) (t : Fin 2048) (h : Fin 5) (d : Fin 96) : EReal :=
  if h0 : d.val < 64 then kvcol x1 x7 x8 b t ⟨h.val * 128 + d.val, by omega⟩
  else if h1 : d.val - 64 < 16 then
    x2 (ix3 b t ⟨d.val - 64, by omega⟩) * Ideal.cos (angle x3 x4 b t ⟨d.val - 64, h1⟩)
      - x2 (ix3 b t ⟨16 + (d.val - 64), by omega⟩) * Ideal.sin (angle x3 x4 b t ⟨d.val - 64, h1⟩)
  else
    x2 (ix3 b t ⟨16 + (d.val - 64 - 16), by omega⟩) * Ideal.cos (angle x3 x4 b t ⟨d.val - 64 - 16, by omega⟩)
      + x2 (ix3 b t ⟨d.val - 64 - 16, by omega⟩) * Ideal.sin (angle x3 x4 b t ⟨d.val - 64 - 16, by omega⟩)

theorem v40_apply (b : Fin 16) (t : Fin 2048) (h : Fin 5) (d : Fin 96) : val_main_v40 (F := Ideal) x0 x3 x4 x5 x6 (ix4 b t h d) = qlane x0 x3 x4 x5 x6 b t h d := by
  unfold qlane
  simp only [← v13_apply, ← v22_apply]
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v16, val_main_v15, val_main_v14]

theorem v79_apply (b : Fin 16) (t : Fin 2048) (h : Fin 5) (d : Fin 96) : val_main_v79 (F := Ideal) x1 x2 x3 x4 x7 x8 (ix4 b t h d) = klane x1 x2 x3 x4 x7 x8 b t h d := by
  unfold klane
  simp only [← v54_apply, ← v64_apply]
  pointwise [val_main_v79, val_main_v78, val_main_v77, val_main_v76, val_main_v75, val_main_v74, val_main_v73, val_main_v72, val_main_v71, val_main_v70, val_main_v69, val_main_v68, val_main_v67, val_main_v66, val_main_v65, val_main_v58, val_main_v56, val_main_v55]

theorem reduces : S16x5x2048x2048.Reduces [3] S16x5x2048 := by decide

theorem rowMax (v : S16x5x2048x2048.Idx → EReal) (w : S_.Idx → EReal) (b : Fin 16) (h : Fin 5) (t : Fin 2048) (hr : S16x5x2048x2048.ReducesTo [3] S16x5x2048) (hu : 0 < S_.numel) :
    Host.reduce (α := EReal) max v w hr hu (ix3 b h t) = Finset.fold max (w (Shape.Idx.first hu)) (fun j : Fin 2048 => v (ix4 b h t j)) Finset.univ := by
  rw [Host.reduce_eq_fold_single _ _ _ _ reduces]
  have e : ∀ j : Fin 2048, reduces.lift (ix3 b h t) j = ix4 b h t j := fun j => by
    funext a
    fin_cases a <;> rfl
  exact congrArg (fun f => Finset.fold max (w (Shape.Idx.first hu)) f Finset.univ) (funext fun j => congrArg v (e j))

theorem v90_apply (b : Fin 16) (t j : Fin 2048) (h : Fin 5) : val_main_v90 (F := Ideal) x0 x1 x2 x3 x4 x5 x6 x7 x8 (ix4 b h t j)
    = if j.val ≤ t.val then Ideal.div (∑ x : Fin 96, val_main_v40 (F := Ideal) x0 x3 x4 x5 x6 (ix4 b t h x) * val_main_v79 (F := Ideal) x1 x2 x3 x4 x7 x8 (ix4 b j h x)) (Ideal.sqrt (Ideal.ofBits .f32 0x42C00000#32))
      else Ideal.ofBits .f32 0xFF800000#32 := by
  rw [← Cert.KernelIdeal.Mla.sel_le _ _ j.isLt t.isLt]
  pointwise [val_main_v90, val_main_call0_v1, val_main_call0_v2, val_main_call0_v0, val_main_v89, val_main_v88, val_main_v87, val_main_v86, val_main_v85, val_main_v84, val_main_v83, val_main_v82, val_main_v81, val_main_v80, val_main_cst_5, val_main_cst_6]
  rfl

theorem v93_apply (b : Fin 16) (t : Fin 2048) (h : Fin 5) : val_main_v93 (F := Ideal) x0 x1 x2 x3 x4 x5 x6 x7 x8 (ix3 b h t)
    = max (Ideal.ofBits .f32 0xFF800000#32) (Finset.fold max (Ideal.ofBits .f32 0xFF800000#32) (fun j : Fin 2048 => val_main_v90 (F := Ideal) x0 x1 x2 x3 x4 x5 x6 x7 x8 (ix4 b h t j)) Finset.univ) := by
  rw [val_main_v93_apply]
  refine congrArg₂ (max (α := EReal)) rfl ?_
  exact rowMax (val_main_v90 (F := Ideal) x0 x1 x2 x3 x4 x5 x6 x7 x8) (val_main_cst_7 (F := Ideal)) b h t _ _

theorem v97_apply (b : Fin 16) (t j : Fin 2048) (h : Fin 5) : val_main_v97 (F := Ideal) x0 x1 x2 x3 x4 x5 x6 x7 x8 (ix4 b h t j)
    = Ideal.exp (val_main_v90 (F := Ideal) x0 x1 x2 x3 x4 x5 x6 x7 x8 (ix4 b h t j) - val_main_v93 (F := Ideal) x0 x1 x2 x3 x4 x5 x6 x7 x8 (ix3 b h t)) := by
  pointwise [val_main_v97, val_main_v96, val_main_v95, val_main_v94]

theorem v101_apply (b : Fin 16) (t j : Fin 2048) (h : Fin 5) : val_main_v101 (F := Ideal) x0 x1 x2 x3 x4 x5 x6 x7 x8 (ix4 b h t j)
    = Ideal.div (val_main_v97 (F := Ideal) x0 x1 x2 x3 x4 x5 x6 x7 x8 (ix4 b h t j)) (∑ j : Fin 2048, val_main_v97 (F := Ideal) x0 x1 x2 x3 x4 x5 x6 x7 x8 (ix4 b h t j)) := by
  pointwise [val_main_v101, val_main_v100, val_main_v99, val_main_v98, val_main_cst_9]

theorem v103_apply (b : Fin 16) (t : Fin 2048) (h : Fin 5) (l : Fin 64) : val_main_v103 (F := Ideal) x0 x1 x2 x3 x4 x5 x6 x7 x8 (ix4 b t h l)
    = ∑ j : Fin 2048, val_main_v57 (F := Ideal) x1 x7 x8 (ix4 b j h l) * val_main_v101 (F := Ideal) x0 x1 x2 x3 x4 x5 x6 x7 x8 (ix4 b h t j) := by
  pointwise [val_main_v103, val_main_v102]

theorem v106_apply (b : Fin 16) (t : Fin 2048) (c : Fin 384) : val_main_v106 (F := Ideal) x0 x1 x2 x3 x4 x5 x6 x7 x8 (ix3 b t c)
    = if h : c.val < 320 then val_main_v103 (F := Ideal) x0 x1 x2 x3 x4 x5 x6 x7 x8 (ix4 b t ⟨c.val / 64, by omega⟩ ⟨c.val % 64, by omega⟩) else 0 := by
  have hz : FloatOps.sitofp (F := Ideal) .f32 (val_main_c (F := Ideal) (Shape.Idx.first Gen.h_S_)) = 0 := by
    show ((((0#32 : BitVec 32).toInt : ℝ)) : EReal) = 0
    simp
  rw [← hz]
  pointwise [val_main_v106, val_main_v105, val_main_v104, val_main_call1_v0]

/-- The reference's result on real logits and values. -/
theorem reference_real (b : Fin 16) (s : Fin 5 → Fin 2048 → Fin 2048 → ℝ) (u : Fin 5 → Fin 2048 → Fin 64 → ℝ)
    (hs : ∀ h t j, ∑ d : Fin 96, qlane x0 x3 x4 x5 x6 b t h d * klane x1 x2 x3 x4 x7 x8 b j h d = ((s h t j : ℝ) : EReal))
    (hu : ∀ h j (l : Fin 64), kvcol x1 x7 x8 b j ⟨h.val * 128 + (64 + l.val), by omega⟩ = ((u h j l : ℝ) : EReal)) (t : Fin 2048) (c : Fin 384) :
    val_main_v106 (F := Ideal) x0 x1 x2 x3 x4 x5 x6 x7 x8 (ix3 b t c)
      = if hk : c.val < 320 then ((softR (s ⟨c.val / 64, by omega⟩ t) (fun j => u ⟨c.val / 64, by omega⟩ j ⟨c.val % 64, by omega⟩) t.val : ℝ) : EReal) else 0 := by
  rw [v106_apply]
  by_cases hk : c.val < 320
  · rw [dif_pos hk, dif_pos hk, v103_apply]
    simp only [v101_apply, v97_apply, v93_apply]
    refine softmax_real _ _ t.val t.isLt (fun j => val_main_v90 (F := Ideal) x0 x1 x2 x3 x4 x5 x6 x7 x8 (ix4 b ⟨c.val / 64, by omega⟩ t j)) (fun j => val_main_v57 (F := Ideal) x1 x7 x8 (ix4 b j ⟨c.val / 64, by omega⟩ ⟨c.val % 64, by omega⟩)) ?_ ?_
    · intro j
      rw [v57_apply]
      exact hu _ _ _
    · intro j
      rw [v90_apply]
      simp only [v40_apply, v79_apply]
      rw [hs]
  · rw [dif_neg hk, dif_neg hk]

end Cert.ReferenceIdeal.Mla

end
-- ==== Proof.MlaReal.lean ====
/-
  On real arguments everything the reference of the latent attention computes before its softmax is real.
-/
module

public import proofs.«01_k».proof.Proof.MlaRef

@[expose] public section

set_option maxRecDepth 16384

noncomputable section

open Idealize.ShloMosaic Idealize.ShloMosaic.TcCoe Idealize.SL.Sem

namespace Cert.ReferenceIdeal.Mla
open Cert.ReferenceIdeal
open Cert.KernelIdeal.Mla (gainE coe_sum ofBits_256 ofBits_128 ofBits_eps)

/-- An extended real that is a real number. -/
def IsReal (x : EReal) : Prop := ∃ r : ℝ, x = (r : EReal)

theorem isReal_zero : IsReal 0 := ⟨0, rfl⟩

theorem isReal_add {x y : EReal} : IsReal x → IsReal y → IsReal (x + y) := by
  rintro ⟨a, rfl⟩ ⟨b, rfl⟩
  exact ⟨a + b, (EReal.coe_add a b).symm⟩

theorem isReal_mul {x y : EReal} : IsReal x → IsReal y → IsReal (x * y) := by
  rintro ⟨a, rfl⟩ ⟨b, rfl⟩
  exact ⟨a * b, (EReal.coe_mul a b).symm⟩

theorem isReal_sub {x y : EReal} : IsReal x → IsReal y → IsReal (x - y) := by
  rintro ⟨a, rfl⟩ ⟨b, rfl⟩
  exact ⟨a - b, (EReal.coe_sub a b).symm⟩

theorem isReal_sum {n : Nat} {f : Fin n → EReal} (h : ∀ i, IsReal (f i)) : IsReal (∑ i, f i) := by
  choose r hr using h
  exact ⟨∑ i, r i, by rw [← coe_sum]; exact Finset.sum_congr rfl fun i _ => hr i⟩

theorem isReal_cos {x : EReal} : IsReal x → IsReal (Ideal.cos x) := by
  rintro ⟨a, rfl⟩
  exact ⟨Real.cos a, Ideal.cos_coe a⟩

theorem isReal_sin {x : EReal} : IsReal x → IsReal (Ideal.sin x) := by
  rintro ⟨a, rfl⟩
  exact ⟨Real.sin a, Ideal.sin_coe a⟩

theorem isReal_gain {n : Nat} {w : ℝ} (hw : 0 < w) {x g : Fin n → EReal} (hx : ∀ k, IsReal (x k)) (hg : ∀ k, IsReal (g k)) (k : Fin n) :
    IsReal (gainE (w : EReal) x g k) := by
  unfold gainE
  refine isReal_mul (isReal_mul (hx k) ?_) (hg k)
  choose r hr using hx
  obtain ⟨e, he, hv⟩ := ofBits_eps
  have hs : ∑ k' : Fin n, x k' * x k' = ((∑ k', r k' * r k' : ℝ) : EReal) := by
    rw [← coe_sum]
    exact Finset.sum_congr rfl fun i _ => by rw [hr i, EReal.coe_mul]
  have hp : 0 ≤ ∑ k', r k' * r k' := Finset.sum_nonneg fun i _ => mul_self_nonneg _
  have hq : 0 < (∑ k', r k' * r k') * (1 / w) + e := add_pos_of_nonneg_of_pos (mul_nonneg hp (one_div_pos.mpr hw).le) he
  rw [hs, hv, Ideal.div_coe hw.ne', ← EReal.coe_mul, ← EReal.coe_add, Ideal.rsqrt_coe, if_neg (not_lt.mpr hq.le), if_neg hq.ne']
  exact ⟨_, rfl⟩

variable (x0 : (⟨S16x2048x256, .f32⟩ : BufTy).Contents (Elt Ideal)) (x1 : (⟨S16x2048x128, .f32⟩ : BufTy).Contents (Elt Ideal)) (x2 : (⟨S16x2048x32, .f32⟩ : BufTy).Contents (Elt Ideal)) (x3 : (⟨S16x2048, .i32⟩ : BufTy).Contents (Elt Ideal)) (x4 : (⟨S16, .f32⟩ : BufTy).Contents (Elt Ideal)) (x5 : (⟨S256, .f32⟩ : BufTy).Contents (Elt Ideal)) (x6 : (⟨S256x480, .f32⟩ : BufTy).Contents (Elt Ideal)) (x7 : (⟨S128, .f32⟩ : BufTy).Contents (Elt Ideal)) (x8 : (⟨S128x640, .f32⟩ : BufTy).Contents (Elt Ideal))
  (r0 : ∀ i, IsReal (x0 i)) (r1 : ∀ i, IsReal (x1 i)) (r2 : ∀ i, IsReal (x2 i)) (r4 : ∀ i, IsReal (x4 i)) (r5 : ∀ i, IsReal (x5 i)) (r6 : ∀ i, IsReal (x6 i)) (r7 : ∀ i, IsReal (x7 i)) (r8 : ∀ i, IsReal (x8 i))

include r0 r5 r6 in
theorem isReal_qterm (b : Fin 16) (t : Fin 2048) (k : Fin 256) (c : Fin 480) :
    IsReal (gainE (Ideal.ofBits .f32 0x43800000#32) (fun k => x0 (ix3 b t k)) (fun k => x5 (ix1 k)) k * x6 (ix2 k c)) := by
  rw [ofBits_256]
  exact isReal_mul (isReal_gain (by norm_num) (fun k => r0 _) (fun k => r5 _) k) (r6 _)

include r0 r5 r6 in
theorem isReal_qcol (b : Fin 16) (t : Fin 2048) (c : Fin 480) : IsReal (qcol x0 x5 x6 b t c) :=
  isReal_sum fun k => isReal_qterm x0 x5 x6 r0 r5 r6 b t k c

include r1 r7 r8 in
theorem isReal_kvcol (b : Fin 16) (t : Fin 2048) (c : Fin 640) : IsReal (kvcol x1 x7 x8 b t c) := by
  unfold kvcol
  rw [ofBits_128]
  exact isReal_sum fun k => isReal_mul (isReal_gain (by norm_num) (fun k => r1 _) (fun k => r7 _) k) (r8 _)

include r4 in
theorem isReal_angle (b : Fin 16) (t : Fin 2048) (i : Fin 16) : IsReal (angle x3 x4 b t i) :=
  isReal_mul ⟨_, rfl⟩ (r4 _)

include r0 r4 r5 r6 in
theorem isReal_qlane (b : Fin 16) (t : Fin 2048) (h : Fin 5) (d : Fin 96) : IsReal (qlane x0 x3 x4 x5 x6 b t h d) := by
  unfold qlane
  split_ifs
  all_goals first
    | exact isReal_qcol x0 x5 x6 r0 r5 r6 _ _ _
    | exact isReal_sub (isReal_mul (isReal_qcol x0 x5 x6 r0 r5 r6 _ _ _) (isReal_cos (isReal_angle x3 x4 r4 _ _ _))) (isReal_mul (isReal_qcol x0 x5 x6 r0 r5 r6 _ _ _) (isReal_sin (isReal_angle x3 x4 r4 _ _ _)))
    | exact isReal_add (isReal_mul (isReal_qcol x0 x5 x6 r0 r5 r6 _ _ _) (isReal_cos (isReal_angle x3 x4 r4 _ _ _))) (isReal_mul (isReal_qcol x0 x5 x6 r0 r5 r6 _ _ _) (isReal_sin (isReal_angle x3 x4 r4 _ _ _)))

include r1 r2 r4 r7 r8 in
theorem isReal_klane (b : Fin 16) (t : Fin 2048) (h : Fin 5) (d : Fin 96) : IsReal (klane x1 x2 x3 x4 x7 x8 b t h d) := by
  unfold klane
  split_ifs
  all_goals first
    | exact isReal_kvcol x1 x7 x8 r1 r7 r8 _ _ _
    | exact isReal_sub (isReal_mul (r2 _) (isReal_cos (isReal_angle x3 x4 r4 _ _ _))) (isReal_mul (r2 _) (isReal_sin (isReal_angle x3 x4 r4 _ _ _)))
    | exact isReal_add (isReal_mul (r2 _) (isReal_cos (isReal_angle x3 x4 r4 _ _ _))) (isReal_mul (r2 _) (isReal_sin (isReal_angle x3 x4 r4 _ _ _)))

include r0 r1 r2 r4 r5 r6 r7 r8 in
theorem isReal_logit (b : Fin 16) (h : Fin 5) (t j : Fin 2048) :
    IsReal (∑ d : Fin 96, qlane x0 x3 x4 x5 x6 b t h d * klane x1 x2 x3 x4 x7 x8 b j h d) :=
  isReal_sum fun d => isReal_mul (isReal_qlane x0 x3 x4 x5 x6 r0 r4 r5 r6 b t h d) (isReal_klane x1 x2 x3 x4 x7 x8 r1 r2 r4 r7 r8 b j h d)

end Cert.ReferenceIdeal.Mla

end
-- ==== Proof.MlaPre.lean ====
/-
  What the precondition of the latent attention's claim says of its arguments.
-/
module

public import proofs.«01_k».proof.Pre_finite
public import proofs.«01_k».proof.Proof.MlaMath
public import proofs.«01_k».proof.Proof.MlaReal
public import Idealize.ShloMosaic.Lib.ReduceAll
public import Idealize.ShloMosaic.Lib.Affine

@[expose] public section

set_option maxRecDepth 16384

noncomputable section

open Idealize.ShloMosaic Idealize.ShloMosaic.TcCoe Idealize.SL.Sem

namespace Cert.Pre_finite.Mla
open Cert.Pre_finite
open Cert.ReferenceIdeal.Mla (IsReal)

theorem facts : Cert.Pre_finite.Facts where
  bcast_S_S16x2048x256 := by decide
  reducesTo_S16x2048x256_S_d0_1_2 := by decide
  h_S_ := by decide
  bcast_S_S16x2048x128 := by decide
  reducesTo_S16x2048x128_S_d0_1_2 := by decide
  bcast_S_S16x2048x32 := by decide
  reducesTo_S16x2048x32_S_d0_1_2 := by decide
  bcast_S_S16 := by decide
  reducesTo_S16_S_d0 := by decide
  bcast_S_S256 := by decide
  reducesTo_S256_S_d0 := by decide
  bcast_S_S256x480 := by decide
  reducesTo_S256x480_S_d0_1 := by decide
  bcast_S_S128 := by decide
  reducesTo_S128_S_d0 := by decide
  bcast_S_S128x640 := by decide
  reducesTo_S128x640_S_d0_1 := by decide

/-- An extended real of finite magnitude is a real number. -/
theorem real_of_abs_lt (x : EReal) (h : FloatOps.cmpf (F := Ideal) (φ := .f32) .olt (FloatOps.hostAbsf (F := Ideal) (φ := .f32) x) (Ideal.ofBits .f32 0x7F800000#32) = 1#1) : IsReal x := by
  rw [Cert.KernelIdeal.Mla.ofBits_inf, Ideal.cmpf_def] at h
  have hlt : max x (-x) < ⊤ := by
    by_contra hn
    have h' : BitVec.ofBool (decide (max x (-x) < ⊤)) = 1#1 := h
    rw [decide_eq_false hn] at h'
    exact absurd h' (by decide)
  refine ⟨x.toReal, (EReal.coe_toReal ?_ ?_).symm⟩
  · rintro rfl
    simp at hlt
  · rintro rfl
    simp at hlt

instance : Subsingleton S_.Idx := ⟨fun a b => funext fun i => i.elim0⟩

/-- One argument of the precondition: all its elements have finite magnitude. -/
theorem all_real {s : Shape} {axes : List (Fin s.rank)} (x : FVec Ideal s .f32) (hb : S_.BroadcastsInDim s (![] : Fin 0 → Fin s.rank)) (hr : s.ReducesTo axes S_) (hu : 0 < S_.numel) (w : IVec S_ 1) (j : S_.Idx)
    (h : Host.reduce IntOp.andi (cmpf .olt (Host.absf x) (broadcastInDim s ![] hb (constant (F := Ideal) S_ .f32 0x7F800000#32))) w hr hu j = 1#1) (i : s.Idx) : IsReal (x i) :=
  real_of_abs_lt (x i) (Host.reduce_andi_all _ _ hr hu j h i)

theorem real_args (x0 : FVec Ideal S16x2048x256 .f32) (x1 : FVec Ideal S16x2048x128 .f32) (x2 : FVec Ideal S16x2048x32 .f32) (x3 : IVec S16x2048 32) (x4 : FVec Ideal S16 .f32) (x5 : FVec Ideal S256 .f32) (x6 : FVec Ideal S256x480 .f32) (x7 : FVec Ideal S128 .f32) (x8 : FVec Ideal S128x640 .f32)
    (h : @fn facts Ideal _ x0 x1 x2 x3 x4 x5 x6 x7 x8 = fun _ => 1#1) :
    (∀ i, IsReal (x0 i)) ∧ (∀ i, IsReal (x1 i)) ∧ (∀ i, IsReal (x2 i)) ∧ (∀ i, IsReal (x4 i)) ∧ (∀ i, IsReal (x5 i)) ∧ (∀ i, IsReal (x6 i)) ∧ (∀ i, IsReal (x7 i)) ∧ (∀ i, IsReal (x8 i)) := by
  have j : S_.Idx := fun i => i.elim0
  obtain ⟨h, h8⟩ := IntOp.andi_eq_one.1 (congrFun h j)
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h2⟩ := IntOp.andi_eq_one.1 h
  obtain ⟨h0, h1⟩ := IntOp.andi_eq_one.1 h
  exact ⟨all_real x0 _ _ _ _ j h0, all_real x1 _ _ _ _ j h1, all_real x2 _ _ _ _ j h2, all_real x4 _ _ _ _ j h4, all_real x5 _ _ _ _ j h5, all_real x6 _ _ _ _ j h6, all_real x7 _ _ _ _ j h7, all_real x8 _ _ _ _ j h8⟩

end Cert.Pre_finite.Mla

end
-- ==== Proof.Modulation.lean ====
/-
  The modulation's projection: on finite arguments the kernel's split product is the plain product.
-/
module

public import proofs.«01_k».proof.Defs
public import proofs.«01_k».proof.Pre_finite_condition
public import proofs.«01_k».proof.Proof.Gen.Kernel5Ideal.Value
public import proofs.«01_k».proof.Proof.Gen.Reference5Ideal.Read
public import proofs.«01_k».proof.Proof.Rows
public import proofs.«01_k».proof.Proof.MlaPre
public import Idealize.ShloMosaic.Lib.Pipeline.Value
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)

namespace Cert.Kernel5Ideal.Modulation
open Cert.Kernel5Ideal Cert.Kernel5Ideal.Gen Cert.Rows
open Cert.ReferenceIdeal.Mla (IsReal)

/-- An element of the modulation, from the condition's row, the weight's column and the bias. -/
def modv (c w : Fin 1024 → EReal) (b : EReal) : EReal := (∑ k : Fin 1024, swish (c k) * w k) + b

theorem sub_self_real {x : EReal} (h : IsReal x) : x - x = 0 := by
  obtain ⟨r, rfl⟩ := h
  rw [← EReal.coe_sub, sub_self, EReal.coe_zero]

theorem swish_real {x : EReal} (h : IsReal x) : IsReal (swish x) := by
  obtain ⟨r, rfl⟩ := h
  unfold swish
  rw [← EReal.coe_neg, Ideal.exp_coe, ← EReal.coe_one, ← EReal.coe_add]
  have hp : (1 : ℝ) + Real.exp (-r) ≠ 0 := by have := Real.exp_pos (-r); positivity
  exact ⟨_, (Ideal.div_coe hp _).trans (EReal.coe_mul _ _).symm⟩

/-- What the body stores, with the two products of the parts that a narrower format would lose. -/
theorem pay_apply (x0 : Vec Ideal S16x1024 .f32) (x1 : Vec Ideal S1x1024x1024 .f32) (x2 : Vec Ideal S1x1x1024 .f32) (r : Fin 16) (j : Fin 1024) :
    (k0_pay1 (F := Ideal) x0 x1 x2 (ix3 0 r j) : EReal) =
      (∑ k : Fin 1024, swish (x0 (ix2 r k)) * x1 (ix3 0 k j)) + (∑ k : Fin 1024, swish (x0 (ix2 r k)) * (x1 (ix3 0 k j) - x1 (ix3 0 k j)))
        + (∑ k : Fin 1024, (swish (x0 (ix2 r k)) - swish (x0 (ix2 r k))) * x1 (ix3 0 k j)) + x2 (ix3 0 0 j) := by
  unfold swish
  pointwise [k0_pay1]
  simp only [zero_sub]

theorem out_apply (x0 : Vec Ideal S16x1024 .f32) (x1 : Vec Ideal S1x1024x1024 .f32) (x2 : Vec Ideal S1x1x1024 .f32) (r : Fin 16) (j : Fin 1024)
    (h0 : ∀ k, IsReal (x0 (ix2 r k))) (h1 : ∀ k, IsReal (x1 (ix3 0 k j))) :
    (out0_3 (F := Ideal) x0 x1 x2 (ix3 0 r j) : EReal) = modv (fun k => x0 (ix2 r k)) (fun k => x1 (ix3 0 k j)) (x2 (ix3 0 0 j)) := by
  have hz : (![0, 0, 0] : Fin 3 → Nat) = fun _ => 0 := funext fun a => by fin_cases a <;> rfl
  have hz2 : (![0, 0] : Fin 2 → Nat) = fun _ => 0 := funext fun a => by fin_cases a <;> rfl
  have he : out0_3 (F := Ideal) x0 x1 x2 = k0_pay1 (View.ld x0 r0_0) (View.ld x1 r0_1) (View.ld x2 r0_2) := by
    unfold out0_3
    rw [View.canon_unit_zero hz]
  rw [he, show View.ld x0 r0_0 = x0 from View.ld_unit_zero hz2 _ _, show View.ld x1 r0_1 = x1 from View.ld_unit_zero hz _ _, show View.ld x2 r0_2 = x2 from View.ld_unit_zero hz _ _]
  refine (pay_apply x0 x1 x2 r j).trans ?_
  unfold modv
  rw [Finset.sum_eq_zero (f := fun k : Fin 1024 => swish (x0 (ix2 r k)) * (x1 (ix3 0 k j) - x1 (ix3 0 k j))) fun k _ => by rw [sub_self_real (h1 k), mul_zero],
    Finset.sum_eq_zero (f := fun k : Fin 1024 => (swish (x0 (ix2 r k)) - swish (x0 (ix2 r k))) * x1 (ix3 0 k j)) fun k _ => by rw [sub_self_real (swish_real (h0 k)), zero_mul],
    add_zero, add_zero]

variable (m : (ℓ : Loc nD τ sig) → Buf (Elt Ideal) ℓ)

theorem pos0 : ∀ t : Fin grid0.N, win0_0.index t 0 = 0 ∧ win0_0.index t 1 = 0 := by decide +kernel
theorem pos1 : ∀ t : Fin grid0.N, win0_1.index t 0 = t.val / 9 ∧ win0_1.index t 1 = 0 ∧ win0_1.index t 2 = t.val % 9 := by decide +kernel
theorem pos2 : ∀ t : Fin grid0.N, win0_2.index t 0 = t.val / 9 ∧ win0_2.index t 1 = 0 ∧ win0_2.index t 2 = t.val % 9 := by decide +kernel
theorem pos3 : ∀ t : Fin grid0.N, win0_3.index t 0 = t.val / 9 ∧ win0_3.index t 1 = 0 ∧ win0_3.index t 2 = t.val % 9 := by decide +kernel

theorem iblk0_apply (c : Dev nD) (t : Fin grid0.N) (r : Fin 16) (k : Fin 1024) : iblk m c 0 t (ix2 r k) = m ((c : Thread nD τ).loc main_arg0) (ix2 r k) := by
  refine Eq.trans ?_ (congrFun (V_main_arg0 m c) _)
  show V m c main_arg0 ((win0_0.rect t).emb (ix2 r k)) = _
  refine congrArg _ (funext fun a => Fin.ext ?_)
  rw [Pipeline.Window.rect_emb_val win0_0]
  fin_cases a
  · show win0_0.index t 0 * 16 + r.val = r.val
    rw [(pos0 t).1]; omega
  · show win0_0.index t 1 * 1024 + k.val = k.val
    rw [(pos0 t).2]; omega

theorem iblk1_apply (c : Dev nD) (t : Fin grid0.N) (k j : Fin 1024) (l : Fin 2) (n : Fin 9216) (hl : l.val = t.val / 9) (hn : n.val = 1024 * (t.val % 9) + j.val) :
    iblk m c 1 t (ix3 0 k j) = m ((c : Thread nD τ).loc main_arg1) (ix3 l k n) := by
  refine Eq.trans ?_ (congrFun (V_main_arg1 m c) _)
  show V m c main_arg1 ((win0_1.rect t).emb (ix3 0 k j)) = _
  refine congrArg _ (funext fun a => Fin.ext ?_)
  rw [Pipeline.Window.rect_emb_val win0_1]
  fin_cases a
  · show win0_1.index t 0 * 1 + 0 = l.val
    rw [(pos1 t).1]; omega
  · show win0_1.index t 1 * 1024 + k.val = k.val
    rw [(pos1 t).2.1]; omega
  · show win0_1.index t 2 * 1024 + j.val = n.val
    rw [(pos1 t).2.2]; omega

theorem V0_eq (c : Dev nD) : V m c main_v0 = shapeCast S2x1x9216 (m ((c : Thread nD τ).loc main_arg2)) shapeCasts_S2x9216_S2x1x9216 := by
  unfold_abbrev_sides
  after_results
  rfl

/-- The biases, read with an axis of length one between layer and column. -/
theorem bias_apply (X : S2x9216.Idx → EReal) (l : Fin 2) (n : Fin 9216) : shapeCast S2x1x9216 X shapeCasts_S2x9216_S2x1x9216 (ix3 l 0 n) = X (ix2 l n) := by
  refine shapeCast_apply _ _ _ _ ?_
  rw [Shape.rowMajor_val_two, Shape.rowMajor_val_three]
  show l.val * 9216 + n.val = (l.val * 1 + 0) * 9216 + n.val
  omega

theorem iblk2_apply (c : Dev nD) (t : Fin grid0.N) (j : Fin 1024) (l : Fin 2) (n : Fin 9216) (hl : l.val = t.val / 9) (hn : n.val = 1024 * (t.val % 9) + j.val) :
    iblk m c 2 t (ix3 0 0 j) = m ((c : Thread nD τ).loc main_arg2) (ix2 l n) := by
  refine Eq.trans ?_ ((congrFun (V0_eq m c) _).trans (bias_apply _ l n))
  show V m c main_v0 ((win0_2.rect t).emb (ix3 0 0 j)) = _
  refine congrArg _ (funext fun a => Fin.ext ?_)
  rw [Pipeline.Window.rect_emb_val win0_2]
  fin_cases a
  · show win0_2.index t 0 * 1 + 0 = l.val
    rw [(pos2 t).1]; omega
  · show win0_2.index t 1 * 1 + 0 = 0
    rw [(pos2 t).2.1]
  · show win0_2.index t 2 * 1024 + j.val = n.val
    rw [(pos2 t).2.2]; omega

/-- The result array of finite arguments, element by element. -/
theorem arr_apply (c : Dev nD) (h0 : ∀ i, IsReal (m ((c : Thread nD τ).loc main_arg0) i)) (h1 : ∀ i, IsReal (m ((c : Thread nD τ).loc main_arg1) i)) (l : Fin 2) (b : Fin 16) (n : Fin 9216) :
    ((dats m 0 c).arrAt 3 cfg0.N (ix3 l b n) : EReal) =
      modv (fun k => m ((c : Thread nD τ).loc main_arg0) (ix2 b k)) (fun k => m ((c : Thread nD τ).loc main_arg1) (ix3 l k n)) (m ((c : Thread nD τ).loc main_arg2) (ix2 l n)) := by
  have hN : grid0.N = 18 := rfl
  obtain ⟨t, ht⟩ : ∃ t : Fin grid0.N, t.val = 9 * l.val + n.val / 1024 := ⟨⟨9 * l.val + n.val / 1024, by omega⟩, rfl⟩
  obtain ⟨j, hj⟩ : ∃ j : Fin 1024, j.val = n.val % 1024 := ⟨⟨n.val % 1024, by omega⟩, rfl⟩
  have hl : l.val = t.val / 9 := by omega
  have hn : n.val = 1024 * (t.val % 9) + j.val := by omega
  have hfl : (dats m 0 c).flushed 3 t (ix3 0 b j) = (dats m 0 c).arrAt 3 cfg0.N (ix3 l b n) := by
    rw [← Value.blocks3 m c t (flush0_3 t)]
    show (dats m 0 c).arrAt 3 cfg0.N ((win0_3.rect t).emb (ix3 0 b j)) = _
    refine congrArg _ (funext fun a => Fin.ext ?_)
    rw [Pipeline.Window.rect_emb_val win0_3]
    fin_cases a
    · show win0_3.index t 0 * 1 + 0 = l.val
      rw [(pos3 t).1]; omega
    · show win0_3.index t 1 * 16 + b.val = b.val
      rw [(pos3 t).2.1]; omega
    · show win0_3.index t 2 * 1024 + j.val = n.val
      rw [(pos3 t).2.2]; omega
  rw [← hfl, Value.flushed3]
  refine (out_apply _ _ _ b j ?_ ?_).trans ?_
  · intro k
    rw [iblk0_apply m c t b k]
    exact h0 _
  · intro k
    rw [iblk1_apply m c t k j l n hl hn]
    exact h1 _
  · rw [iblk2_apply m c t j l n hl hn]
    simp only [iblk0_apply m c t b, iblk1_apply m c t _ j l n hl hn]

end Cert.Kernel5Ideal.Modulation

namespace Cert.Reference5Ideal.Modulation
open Cert.Reference5Ideal Cert.Reference5Ideal.Gen Cert.Reference5Ideal.Read Cert.Rows
open Cert.Kernel5Ideal.Modulation (modv)

/-- The first layer's vectors. -/
theorem first_apply (x0 : (⟨S16x1024, .f32⟩ : BufTy).Contents (Elt Ideal)) (x1 : (⟨S2x1024x9216, .f32⟩ : BufTy).Contents (Elt Ideal)) (x2 : (⟨S2x9216, .f32⟩ : BufTy).Contents (Elt Ideal)) (b : Fin 16) (n : Fin 9216) :
    (val_main_v19 (F := Ideal) x0 x1 x2 (ix3 0 b n) : EReal) = modv (fun k => x0 (ix2 b k)) (fun k => x1 (ix3 0 k n)) (x2 (ix2 0 n)) := by
  unfold modv
  simp only [← mul_sigmoid]
  pointwise [val_main_v19, val_main_v17, val_main_v18, val_main_v8, val_main_v7, val_main_v6, val_main_v5, val_main_v4, val_main_v3, val_main_v2, val_main_v1, val_main_v0, val_main_call0_v0, val_main_call0_v1, val_main_call0_v2, val_main_call0_v3, val_main_call0_v4, val_main_call0_v5, val_main_call0_cst, val_main_call0_cst_0]

/-- The second layer's vectors. -/
theorem second_apply (x0 : (⟨S16x1024, .f32⟩ : BufTy).Contents (Elt Ideal)) (x1 : (⟨S2x1024x9216, .f32⟩ : BufTy).Contents (Elt Ideal)) (x2 : (⟨S2x9216, .f32⟩ : BufTy).Contents (Elt Ideal)) (b : Fin 16) (n : Fin 9216) :
    (val_main_v19 (F := Ideal) x0 x1 x2 (ix3 1 b n) : EReal) = modv (fun k => x0 (ix2 b k)) (fun k => x1 (ix3 1 k n)) (x2 (ix2 1 n)) := by
  unfold modv
  simp only [← mul_sigmoid]
  pointwise [val_main_v19, val_main_v17, val_main_v18, val_main_v16, val_main_v15, val_main_v14, val_main_v13, val_main_v12, val_main_v11, val_main_v10, val_main_v9, val_main_v0, val_main_call0_v0, val_main_call0_v1, val_main_call0_v2, val_main_call0_v3, val_main_call0_v4, val_main_call0_v5, val_main_call0_cst, val_main_call0_cst_0]

end Cert.Reference5Ideal.Modulation

namespace Cert.Kernel5Ideal.Modulation
open Cert.Kernel5Ideal Cert.Kernel5Ideal.Gen
open Cert.ReferenceIdeal.Mla (IsReal)

/-- On finite arguments the kernel's result array is the reference's result. -/
theorem arr_eq (m : (ℓ : Loc nD τ sig) → Buf (Elt Ideal) ℓ) (c : Dev nD) (h0 : ∀ i, IsReal (m ((c : Thread nD τ).loc main_arg0) i)) (h1 : ∀ i, IsReal (m ((c : Thread nD τ).loc main_arg1) i)) :
    (dats m 0 c).arrAt 3 cfg0.N = Cert.Reference5Ideal.Read.val_main_v19 (F := Ideal) (m ((c : Thread nD τ).loc main_arg0)) (m ((c : Thread nD τ).loc main_arg1)) (m ((c : Thread nD τ).loc main_arg2)) := by
  funext i
  obtain ⟨l, b, n, rfl⟩ : ∃ (l : Fin 2) (b : Fin 16) (n : Fin 9216), i = ix3 l b n := ⟨i 0, i 1, i 2, funext fun a => by fin_cases a <;> rfl⟩
  refine (arr_apply m c h0 h1 l b n).trans ?_
  fin_cases l
  · exact (Cert.Reference5Ideal.Modulation.first_apply _ _ _ b n).symm
  · exact (Cert.Reference5Ideal.Modulation.second_apply _ _ _ b n).symm

end Cert.Kernel5Ideal.Modulation

namespace Cert.Pre_finite_condition.Modulation
open Cert.Pre_finite_condition
open Cert.ReferenceIdeal.Mla (IsReal)
open Cert.Pre_finite.Mla (real_of_abs_lt)

theorem facts : Cert.Pre_finite_condition.Facts where
  bcast_S_S16x1024 := by decide
  reducesTo_S16x1024_S_d0_1 := by decide
  h_S_ := by decide
  bcast_S_S2x1024x9216 := by decide
  reducesTo_S2x1024x9216_S_d0_1_2 := by decide

instance : Subsingleton S_.Idx := ⟨fun a b => funext fun i => i.elim0⟩

/-- What the precondition says of the condition and of the weights. -/
theorem real_args (x0 : FVec Ideal S16x1024 .f32) (x1 : FVec Ideal S2x1024x9216 .f32) (x2 : FVec Ideal S2x9216 .f32)
    (h : @fn facts Ideal _ x0 x1 x2 = fun _ => 1#1) : (∀ i, IsReal (x0 i)) ∧ (∀ i, IsReal (x1 i)) := by
  have j : S_.Idx := fun i => i.elim0
  obtain ⟨h0, h1⟩ := IntOp.andi_eq_one.1 (congrFun h j)
  exact ⟨fun i => real_of_abs_lt _ (Host.reduce_andi_all _ _ _ _ j h0 i), fun i => real_of_abs_lt _ (Host.reduce_andi_all _ _ _ _ j h1 i)⟩

end Cert.Pre_finite_condition.Modulation

end
-- ==== Proof.Rope.lean ====
/-
  The rotary tables: the cosine and the sine of each position's angle, laid over the lanes of two heads.
-/
module

public import proofs.«01_k».proof.Defs
public import proofs.«01_k».proof.Proof.Gen.Kernel6Ideal.Frame
public import proofs.«01_k».proof.Proof.Gen.Reference6Ideal.Read
public import proofs.«01_k».proof.Proof.InProjHost
public import Idealize.ShloMosaic.Lib.Pipeline.Value
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)

namespace Cert.Kernel6Ideal.Rope
open Cert.Kernel6Ideal Cert.Kernel6Ideal.Gen

/-- Sixteen values laid twice over the first 32 lanes of each head of 64 lanes, and one value on the other lanes. -/
def spread (x : Fin 16 → EReal) (z : EReal) (j : Fin 128) : EReal := if j.val % 64 < 32 then x ⟨j.val % 16, Nat.mod_lt _ (by decide)⟩ else z

theorem spread_low (x : Fin 16 → EReal) (z : EReal) (j : Fin 128) (l : Fin 16) (h : j.val % 64 < 32) (hl : j.val % 16 = l.val) : spread x z j = x l := by
  unfold spread
  rw [if_pos h]
  exact congrArg x (Fin.ext hl)

theorem spread_high (x : Fin 16 → EReal) (z : EReal) (j : Fin 128) (h : ¬ j.val % 64 < 32) : spread x z j = z := by
  unfold spread
  rw [if_neg h]

/-- A lane is in one of six runs. -/
theorem lane_cases (j : Fin 128) : (∃ l : Fin 16, 0 + l.val = j.val) ∨ (∃ l : Fin 16, 16 + l.val = j.val) ∨ (∃ l : Fin 32, 32 + l.val = j.val)
    ∨ (∃ l : Fin 16, 64 + l.val = j.val) ∨ (∃ l : Fin 16, 80 + l.val = j.val) ∨ (∃ l : Fin 32, 96 + l.val = j.val) := by
  by_cases h0 : j.val < 16
  · exact .inl ⟨⟨j.val, h0⟩, by simp⟩
  by_cases h1 : j.val < 32
  · exact .inr (.inl ⟨⟨j.val - 16, by omega⟩, by dsimp only; omega⟩)
  by_cases h2 : j.val < 64
  · exact .inr (.inr (.inl ⟨⟨j.val - 32, by omega⟩, by dsimp only; omega⟩))
  by_cases h3 : j.val < 80
  · exact .inr (.inr (.inr (.inl ⟨⟨j.val - 64, by omega⟩, by dsimp only; omega⟩)))
  by_cases h4 : j.val < 96
  · exact .inr (.inr (.inr (.inr (.inl ⟨⟨j.val - 80, by omega⟩, by dsimp only; omega⟩))))
  · exact .inr (.inr (.inr (.inr (.inr ⟨⟨j.val - 96, by omega⟩, by dsimp only; omega⟩))))

theorem off_axis1 {m m' : Nat} (l : Fin m) (c : Fin m') (b : Fin 1) (hb : b ≠ 0) : (ix1 l b).val = (ix1 c b).val :=
  absurd (Subsingleton.elim b 0) hb

/-- The row of frequencies over the lanes. -/
def row (x : S16.Idx → EReal) (z : S32.Idx → EReal) : S128.Idx → EReal :=
  concatenate S128 0 [⟨S16, x⟩, ⟨S16, x⟩, ⟨S32, z⟩, ⟨S16, x⟩, ⟨S16, x⟩, ⟨S32, z⟩] concatenates_S16_S16_S32_S16_S16_S32_S128_d0

theorem row_apply (x : S16.Idx → EReal) (z : S32.Idx → EReal) (z0 : EReal) (hz : ∀ l, z l = z0) (j : Fin 128) : row x z (ix1 j) = spread (fun k => x (ix1 k)) z0 j := by
  unfold row
  rcases lane_cases j with ⟨l, h⟩ | ⟨l, h⟩ | ⟨l, h⟩ | ⟨l, h⟩ | ⟨l, h⟩ | ⟨l, h⟩
  · exact (concatenate_apply_piece (t := S128) 0 _ _ (ix1 j) 0 (by simp) S16 _ rfl rfl 0 rfl (ix1 l) (off_axis1 _ _) h).trans (spread_low (fun k => x (ix1 k)) z0 j l (by omega) (by omega)).symm
  · exact (concatenate_apply_piece (t := S128) 0 _ _ (ix1 j) 1 (by simp) S16 _ rfl rfl 16 rfl (ix1 l) (off_axis1 _ _) h).trans (spread_low (fun k => x (ix1 k)) z0 j l (by omega) (by omega)).symm
  · exact ((concatenate_apply_piece (t := S128) 0 _ _ (ix1 j) 2 (by simp) S32 _ rfl rfl 32 rfl (ix1 l) (off_axis1 _ _) h).trans (hz _)).trans (spread_high _ _ j (by omega)).symm
  · exact (concatenate_apply_piece (t := S128) 0 _ _ (ix1 j) 3 (by simp) S16 _ rfl rfl 64 rfl (ix1 l) (off_axis1 _ _) h).trans (spread_low (fun k => x (ix1 k)) z0 j l (by omega) (by omega)).symm
  · exact (concatenate_apply_piece (t := S128) 0 _ _ (ix1 j) 4 (by simp) S16 _ rfl rfl 80 rfl (ix1 l) (off_axis1 _ _) h).trans (spread_low (fun k => x (ix1 k)) z0 j l (by omega) (by omega)).symm
  · exact ((concatenate_apply_piece (t := S128) 0 _ _ (ix1 j) 5 (by simp) S32 _ rfl rfl 96 rfl (ix1 l) (off_axis1 _ _) h).trans (hz _)).trans (spread_high _ _ j (by omega)).symm

/-- A position as a number. -/
def num (p : BitVec 32) : EReal := ((p.toInt : ℝ) : EReal)

/-- What the body stores: the cosine of the position times the lane's frequency. -/
theorem cos_apply (x0 : Vec Ideal S1x2048x1 .i32) (x1 : Vec Ideal S1x128 .f32) (r : Fin 2048) (j : Fin 128) :
    (out0_2 (F := Ideal) x0 x1 (ix3 0 r j) : EReal) = Ideal.cos (num (x0 (ix3 0 r 0)) * x1 (ix2 0 j)) := by
  have hz : (![0, 0, 0] : Fin 3 → Nat) = fun _ => 0 := funext fun a => by fin_cases a <;> rfl
  have hz2 : (![0, 0] : Fin 2 → Nat) = fun _ => 0 := funext fun a => by fin_cases a <;> rfl
  have he : out0_2 (F := Ideal) x0 x1 = k0_pay2 (View.ld x0 r0_0) (View.ld x1 r0_1) := by
    unfold out0_2
    rw [View.canon_unit_zero hz]
  rw [he, show View.ld x0 r0_0 = x0 from View.ld_unit_zero hz _ _, show View.ld x1 r0_1 = x1 from View.ld_unit_zero hz2 _ _]
  unfold num
  pointwise [k0_pay2, k0_pay1]
  rfl

/-- What the body stores: the sine of the position times the lane's frequency. -/
theorem sin_apply (x0 : Vec Ideal S1x2048x1 .i32) (x1 : Vec Ideal S1x128 .f32) (r : Fin 2048) (j : Fin 128) :
    (out0_3 (F := Ideal) x0 x1 (ix3 0 r j) : EReal) = Ideal.sin (num (x0 (ix3 0 r 0)) * x1 (ix2 0 j)) := by
  have hz : (![0, 0, 0] : Fin 3 → Nat) = fun _ => 0 := funext fun a => by fin_cases a <;> rfl
  have hz2 : (![0, 0] : Fin 2 → Nat) = fun _ => 0 := funext fun a => by fin_cases a <;> rfl
  have he : out0_3 (F := Ideal) x0 x1 = k0_pay3 (View.ld x0 r0_0) (View.ld x1 r0_1) := by
    unfold out0_3
    rw [View.canon_unit_zero hz]
  rw [he, show View.ld x0 r0_0 = x0 from View.ld_unit_zero hz _ _, show View.ld x1 r0_1 = x1 from View.ld_unit_zero hz2 _ _]
  unfold num
  pointwise [k0_pay3, k0_pay1]
  rfl

variable (m : (ℓ : Loc nD τ sig) → Buf (Elt Ideal) ℓ)

theorem pos0 : ∀ t : Fin grid0.N, win0_0.index t 0 = t.val ∧ win0_0.index t 1 = 0 ∧ win0_0.index t 2 = 0 := by decide +kernel
theorem pos1 : ∀ t : Fin grid0.N, win0_1.index t 0 = 0 ∧ win0_1.index t 1 = 0 := by decide +kernel
theorem pos2 : ∀ t : Fin grid0.N, win0_2.index t 0 = t.val ∧ win0_2.index t 1 = 0 ∧ win0_2.index t 2 = 0 := by decide +kernel
theorem pos3 : ∀ t : Fin grid0.N, win0_3.index t 0 = t.val ∧ win0_3.index t 1 = 0 ∧ win0_3.index t 2 = 0 := by decide +kernel

theorem V3_eq (c : Dev nD) : V m c main_v3 = shapeCast S16x2048x1 (m ((c : Thread nD τ).loc main_arg0)) shapeCasts_S16x2048_S16x2048x1 := by
  unfold_abbrev_sides
  after_results
  rfl

theorem V2_eq (c : Dev nD) : V m c main_v2 = broadcastInDim S1x128 ![1] bcast_S128_S1x128_1 (row (m ((c : Thread nD τ).loc main_arg1)) (broadcastInDim S32 ![] bcast_S_S32 (constant (F := Ideal) S_ .f32 0x00000000#32))) := by
  unfold_abbrev_sides
  after_results
  rfl

/-- The positions, read with a last axis of length one. -/
theorem position_apply (X : S16x2048.Idx → BitVec 32) (b : Fin 16) (r : Fin 2048) : shapeCast S16x2048x1 X shapeCasts_S16x2048_S16x2048x1 (ix3 b r 0) = X (ix2 b r) := by
  refine shapeCast_apply _ _ _ _ ?_
  rw [Shape.rowMajor_val_two, Shape.rowMajor_val_three]
  show b.val * 2048 + r.val = (b.val * 2048 + r.val) * 1 + 0
  omega

theorem iblk0_apply (c : Dev nD) (t : Fin grid0.N) (r : Fin 2048) (b : Fin 16) (hb : b.val = t.val) : iblk m c 0 t (ix3 0 r 0) = m ((c : Thread nD τ).loc main_arg0) (ix2 b r) := by
  refine Eq.trans ?_ ((congrFun (V3_eq m c) _).trans (position_apply _ b r))
  show V m c main_v3 ((win0_0.rect t).emb (ix3 0 r 0)) = _
  refine congrArg _ (funext fun a => Fin.ext ?_)
  rw [Pipeline.Window.rect_emb_val win0_0]
  fin_cases a
  · show win0_0.index t 0 * 1 + 0 = b.val
    rw [(pos0 t).1]; omega
  · show win0_0.index t 1 * 2048 + r.val = r.val
    rw [(pos0 t).2.1]; omega
  · show win0_0.index t 2 * 1 + 0 = 0
    rw [(pos0 t).2.2]

/-- The row over an axis of length one. -/
theorem wide_apply (X : S128.Idx → EReal) (j : Fin 128) : broadcastInDim S1x128 ![1] bcast_S128_S1x128_1 X (ix2 0 j) = X (ix1 j) := by
  pointwise

theorem zero_apply (l : S32.Idx) : (broadcastInDim S32 ![] bcast_S_S32 (constant (F := Ideal) S_ .f32 0x00000000#32) l : EReal) = 0 := by
  pointwise

theorem iblk1_apply (c : Dev nD) (t : Fin grid0.N) (j : Fin 128) : iblk m c 1 t (ix2 0 j) = spread (fun k => m ((c : Thread nD τ).loc main_arg1) (ix1 k)) 0 j := by
  refine Eq.trans ?_ ((congrFun (V2_eq m c) (ix2 0 j)).trans ((wide_apply _ j).trans (row_apply _ _ 0 zero_apply j)))
  show V m c main_v2 ((win0_1.rect t).emb (ix2 0 j)) = _
  refine congrArg _ (funext fun a => Fin.ext ?_)
  rw [Pipeline.Window.rect_emb_val win0_1]
  fin_cases a
  · show win0_1.index t 0 * 1 + 0 = 0
    rw [(pos1 t).1]
  · show win0_1.index t 1 * 128 + j.val = j.val
    rw [(pos1 t).2]; omega

/-- Two grid points write different blocks of the table of cosines. -/
theorem apart2 : ∀ t t' : Fin grid0.N, win0_2.index t = win0_2.index t' → t = t' := by decide +kernel
/-- Two grid points write different blocks of the table of sines. -/
theorem apart3 : ∀ t t' : Fin grid0.N, win0_3.index t = win0_3.index t' → t = t' := by decide +kernel

theorem written2 (c : Dev nD) (t : Fin cfg0.N) : (dats m 0 c).flushed 2 t = (cfg0.win 2).cut (grid0.coords t) (out0_2 (iblk m c 0 t) (iblk m c 1 t)) :=
  congrArg ((cfg0.win 2).cut (grid0.coords t)) (after0_2 m c t)

theorem written3 (c : Dev nD) (t : Fin cfg0.N) : (dats m 0 c).flushed 3 t = (cfg0.win 3).cut (grid0.coords t) (out0_3 (iblk m c 0 t) (iblk m c 1 t)) :=
  congrArg ((cfg0.win 3).cut (grid0.coords t)) (after0_3 m c t)

/-- What a grid point wrote is its block of the final table of cosines. -/
theorem block2 (c : Dev nD) (t : Fin cfg0.N) : ((cfg0.win 2).blk t).view.read (Elt Ideal) ((dats m 0 c).arrAt 2 cfg0.N) = (dats m 0 c).flushed 2 t :=
  (dats m 0 c).read_blk_arrAt_eq_flushed 2 (fun t t' _ _ hne => (cfg0.win 2).disjoint_blk fun h => hne (apart2 t t' h)) cfg0.N t t.isLt (flush0_2 t)

/-- What a grid point wrote is its block of the final table of sines. -/
theorem block3 (c : Dev nD) (t : Fin cfg0.N) : ((cfg0.win 3).blk t).view.read (Elt Ideal) ((dats m 0 c).arrAt 3 cfg0.N) = (dats m 0 c).flushed 3 t :=
  (dats m 0 c).read_blk_arrAt_eq_flushed 3 (fun t t' _ _ hne => (cfg0.win 3).disjoint_blk fun h => hne (apart3 t t' h)) cfg0.N t t.isLt (flush0_3 t)

/-- The run, with its two tables named and the arguments as they were. -/
theorem run (ρ : Dev nD → PrngReg) : θ_run defs (onTc (τ := τ) (main (F := Ideal))) ⟨m, fun _ => 0, ρ⟩ fun r => ∀ c : Dev nD,
    r.2.mem ((c : Thread nD τ).loc main_v4_0) = (dats m 0 c).arrAt 2 cfg0.N ∧ r.2.mem ((c : Thread nD τ).loc main_v4_1) = (dats m 0 c).arrAt 3 cfg0.N
      ∧ r.2.mem ((c : Thread nD τ).loc main_arg0) = m ((c : Thread nD τ).loc main_arg0) ∧ r.2.mem ((c : Thread nD τ).loc main_arg1) = m ((c : Thread nD τ).loc main_arg1) := by
  refine θ_run_mono (run_main m ρ) fun r h c => ⟨(h c).1 2, (h c).1 3, ?_, ?_⟩
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

/-- A function of the position times the lane's frequency, spread over the lanes. -/
theorem spread_angle (f : EReal → EReal) (p : EReal) (x : Fin 16 → EReal) (j : Fin 128) : f (p * spread x 0 j) = spread (fun k => f (p * x k)) (f 0) j := by
  unfold spread
  split
  · rfl
  · rw [mul_zero]

/-- The table of cosines, element by element. -/
theorem cosines_apply (c : Dev nD) (b : Fin 16) (r : Fin 2048) (j : Fin 128) :
    ((dats m 0 c).arrAt 2 cfg0.N (ix3 b r j) : EReal) = spread (fun k => Ideal.cos (num (m ((c : Thread nD τ).loc main_arg0) (ix2 b r)) * m ((c : Thread nD τ).loc main_arg1) (ix1 k))) (Ideal.cos 0) j := by
  obtain ⟨t, ht⟩ : ∃ t : Fin grid0.N, b.val = t.val := ⟨⟨b.val, b.isLt⟩, rfl⟩
  have hfl : (dats m 0 c).flushed 2 t (ix3 0 r j) = (dats m 0 c).arrAt 2 cfg0.N (ix3 b r j) := by
    rw [← block2 m c t]
    show (dats m 0 c).arrAt 2 cfg0.N ((win0_2.rect t).emb (ix3 0 r j)) = _
    refine congrArg _ (funext fun a => Fin.ext ?_)
    rw [Pipeline.Window.rect_emb_val win0_2]
    fin_cases a
    · show win0_2.index t 0 * 1 + 0 = b.val
      rw [(pos2 t).1]; omega
    · show win0_2.index t 1 * 2048 + r.val = r.val
      rw [(pos2 t).2.1]; omega
    · show win0_2.index t 2 * 128 + j.val = j.val
      rw [(pos2 t).2.2]; omega
  rw [← hfl, written2 m c t]
  refine (cos_apply _ _ r j).trans ?_
  rw [iblk0_apply m c t r b ht, iblk1_apply m c t j]
  exact spread_angle _ _ _ j

/-- The table of sines, element by element. -/
theorem sines_apply (c : Dev nD) (b : Fin 16) (r : Fin 2048) (j : Fin 128) :
    ((dats m 0 c).arrAt 3 cfg0.N (ix3 b r j) : EReal) = spread (fun k => Ideal.sin (num (m ((c : Thread nD τ).loc main_arg0) (ix2 b r)) * m ((c : Thread nD τ).loc main_arg1) (ix1 k))) (Ideal.sin 0) j := by
  obtain ⟨t, ht⟩ : ∃ t : Fin grid0.N, b.val = t.val := ⟨⟨b.val, b.isLt⟩, rfl⟩
  have hfl : (dats m 0 c).flushed 3 t (ix3 0 r j) = (dats m 0 c).arrAt 3 cfg0.N (ix3 b r j) := by
    rw [← block3 m c t]
    show (dats m 0 c).arrAt 3 cfg0.N ((win0_3.rect t).emb (ix3 0 r j)) = _
    refine congrArg _ (funext fun a => Fin.ext ?_)
    rw [Pipeline.Window.rect_emb_val win0_3]
    fin_cases a
    · show win0_3.index t 0 * 1 + 0 = b.val
      rw [(pos3 t).1]; omega
    · show win0_3.index t 1 * 2048 + r.val = r.val
      rw [(pos3 t).2.1]; omega
    · show win0_3.index t 2 * 128 + j.val = j.val
      rw [(pos3 t).2.2]; omega
  rw [← hfl, written3 m c t]
  refine (sin_apply _ _ r j).trans ?_
  rw [iblk0_apply m c t r b ht, iblk1_apply m c t j]
  exact spread_angle _ _ _ j

end Cert.Kernel6Ideal.Rope

namespace Cert.Reference6Ideal.Rope
open Cert.Reference6Ideal Cert.Reference6Ideal.Gen Cert.Reference6Ideal.Read
open Cert.Kernel6Ideal.Rope (spread spread_low spread_high lane_cases num)
open Cert.Kernel4Ideal.InProj (off_axis3)

/-- The joined table over the lanes. -/
theorem table_apply (x : S16x2048x16.Idx → EReal) (z : S16x2048x32.Idx → EReal) (z0 : EReal) (hz : ∀ i, z i = z0) (b : Fin 16) (r : Fin 2048) (j : Fin 128) :
    concatenate S16x2048x128 2 [⟨S16x2048x16, x⟩, ⟨S16x2048x16, x⟩, ⟨S16x2048x32, z⟩, ⟨S16x2048x16, x⟩, ⟨S16x2048x16, x⟩, ⟨S16x2048x32, z⟩] concatenates_S16x2048x16_S16x2048x16_S16x2048x32_S16x2048x16_S16x2048x16_S16x2048x32_S16x2048x128_d2 (ix3 b r j)
      = spread (fun k => x (ix3 b r k)) z0 j := by
  rcases lane_cases j with ⟨l, h⟩ | ⟨l, h⟩ | ⟨l, h⟩ | ⟨l, h⟩ | ⟨l, h⟩ | ⟨l, h⟩
  · exact (concatenate_apply_piece (t := S16x2048x128) 2 _ _ (ix3 b r j) 0 (by simp) S16x2048x16 _ rfl rfl 0 rfl (ix3 b r l) (off_axis3 _ _) h).trans (spread_low (fun k => x (ix3 b r k)) z0 j l (by omega) (by omega)).symm
  · exact (concatenate_apply_piece (t := S16x2048x128) 2 _ _ (ix3 b r j) 1 (by simp) S16x2048x16 _ rfl rfl 16 rfl (ix3 b r l) (off_axis3 _ _) h).trans (spread_low (fun k => x (ix3 b r k)) z0 j l (by omega) (by omega)).symm
  · exact ((concatenate_apply_piece (t := S16x2048x128) 2 _ _ (ix3 b r j) 2 (by simp) S16x2048x32 _ rfl rfl 32 rfl (ix3 b r l) (off_axis3 _ _) h).trans (hz _)).trans (spread_high _ _ j (by omega)).symm
  · exact (concatenate_apply_piece (t := S16x2048x128) 2 _ _ (ix3 b r j) 3 (by simp) S16x2048x16 _ rfl rfl 64 rfl (ix3 b r l) (off_axis3 _ _) h).trans (spread_low (fun k => x (ix3 b r k)) z0 j l (by omega) (by omega)).symm
  · exact (concatenate_apply_piece (t := S16x2048x128) 2 _ _ (ix3 b r j) 4 (by simp) S16x2048x16 _ rfl rfl 80 rfl (ix3 b r l) (off_axis3 _ _) h).trans (spread_low (fun k => x (ix3 b r k)) z0 j l (by omega) (by omega)).symm
  · exact ((concatenate_apply_piece (t := S16x2048x128) 2 _ _ (ix3 b r j) 5 (by simp) S16x2048x32 _ rfl rfl 96 rfl (ix3 b r l) (off_axis3 _ _) h).trans (hz _)).trans (spread_high _ _ j (by omega)).symm

variable (x0 : (⟨S16x2048, .i32⟩ : BufTy).Contents (Elt Ideal)) (x1 : (⟨S16, .f32⟩ : BufTy).Contents (Elt Ideal))

theorem angle_apply (b : Fin 16) (r : Fin 2048) (k : Fin 16) : (val_main_v5 (F := Ideal) x0 x1 (ix3 b r k) : EReal) = num (x0 (ix2 b r)) * x1 (ix1 k) := by
  unfold num
  pointwise [val_main_v5, val_main_v4, val_main_v3, val_main_v2, val_main_v1, val_main_v0]
  rfl

theorem one_apply (i : S16x2048x32.Idx) : (val_main_v8 (F := Ideal) i : EReal) = Ideal.cos 0 := by
  refine Eq.trans (b := (1 : EReal)) ?_ ?_
  · pointwise [val_main_v8, val_main_cst]
  · rw [← EReal.coe_zero, Ideal.cos_coe, Real.cos_zero, EReal.coe_one]

theorem zero_apply (i : S16x2048x32.Idx) : (val_main_v10 (F := Ideal) i : EReal) = Ideal.sin 0 := by
  refine Eq.trans (b := (0 : EReal)) ?_ ?_
  · pointwise [val_main_v10, val_main_cst_0]
  · rw [← EReal.coe_zero, Ideal.sin_coe, Real.sin_zero]

theorem cosines_apply (b : Fin 16) (r : Fin 2048) (j : Fin 128) :
    (val_main_v9 (F := Ideal) x0 x1 (ix3 b r j) : EReal) = spread (fun k => Ideal.cos (num (x0 (ix2 b r)) * x1 (ix1 k))) (Ideal.cos 0) j := by
  refine (table_apply (val_main_v6 (F := Ideal) x0 x1) (val_main_v8 (F := Ideal)) _ one_apply b r j).trans ?_
  refine congrArg (fun f => spread f _ j) (funext fun k => ?_)
  exact congrArg Ideal.cos (angle_apply x0 x1 b r k)

theorem sines_apply (b : Fin 16) (r : Fin 2048) (j : Fin 128) :
    (val_main_v11 (F := Ideal) x0 x1 (ix3 b r j) : EReal) = spread (fun k => Ideal.sin (num (x0 (ix2 b r)) * x1 (ix1 k))) (Ideal.sin 0) j := by
  refine (table_apply (val_main_v7 (F := Ideal) x0 x1) (val_main_v10 (F := Ideal)) _ zero_apply b r j).trans ?_
  refine congrArg (fun f => spread f _ j) (funext fun k => ?_)
  exact congrArg Ideal.sin (angle_apply x0 x1 b r k)

end Cert.Reference6Ideal.Rope

namespace Cert.Kernel6Ideal.Rope
open Cert.Kernel6Ideal Cert.Kernel6Ideal.Gen

variable (m : (ℓ : Loc nD τ sig) → Buf (Elt Ideal) ℓ)

/-- The kernel's table of cosines is the reference's. -/
theorem cosines_eq (c : Dev nD) : (dats m 0 c).arrAt 2 cfg0.N = Cert.Reference6Ideal.Read.val_main_v9 (F := Ideal) (m ((c : Thread nD τ).loc main_arg0)) (m ((c : Thread nD τ).loc main_arg1)) := by
  funext i
  obtain ⟨b, r, j, rfl⟩ : ∃ (b : Fin 16) (r : Fin 2048) (j : Fin 128), i = ix3 b r j := ⟨i 0, i 1, i 2, funext fun a => by fin_cases a <;> rfl⟩
  exact (cosines_apply m c b r j).trans (Cert.Reference6Ideal.Rope.cosines_apply _ _ b r j).symm

/-- The kernel's table of sines is the reference's. -/
theorem sines_eq (c : Dev nD) : (dats m 0 c).arrAt 3 cfg0.N = Cert.Reference6Ideal.Read.val_main_v11 (F := Ideal) (m ((c : Thread nD τ).loc main_arg0)) (m ((c : Thread nD τ).loc main_arg1)) := by
  funext i
  obtain ⟨b, r, j, rfl⟩ : ∃ (b : Fin 16) (r : Fin 2048) (j : Fin 128), i = ix3 b r j := ⟨i 0, i 1, i 2, funext fun a => by fin_cases a <;> rfl⟩
  exact (sines_apply m c b r j).trans (Cert.Reference6Ideal.Rope.sines_apply _ _ b r j).symm

end Cert.Kernel6Ideal.Rope

end
-- ==== Proof.Ffn.lean ====
/-
  The first feed-forward half of the layer, at the ideal instance: the fused kernel's result is the
  reference's `h + ½ · gate · swiglu(modulate(rmsnorm h))`, element by element.
-/
module

public import proofs.«01_k».proof.Defs
public import proofs.«01_k».proof.Proof.Gen.Kernel3Ideal.Value
public import proofs.«01_k».proof.Proof.Rows
public import proofs.«01_k».proof.Proof.Gen.Reference3Ideal.Read
public import Idealize.ShloMosaic.Lib.Pipeline.Value
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen Cert.Rows

/-- One gated slab: `silu(n·wg) · (n·wu)` on 256 hidden columns, as the body spells it. -/
def act (n : FVec Ideal S1024x1024 .bf16) (wg wu : FVec Ideal S1024x256 .bf16) : FVec Ideal S1024x256 .bf16 :=
  have g : FVec Ideal S1024x256 .f32 := matmul dot_S1024x1024_S1024x256_S1024x256_1_0_0_1_n_n none n (shapeCast S1024x256 wg shapeCasts_S1024x256_S1024x256) (constant S1024x256 .f32 0x00000000#32)
  have u : FVec Ideal S1024x256 .f32 := matmul dot_S1024x1024_S1024x256_S1024x256_1_0_0_1_n_n none n (shapeCast S1024x256 wu shapeCasts_S1024x256_S1024x256) (constant S1024x256 .f32 0x00000000#32)
  truncf .bf16 (mulf (divf g (addf (broadcast S1024x256 (Scalar.ofBits .f32 0x3F800000#32)) (exp (subf (broadcast S1024x256 (Scalar.ofBits .f32 0x00000000#32)) g)))) u) bitsLt_bf16_f32

/-- One slab's contribution, added to the accumulator. -/
def step (n : FVec Ideal S1024x1024 .bf16) (acc : FVec Ideal S1024x1024 .f32) (wg wu : FVec Ideal S1024x256 .bf16) (wd : FVec Ideal S256x1024 .bf16) : FVec Ideal S1024x1024 .f32 :=
  addf acc (matmul dot_S1024x256_S256x1024_S1024x1024_1_0_0_1_n_n none (act n wg wu) (shapeCast S256x1024 wd shapeCasts_S256x1024_S256x1024) (constant S1024x1024 .f32 0x00000000#32))

/-- The residual with the halved gate. -/
def close (x : FVec Ideal S1024x1024 .f32) (gt : FVec Ideal S1x1x1024 .f32) (acc : FVec Ideal S1024x1024 .f32) : FVec Ideal S1024x1024 .f32 :=
  addf x (mulf (broadcastTo S1024x1024 (mulf (broadcast S1x1024 (Scalar.ofBits .f32 0x3F000000#32)) (shapeCast S1x1024 gt shapeCasts_S1x1x1024_S1x1024)) broadcasts_S1x1024_S1024x1024) acc)

theorem out_eq (x0 : Vec Ideal S1024x1024 .f32) (x1 : Vec Ideal S1x9x1024 .f32) (x2 : Vec Ideal S1x1024 .f32) (x3 : Vec Ideal S1024x5632 .bf16) (x4 : Vec Ideal S2816x1024 .bf16) (x5 : Vec Ideal S1x1024 .f32) :
    out0_6 x0 x1 x2 x3 x4 x5 =
      (let n := k0_pay3 (View.ld x0 r0_0) (View.ld x2 r0_1) (View.ld x1 r0_2) (View.ld x1 r0_3)
       let a0 := step n k0_pay4 (View.ld x3 r0_4) (View.ld x3 r0_5) (View.ld x4 r0_6)
       let a1 := step n a0 (View.ld x3 r0_7) (View.ld x3 r0_8) (View.ld x4 r0_9)
       let a2 := step n a1 (View.ld x3 r0_10) (View.ld x3 r0_11) (View.ld x4 r0_12)
       let a3 := step n a2 (View.ld x3 r0_13) (View.ld x3 r0_14) (View.ld x4 r0_15)
       let a4 := step n a3 (View.ld x3 r0_16) (View.ld x3 r0_17) (View.ld x4 r0_18)
       let a5 := step n a4 (View.ld x3 r0_19) (View.ld x3 r0_20) (View.ld x4 r0_21)
       let a6 := step n a5 (View.ld x3 r0_22) (View.ld x3 r0_23) (View.ld x4 r0_24)
       let a7 := step n a6 (View.ld x3 r0_25) (View.ld x3 r0_26) (View.ld x4 r0_27)
       let a8 := step n a7 (View.ld x3 r0_28) (View.ld x3 r0_29) (View.ld x4 r0_30)
       let a9 := step n a8 (View.ld x3 r0_31) (View.ld x3 r0_32) (View.ld x4 r0_33)
       let a10 := step n a9 (View.ld x3 r0_34) (View.ld x3 r0_35) (View.ld x4 r0_36)
       close (k0_pay2 (View.ld x0 r0_0)) (View.ld x1 r0_37) a10) := by
  have hz : (![0, 0] : Fin 2 → Nat) = fun _ => 0 := funext fun a => by fin_cases a <;> rfl
  unfold out0_6 k0_pay23
  rw [View.canon_unit_zero hz]
  rfl

theorem act_apply (n : FVec Ideal S1024x1024 .bf16) (wg wu : FVec Ideal S1024x256 .bf16) (r : Fin 1024) (l : Fin 256) :
    act n wg wu (ix2 r l) = swish (∑ k : Fin 1024, n (ix2 r k) * wg (ix2 k l)) * (∑ k : Fin 1024, n (ix2 r k) * wu (ix2 k l)) := by
  pointwise [act]
  simp only [swish, zero_sub]

theorem step_apply (n : FVec Ideal S1024x1024 .bf16) (acc : FVec Ideal S1024x1024 .f32) (wg wu : FVec Ideal S1024x256 .bf16) (wd : FVec Ideal S256x1024 .bf16) (r j : Fin 1024) :
    step n acc wg wu wd (ix2 r j) = acc (ix2 r j) + ∑ l : Fin 256, act n wg wu (ix2 r l) * wd (ix2 l j) := by
  pointwise [step]

theorem close_apply (x : FVec Ideal S1024x1024 .f32) (gt : FVec Ideal S1x1x1024 .f32) (acc : FVec Ideal S1024x1024 .f32) (r j : Fin 1024) :
    close x gt acc (ix2 r j) = x (ix2 r j) + (Ideal.ofBits .f32 0x3F000000#32 * gt (ix3 0 0 j)) * acc (ix2 r j) := by
  pointwise [close]

theorem pay3_apply (x : FVec Ideal S1024x1024 .f32) (g : FVec Ideal S1x1024 .f32) (sc sh : FVec Ideal S1x1x1024 .f32) (r k : Fin 1024) :
    (k0_pay3 (F := Ideal) x g sc sh (ix2 r k) : EReal) = nrm (fun k => x (ix2 r k)) (fun k => g (ix2 0 k)) (fun k => sc (ix3 0 0 k)) (fun k => sh (ix3 0 0 k)) k := by
  unfold nrm
  pointwise [k0_pay3, k0_pay2]

theorem out_apply (x0 : Vec Ideal S1024x1024 .f32) (x1 : Vec Ideal S1x9x1024 .f32) (x2 : Vec Ideal S1x1024 .f32) (x3 : Vec Ideal S1024x5632 .bf16) (x4 : Vec Ideal S2816x1024 .bf16) (x5 : Vec Ideal S1x1024 .f32) (r j : Fin 1024) :
    (out0_6 x0 x1 x2 x3 x4 x5 (ix2 r j) : EReal) =
      half (fun k => x0 (ix2 r k)) (fun k => x2 (ix2 0 k)) (fun k => x1 (ix3 0 1 k)) (fun k => x1 (ix3 0 0 k)) (fun k => x1 (ix3 0 2 k)) (fun k f => x3 (ix2 k f)) (fun f j => x4 (ix2 f j)) j := by
  rw [out_eq]
  simp only [close_apply, step_apply, act_apply, pay3_apply]
  unfold half
  rw [slabs]
  pointwise [k0_pay2, k0_pay4]
  simp only [zero_add, ← Nat.add_assoc, Nat.reduceAdd]

variable (m : (ℓ : Loc nD τ sig) → Buf (Elt Ideal) ℓ)

theorem pos0 : ∀ t : Fin grid0.N, win0_0.index t 0 = t.val ∧ win0_0.index t 1 = 0 := by decide +kernel
theorem pos1 : ∀ t : Fin grid0.N, win0_1.index t 0 = t.val / 2 ∧ win0_1.index t 1 = 0 ∧ win0_1.index t 2 = 0 := by decide +kernel

theorem iblk0_apply (c : Dev nD) (t : Fin grid0.N) (r k : Fin 1024) (i : S32768x1024.Idx) (h0 : (i 0).val = 1024 * t.val + r.val) (h1 : (i 1).val = k.val) :
    iblk m c 0 t (ix2 r k) = V m c main_v1 i := by
  show V m c main_v1 ((win0_0.rect t).emb (ix2 r k)) = _
  refine congrArg _ (funext fun a => Fin.ext ?_)
  rw [Pipeline.Window.rect_emb_val win0_0]
  fin_cases a
  · show win0_0.index t 0 * 1024 + r.val = (i 0).val
    rw [(pos0 t).1]; omega
  · show win0_0.index t 1 * 1024 + k.val = (i 1).val
    rw [(pos0 t).2]; omega

theorem iblk1_apply (c : Dev nD) (t : Fin grid0.N) (q : Fin 9) (k : Fin 1024) (b : Fin 16) (hb : b.val = t.val / 2) :
    iblk m c 1 t (ix3 0 q k) = V m c main_v2 (ix3 b q k) := by
  show V m c main_v2 ((win0_1.rect t).emb (ix3 0 q k)) = _
  refine congrArg _ (funext fun a => Fin.ext ?_)
  rw [Pipeline.Window.rect_emb_val win0_1]
  fin_cases a
  · show win0_1.index t 0 * 1 + 0 = b.val
    rw [(pos1 t).1]; omega
  · show win0_1.index t 1 * 9 + q.val = q.val
    rw [(pos1 t).2.1]; omega
  · show win0_1.index t 2 * 1024 + k.val = k.val
    rw [(pos1 t).2.2]; omega

theorem pos2 : ∀ t : Fin grid0.N, win0_2.index t 0 = 0 ∧ win0_2.index t 1 = 0 := by decide +kernel
theorem pos3 : ∀ t : Fin grid0.N, win0_3.index t 0 = 0 ∧ win0_3.index t 1 = 0 := by decide +kernel
theorem pos4 : ∀ t : Fin grid0.N, win0_4.index t 0 = 0 ∧ win0_4.index t 1 = 0 := by decide +kernel

theorem iblk2_apply (c : Dev nD) (t : Fin grid0.N) (k : Fin 1024) : iblk m c 2 t (ix2 0 k) = V m c main_v0 (ix2 0 k) := by
  show V m c main_v0 ((win0_2.rect t).emb (ix2 0 k)) = _
  refine congrArg _ (funext fun a => Fin.ext ?_)
  rw [Pipeline.Window.rect_emb_val win0_2]
  fin_cases a
  · show win0_2.index t 0 * 1 + 0 = 0
    rw [(pos2 t).1]
  · show win0_2.index t 1 * 1024 + k.val = k.val
    rw [(pos2 t).2]; omega

theorem iblk3_apply (c : Dev nD) (t : Fin grid0.N) (k : Fin 1024) (f : Fin 5632) : iblk m c 3 t (ix2 k f) = V m c main_v3 (ix2 k f) := by
  show V m c main_v3 ((win0_3.rect t).emb (ix2 k f)) = _
  refine congrArg _ (funext fun a => Fin.ext ?_)
  rw [Pipeline.Window.rect_emb_val win0_3]
  fin_cases a
  · show win0_3.index t 0 * 1024 + k.val = k.val
    rw [(pos3 t).1]; omega
  · show win0_3.index t 1 * 5632 + f.val = f.val
    rw [(pos3 t).2]; omega

theorem iblk4_apply (c : Dev nD) (t : Fin grid0.N) (f : Fin 2816) (k : Fin 1024) : iblk m c 4 t (ix2 f k) = V m c main_v4 (ix2 f k) := by
  show V m c main_v4 ((win0_4.rect t).emb (ix2 f k)) = _
  refine congrArg _ (funext fun a => Fin.ext ?_)
  rw [Pipeline.Window.rect_emb_val win0_4]
  fin_cases a
  · show win0_4.index t 0 * 2816 + f.val = f.val
    rw [(pos4 t).1]; omega
  · show win0_4.index t 1 * 1024 + k.val = k.val
    rw [(pos4 t).2]; omega

/-- The token rows of a batch, read in one line of rows. -/
theorem rows_apply (X : S16x2048x1024.Idx → EReal) (b : Fin 16) (t : Fin 2048) (k : Fin 1024) (i : S32768x1024.Idx) (h0 : (i 0).val = 2048 * b.val + t.val) (h1 : (i 1).val = k.val) :
    shapeCast S32768x1024 X shapeCasts_S16x2048x1024_S32768x1024 i = X (ix3 b t k) := by
  refine shapeCast_apply _ _ _ _ ?_
  rw [Shape.rowMajor_val_two, Shape.rowMajor_val_three]
  show (b.val * 2048 + t.val) * 1024 + k.val = (i 0).val * 1024 + (i 1).val
  omega

/-- The nine modulation vectors of a batch, read as rows. -/
theorem mods_apply (X : S16x9216.Idx → EReal) (b : Fin 16) (q : Fin 9) (k : Fin 1024) (f : Fin 9216) (hf : f.val = 1024 * q.val + k.val) :
    shapeCast S16x9x1024 X shapeCasts_S16x9216_S16x9x1024 (ix3 b q k) = X (ix2 b f) := by
  refine shapeCast_apply _ _ _ _ ?_
  rw [Shape.rowMajor_val_two, Shape.rowMajor_val_three]
  show b.val * 9216 + f.val = (b.val * 9 + q.val) * 1024 + k.val
  omega

theorem V0_eq (c : Dev nD) : V m c main_v0 = shapeCast S1x1024 (m ((c : Thread nD τ).loc main_arg2)) shapeCasts_S1024_S1x1024 := by
  unfold_abbrev_sides
  after_results
  rfl
theorem V1_eq (c : Dev nD) : V m c main_v1 = shapeCast S32768x1024 (m ((c : Thread nD τ).loc main_arg0)) shapeCasts_S16x2048x1024_S32768x1024 := by
  unfold_abbrev_sides
  after_results
  rfl
theorem V2_eq (c : Dev nD) : V m c main_v2 = shapeCast S16x9x1024 (m ((c : Thread nD τ).loc main_arg1)) shapeCasts_S16x9216_S16x9x1024 := by
  unfold_abbrev_sides
  after_results
  rfl
theorem V3_eq (c : Dev nD) : V m c main_v3 = (m ((c : Thread nD τ).loc main_arg3) : S1024x5632.Idx → EReal) := by
  unfold_abbrev_sides
  after_results
  rfl
theorem V4_eq (c : Dev nD) : V m c main_v4 = (m ((c : Thread nD τ).loc main_arg4) : S2816x1024.Idx → EReal) := by
  unfold_abbrev_sides
  after_results
  rfl

theorem pos6 : ∀ t : Fin grid0.N, win0_6.index t 0 = t.val ∧ win0_6.index t 1 = 0 := by decide +kernel

/-- The result array at row `1024·t + r`: the half of that token's row. -/
theorem arr_apply (c : Dev nD) (t : Fin grid0.N) (r j : Fin 1024) (b : Fin 16) (s : Fin 2048) (hb : b.val = t.val / 2) (hs : 2048 * b.val + s.val = 1024 * t.val + r.val)
    (i : S32768x1024.Idx) (h0 : (i 0).val = 1024 * t.val + r.val) (h1 : (i 1).val = j.val) :
    ((dats m 0 c).arrAt 6 cfg0.N i : EReal) =
      half (fun k => m ((c : Thread nD τ).loc main_arg0) (ix3 b s k)) (fun k => m ((c : Thread nD τ).loc main_arg2) (ix1 k))
        (fun k => m ((c : Thread nD τ).loc main_arg1) (ix2 b ⟨1024 + k.val, by omega⟩)) (fun k => m ((c : Thread nD τ).loc main_arg1) (ix2 b ⟨k.val, by omega⟩)) (fun k => m ((c : Thread nD τ).loc main_arg1) (ix2 b ⟨2048 + k.val, by omega⟩))
        (fun k f => m ((c : Thread nD τ).loc main_arg3) (ix2 k f)) (fun f j => m ((c : Thread nD τ).loc main_arg4) (ix2 f j)) j := by
  have hfl : (dats m 0 c).flushed 6 t (ix2 r j) = (dats m 0 c).arrAt 6 cfg0.N i := by
    rw [← Value.blocks6 m c t (flush0_6 t)]
    show (dats m 0 c).arrAt 6 cfg0.N ((win0_6.rect t).emb (ix2 r j)) = _
    refine congrArg _ (funext fun a => Fin.ext ?_)
    rw [Pipeline.Window.rect_emb_val win0_6]
    fin_cases a
    · show win0_6.index t 0 * 1024 + r.val = (i 0).val
      rw [(pos6 t).1]; omega
    · show win0_6.index t 1 * 1024 + j.val = (i 1).val
      rw [(pos6 t).2]; omega
  rw [← hfl, Value.flushed6]
  refine (out_apply _ _ _ _ _ _ r j).trans ?_
  refine half_congr j ?_ ?_ ?_ ?_ ?_ ?_ ?_
  · intro k
    exact (iblk0_apply m c t r k (ix2 ⟨1024 * t.val + r.val, by have := t.isLt; have : grid0.N = 32 := rfl; omega⟩ k) rfl rfl).trans ((congrFun (V1_eq m c) _).trans (rows_apply _ b s k _ hs.symm rfl))
  · intro k
    refine (iblk2_apply m c t k).trans ((congrFun (V0_eq m c) _).trans ?_)
    pointwise
  · intro k
    exact (iblk1_apply m c t 1 k b hb).trans ((congrFun (V2_eq m c) _).trans (mods_apply _ b 1 k _ rfl))
  · intro k
    exact (iblk1_apply m c t 0 k b hb).trans ((congrFun (V2_eq m c) _).trans (mods_apply _ b 0 k _ (by simp)))
  · intro k
    exact (iblk1_apply m c t 2 k b hb).trans ((congrFun (V2_eq m c) _).trans (mods_apply _ b 2 k _ rfl))
  · intro k f
    exact (iblk3_apply m c t k f).trans (congrFun (V3_eq m c) _)
  · intro k f
    exact (iblk4_apply m c t k f).trans (congrFun (V4_eq m c) _)

end Cert.Kernel3Ideal.Ffn

namespace Cert.Reference3Ideal.Ffn

open Cert.Reference3Ideal Cert.Reference3Ideal.Gen Cert.Reference3Ideal.Read Cert.Rows

theorem nrm_apply (x0 : (⟨S16x2048x1024, .f32⟩ : BufTy).Contents (Elt Ideal)) (x1 : (⟨S16x9216, .f32⟩ : BufTy).Contents (Elt Ideal)) (x2 : (⟨S1024, .f32⟩ : BufTy).Contents (Elt Ideal)) (b : Fin 16) (t : Fin 2048) (j : Fin 1024) :
  (val_main_v29 (F := Ideal) x0 x1 x2 (ix3 b t j) : EReal) = nrm (fun k => x0 (ix3 b t k)) (fun k => x2 (ix1 k)) (fun k => x1 (ix2 b ⟨1024 + k.val, by omega⟩)) (fun k => x1 (ix2 b ⟨k.val, by omega⟩)) j := by
  unfold nrm
  pointwise [val_main_v0, val_main_v1, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_cst, val_main_cst_0, val_main_cst_1, val_main_cst_2]

theorem mlp_apply (x0 : (⟨S16x2048x1024, .f32⟩ : BufTy).Contents (Elt Ideal)) (x1 : (⟨S16x9216, .f32⟩ : BufTy).Contents (Elt Ideal)) (x2 : (⟨S1024, .f32⟩ : BufTy).Contents (Elt Ideal)) (x3 : (⟨S1024x5632, .f32⟩ : BufTy).Contents (Elt Ideal)) (x4 : (⟨S2816x1024, .f32⟩ : BufTy).Contents (Elt Ideal)) (b : Fin 16) (t : Fin 2048) (j : Fin 1024) :
  (val_main_v41 (F := Ideal) x0 x1 x2 x3 x4 (ix3 b t j) : EReal) = half (fun k => x0 (ix3 b t k)) (fun k => x2 (ix1 k)) (fun k => x1 (ix2 b ⟨1024 + k.val, by omega⟩)) (fun k => x1 (ix2 b ⟨k.val, by omega⟩)) (fun k => x1 (ix2 b ⟨2048 + k.val, by omega⟩)) (fun k f => x3 (ix2 k f)) (fun f j => x4 (ix2 f j)) j := by
  unfold half
  pointwise [val_main_v2, val_main_v30, val_main_v31, val_main_v32, val_main_v33, val_main_v34, val_main_v35, val_main_v36, val_main_v37, val_main_v38, val_main_v39, val_main_v40, val_main_v41, val_main_call0_v0, val_main_call0_v1, val_main_call0_v2, val_main_call0_v3, val_main_call0_v4, val_main_call0_v5, val_main_call0_cst, val_main_call0_cst_0, val_main_cst_3]
  simp only [nrm_apply, mul_sigmoid]

theorem result_apply (x0 : (⟨S16x2048x1024, .f32⟩ : BufTy).Contents (Elt Ideal)) (x1 : (⟨S16x9216, .f32⟩ : BufTy).Contents (Elt Ideal)) (x2 : (⟨S1024, .f32⟩ : BufTy).Contents (Elt Ideal)) (x3 : (⟨S1024x5632, .f32⟩ : BufTy).Contents (Elt Ideal)) (x4 : (⟨S2816x1024, .f32⟩ : BufTy).Contents (Elt Ideal)) (b : Fin 16) (t : Fin 2048) (j : Fin 1024) (i : S32768x1024.Idx) (h0 : (i 0).val = 2048 * b.val + t.val) (h1 : (i 1).val = j.val) :
    val_main_v42 (F := Ideal) x0 x1 x2 x3 x4 i = val_main_v41 (F := Ideal) x0 x1 x2 x3 x4 (ix3 b t j) := by
  unfold val_main_v42
  generalize val_main_v41 (F := Ideal) x0 x1 x2 x3 x4 = X
  refine shapeCast_apply _ _ _ _ ?_
  rw [Shape.rowMajor_val_two, Shape.rowMajor_val_three]
  show (b.val * 2048 + t.val) * 1024 + j.val = (i 0).val * 1024 + (i 1).val
  omega

end Cert.Reference3Ideal.Ffn

namespace Cert.Kernel3Ideal.Ffn

open Cert.Kernel3Ideal Cert.Kernel3Ideal.Gen Cert.Rows

/-- The kernel's result array is the reference's result of the same arguments. -/
theorem arr_eq (m : (ℓ : Loc nD τ sig) → Buf (Elt Ideal) ℓ) (c : Dev nD) :
    (dats m 0 c).arrAt 6 cfg0.N = Cert.Reference3Ideal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  have hi0 : (i 0).val < 32768 := (i 0).isLt
  have hi1 : (i 1).val < 1024 := (i 1).isLt
  have hN : grid0.N = 32 := rfl
  rw [Cert.Reference3Ideal.Ffn.result_apply _ _ _ _ _ ⟨(i 0).val / 2048, by omega⟩ ⟨(i 0).val % 2048, by omega⟩ ⟨(i 1).val, hi1⟩ i (by show (i 0).val = 2048 * ((i 0).val / 2048) + (i 0).val % 2048; omega) rfl]
  refine Eq.trans ?_ (Cert.Reference3Ideal.Ffn.mlp_apply _ _ _ _ _ _ _ _).symm
  refine arr_apply m c ⟨(i 0).val / 1024, by omega⟩ ⟨(i 0).val % 1024, by omega⟩ ⟨(i 1).val, hi1⟩ ⟨(i 0).val / 2048, by omega⟩ ⟨(i 0).val % 2048, by omega⟩ ?_ ?_ i ?_ rfl
  · show (i 0).val / 2048 = (i 0).val / 1024 / 2; omega
  · show 2048 * ((i 0).val / 2048) + (i 0).val % 2048 = 1024 * ((i 0).val / 1024) + (i 0).val % 1024; omega
  · show (i 0).val = 1024 * ((i 0).val / 1024) + (i 0).val % 1024; omega

end Cert.Kernel3Ideal.Ffn
-- ==== Proof.MixFfn.lean ====
/-
  The output projection, the second feed-forward half and the closing norm, at the ideal instance: the
  fused kernel's result is the reference's, element by element.  This is the layer's result.
-/
module

public import proofs.«01_k».proof.Defs
public import proofs.«01_k».proof.Proof.Gen.Kernel2Ideal.Value
public import proofs.«01_k».proof.Proof.Ffn
public import proofs.«01_k».proof.Proof.Gen.Reference2Ideal.Read
public import Idealize.ShloMosaic.Lib.Pipeline.Value
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)

namespace Cert.Kernel2Ideal.MixFfn

open Cert.Kernel2Ideal Cert.Kernel2Ideal.Gen Cert.Rows
open Cert.Kernel3Ideal.Ffn (step close act step_apply act_apply close_apply)

/-- The closing norm of a block of rows. -/
def tail (y : FVec Ideal S1024x1024 .f32) (g : FVec Ideal S1x1024 .f32) : FVec Ideal S1024x1024 .f32 :=
  mulf (mulf y (broadcastTo S1024x1024 (rsqrt (addf (divf (shapeCast S1024x1 (multiReduction .add [1] S1024 (mulf y y) 0x00000000#32 reduces_S1024x1024_S1024 (.inl rfl) rfl) shapeCasts_S1024_S1024x1) (broadcast S1024x1 (Scalar.ofBits .f32 0x44800000#32))) (broadcast S1024x1 (Scalar.ofBits .f32 0x358637BD#32)))) broadcasts_S1024x1_S1024x1024))
    (broadcastTo S1024x1024 (shapeCast S1x1024 g shapeCasts_S1x1024_S1x1024) broadcasts_S1x1024_S1024x1024)

theorem out_eq (x0 x1 x2 : Vec Ideal S1024x384 .bf16) (x3 : Vec Ideal S1152x1024 .bf16) (x4 : Vec Ideal S1024x1024 .f32) (x5 : Vec Ideal S1x9x1024 .f32) (x6 : Vec Ideal S1x1024 .f32) (x7 : Vec Ideal S1024x5632 .bf16) (x8 : Vec Ideal S2816x1024 .bf16) (x9 : Vec Ideal S1x1024 .f32) :
    out0_10 x0 x1 x2 x3 x4 x5 x6 x7 x8 x9 =
      (let y := k0_pay1 (View.ld x0 r0_0) (View.ld x1 r0_0) (View.ld x2 r0_0) (View.ld x4 r0_1) (View.ld x5 r0_2) (View.ld x3 r0_3)
       let n := k0_pay4 (k0_pay2 (View.ld x0 r0_0) (View.ld x1 r0_0) (View.ld x2 r0_0) (View.ld x4 r0_1) (View.ld x5 r0_2) (View.ld x3 r0_3) (View.ld x6 r0_4)) (k0_pay3 (View.ld x5 r0_5)) (View.ld x5 r0_6)
       let a0 := step n (broadcast S1024x1024 (Scalar.ofBits .f32 0x00000000#32)) (View.ld x7 r0_7) (View.ld x7 r0_8) (View.ld x8 r0_9)
       let a1 := step n a0 (View.ld x7 r0_10) (View.ld x7 r0_11) (View.ld x8 r0_12)
       let a2 := step n a1 (View.ld x7 r0_13) (View.ld x7 r0_14) (View.ld x8 r0_15)
       let a3 := step n a2 (View.ld x7 r0_16) (View.ld x7 r0_17) (View.ld x8 r0_18)
       let a4 := step n a3 (View.ld x7 r0_19) (View.ld x7 r0_20) (View.ld x8 r0_21)
       let a5 := step n a4 (View.ld x7 r0_22) (View.ld x7 r0_23) (View.ld x8 r0_24)
       let a6 := step n a5 (View.ld x7 r0_25) (View.ld x7 r0_26) (View.ld x8 r0_27)
       let a7 := step n a6 (View.ld x7 r0_28) (View.ld x7 r0_29) (View.ld x8 r0_30)
       let a8 := step n a7 (View.ld x7 r0_31) (View.ld x7 r0_32) (View.ld x8 r0_33)
       let a9 := step n a8 (View.ld x7 r0_34) (View.ld x7 r0_35) (View.ld x8 r0_36)
       let a10 := step n a9 (View.ld x7 r0_37) (View.ld x7 r0_38) (View.ld x8 r0_39)
       tail (close y (View.ld x5 r0_40) a10) (View.ld x9 r0_4)) := by
  have hz : (![0, 0] : Fin 2 → Nat) = fun _ => 0 := funext fun a => by fin_cases a <;> rfl
  unfold out0_10 k0_pay20 k0_pay19 k0_pay18
  rw [View.canon_unit_zero hz]
  rfl

theorem pay1_apply (v0 v2 v4 : Vec Ideal S1024x384 .bf16) (v7 : Vec Ideal S1024x1024 .f32) (v9 : Vec Ideal S1x1x1024 .f32) (v11 : Vec Ideal S1152x1024 .bf16) (r j : Fin 1024) :
    (k0_pay1 (F := Ideal) v0 v2 v4 v7 v9 v11 (ix2 r j) : EReal) = v7 (ix2 r j) + v9 (ix3 0 0 j) * ((∑ f : Fin 384, v0 (ix2 r f) * v11 (ix2 ⟨f.val, by omega⟩ j)) + (∑ f : Fin 384, v2 (ix2 r f) * v11 (ix2 ⟨384 + f.val, by omega⟩ j)) + (∑ f : Fin 384, v4 (ix2 r f) * v11 (ix2 ⟨768 + f.val, by omega⟩ j))) := by
  pointwise [k0_pay1]
  rw [three_groups (fun f => v0 (ix2 r f)) (fun f => v2 (ix2 r f)) (fun f => v4 (ix2 r f)) (fun f => v11 (ix2 f j))]

theorem pay4_apply (v0 v2 v4 : Vec Ideal S1024x384 .bf16) (v7 : Vec Ideal S1024x1024 .f32) (v9 : Vec Ideal S1x1x1024 .f32) (v11 : Vec Ideal S1152x1024 .bf16) (g : Vec Ideal S1x1024 .f32) (sc sh : Vec Ideal S1x1x1024 .f32) (r k : Fin 1024) :
    (k0_pay4 (F := Ideal) (k0_pay2 v0 v2 v4 v7 v9 v11 g) (k0_pay3 sc) sh (ix2 r k) : EReal) = nrm (fun k => k0_pay1 (F := Ideal) v0 v2 v4 v7 v9 v11 (ix2 r k)) (fun k => g (ix2 0 k)) (fun k => sc (ix3 0 0 k)) (fun k => sh (ix3 0 0 k)) k := by
  unfold nrm
  pointwise [k0_pay4, k0_pay2, k0_pay3]

theorem tail_apply (y : FVec Ideal S1024x1024 .f32) (g : FVec Ideal S1x1024 .f32) (r j : Fin 1024) :
    tail y g (ix2 r j) = gained (fun k => y (ix2 r k)) (fun k => g (ix2 0 k)) j := by
  unfold gained
  pointwise [tail]

/-- The block's element: the closing norm of the second half of the mixed row. -/
theorem out_apply (x0 x1 x2 : Vec Ideal S1024x384 .bf16) (x3 : Vec Ideal S1152x1024 .bf16) (x4 : Vec Ideal S1024x1024 .f32) (x5 : Vec Ideal S1x9x1024 .f32) (x6 : Vec Ideal S1x1024 .f32) (x7 : Vec Ideal S1024x5632 .bf16) (x8 : Vec Ideal S2816x1024 .bf16) (x9 : Vec Ideal S1x1024 .f32) (r j : Fin 1024) :
    (out0_10 x0 x1 x2 x3 x4 x5 x6 x7 x8 x9 (ix2 r j) : EReal) =
      gained (half (fun j => x4 (ix2 r j) + x5 (ix3 0 5 j) * ((∑ f : Fin 384, x0 (ix2 r f) * x3 (ix2 ⟨f.val, by omega⟩ j)) + (∑ f : Fin 384, x1 (ix2 r f) * x3 (ix2 ⟨384 + f.val, by omega⟩ j)) + (∑ f : Fin 384, x2 (ix2 r f) * x3 (ix2 ⟨768 + f.val, by omega⟩ j))))
        (fun k => x6 (ix2 0 k)) (fun k => x5 (ix3 0 7 k)) (fun k => x5 (ix3 0 6 k)) (fun k => x5 (ix3 0 8 k)) (fun k f => x7 (ix2 k f)) (fun f j => x8 (ix2 f j))) (fun k => x9 (ix2 0 k)) j := by
  rw [out_eq]
  simp only [tail_apply, close_apply, step_apply, act_apply, pay4_apply, pay1_apply]
  unfold half
  simp only [slabs]
  pointwise
  simp only [zero_add, ← Nat.add_assoc, Nat.reduceAdd]

variable (m : (ℓ : Loc nD τ sig) → Buf (Elt Ideal) ℓ)

theorem pos0 : ∀ t : Fin grid0.N, win0_0.index t 0 = t.val ∧ win0_0.index t 1 = 0 := by decide +kernel
theorem pos1 : ∀ t : Fin grid0.N, win0_1.index t 0 = t.val ∧ win0_1.index t 1 = 0 := by decide +kernel
theorem pos2 : ∀ t : Fin grid0.N, win0_2.index t 0 = t.val ∧ win0_2.index t 1 = 0 := by decide +kernel
theorem pos4 : ∀ t : Fin grid0.N, win0_4.index t 0 = t.val ∧ win0_4.index t 1 = 0 := by decide +kernel
theorem pos10 : ∀ t : Fin grid0.N, win0_10.index t 0 = t.val ∧ win0_10.index t 1 = 0 := by decide +kernel
theorem pos3 : ∀ t : Fin grid0.N, win0_3.index t 0 = 0 ∧ win0_3.index t 1 = 0 := by decide +kernel
theorem pos6 : ∀ t : Fin grid0.N, win0_6.index t 0 = 0 ∧ win0_6.index t 1 = 0 := by decide +kernel
theorem pos7 : ∀ t : Fin grid0.N, win0_7.index t 0 = 0 ∧ win0_7.index t 1 = 0 := by decide +kernel
theorem pos8 : ∀ t : Fin grid0.N, win0_8.index t 0 = 0 ∧ win0_8.index t 1 = 0 := by decide +kernel
theorem pos9 : ∀ t : Fin grid0.N, win0_9.index t 0 = 0 ∧ win0_9.index t 1 = 0 := by decide +kernel
theorem pos5 : ∀ t : Fin grid0.N, win0_5.index t 0 = t.val / 2 ∧ win0_5.index t 1 = 0 ∧ win0_5.index t 2 = 0 := by decide +kernel

theorem iblk0_apply (c : Dev nD) (t : Fin grid0.N) (r : Fin 1024) (k : Fin 384) (i : (⟨2, ![32768, 384]⟩ : Shape).Idx) (h0 : (i 0).val = 1024 * t.val + r.val) (h1 : (i 1).val = k.val) :
    iblk m c 0 t (ix2 r k) = V m c main_v8 i := by
  show V m c main_v8 ((win0_0.rect t).emb (ix2 r k)) = _
  refine congrArg _ (funext fun a => Fin.ext ?_)
  rw [Pipeline.Window.rect_emb_val win0_0]
  fin_cases a
  · show win0_0.index t 0 * 1024 + r.val = (i 0).val
    rw [(pos0 t).1]; omega
  · show win0_0.index t 1 * 384 + k.val = (i 1).val
    rw [(pos0 t).2]; omega

theorem iblk1_apply (c : Dev nD) (t : Fin grid0.N) (r : Fin 1024) (k : Fin 384) (i : (⟨2, ![32768, 384]⟩ : Shape).Idx) (h0 : (i 0).val = 1024 * t.val + r.val) (h1 : (i 1).val = k.val) :
    iblk m c 1 t (ix2 r k) = V m c main_v6 i := by
  show V m c main_v6 ((win0_1.rect t).emb (ix2 r k)) = _
  refine congrArg _ (funext fun a => Fin.ext ?_)
  rw [Pipeline.Window.rect_emb_val win0_1]
  fin_cases a
  · show win0_1.index t 0 * 1024 + r.val = (i 0).val
    rw [(pos1 t).1]; omega
  · show win0_1.index t 1 * 384 + k.val = (i 1).val
    rw [(pos1 t).2]; omega

theorem iblk2_apply (c : Dev nD) (t : Fin grid0.N) (r : Fin 1024) (k : Fin 384) (i : (⟨2, ![32768, 384]⟩ : Shape).Idx) (h0 : (i 0).val = 1024 * t.val + r.val) (h1 : (i 1).val = k.val) :
    iblk m c 2 t (ix2 r k) = V m c main_v3 i := by
  show V m c main_v3 ((win0_2.rect t).emb (ix2 r k)) = _
  refine congrArg _ (funext fun a => Fin.ext ?_)
  rw [Pipeline.Window.rect_emb_val win0_2]
  fin_cases a
  · show win0_2.index t 0 * 1024 + r.val = (i 0).val
    rw [(pos2 t).1]; omega
  · show win0_2.index t 1 * 384 + k.val = (i 1).val
    rw [(pos2 t).2]; omega

theorem iblk4_apply (c : Dev nD) (t : Fin grid0.N) (r : Fin 1024) (k : Fin 1024) (i : (⟨2, ![32768, 1024]⟩ : Shape).Idx) (h0 : (i 0).val = 1024 * t.val + r.val) (h1 : (i 1).val = k.val) :
    iblk m c 4 t (ix2 r k) = V m c main_v18 i := by
  show V m c main_v18 ((win0_4.rect t).emb (ix2 r k)) = _
  refine congrArg _ (funext fun a => Fin.ext ?_)
  rw [Pipeline.Window.rect_emb_val win0_4]
  fin_cases a
  · show win0_4.index t 0 * 1024 + r.val = (i 0).val
    rw [(pos4 t).1]; omega
  · show win0_4.index t 1 * 1024 + k.val = (i 1).val
    rw [(pos4 t).2]; omega

theorem iblk3_apply (c : Dev nD) (t : Fin grid0.N) (k : Fin 1152) (f : Fin 1024) : iblk m c 3 t (ix2 k f) = V m c main_v17 (ix2 k f) := by
  show V m c main_v17 ((win0_3.rect t).emb (ix2 k f)) = _
  refine congrArg _ (funext fun a => Fin.ext ?_)
  rw [Pipeline.Window.rect_emb_val win0_3]
  fin_cases a
  · show win0_3.index t 0 * 1152 + k.val = k.val
    rw [(pos3 t).1]; omega
  · show win0_3.index t 1 * 1024 + f.val = f.val
    rw [(pos3 t).2]; omega

theorem iblk6_apply (c : Dev nD) (t : Fin grid0.N) (k : Fin 1) (f : Fin 1024) : iblk m c 6 t (ix2 k f) = V m c main_v20 (ix2 k f) := by
  show V m c main_v20 ((win0_6.rect t).emb (ix2 k f)) = _
  refine congrArg _ (funext fun a => Fin.ext ?_)
  rw [Pipeline.Window.rect_emb_val win0_6]
  fin_cases a
  · show win0_6.index t 0 * 1 + k.val = k.val
    rw [(pos6 t).1]; omega
  · show win0_6.index t 1 * 1024 + f.val = f.val
    rw [(pos6 t).2]; omega

theorem iblk7_apply (c : Dev nD) (t : Fin grid0.N) (k : Fin 1024) (f : Fin 5632) : iblk m c 7 t (ix2 k f) = V m c main_v21 (ix2 k f) := by
  show V m c main_v21 ((win0_7.rect t).emb (ix2 k f)) = _
  refine congrArg _ (funext fun a => Fin.ext ?_)
  rw [Pipeline.Window.rect_emb_val win0_7]
  fin_cases a
  · show win0_7.index t 0 * 1024 + k.val = k.val
    rw [(pos7 t).1]; omega
  · show win0_7.index t 1 * 5632 + f.val = f.val
    rw [(pos7 t).2]; omega

theorem iblk8_apply (c : Dev nD) (t : Fin grid0.N) (k : Fin 2816) (f : Fin 1024) : iblk m c 8 t (ix2 k f) = V m c main_v22 (ix2 k f) := by
  show V m c main_v22 ((win0_8.rect t).emb (ix2 k f)) = _
  refine congrArg _ (funext fun a => Fin.ext ?_)
  rw [Pipeline.Window.rect_emb_val win0_8]
  fin_cases a
  · show win0_8.index t 0 * 2816 + k.val = k.val
    rw [(pos8 t).1]; omega
  · show win0_8.index t 1 * 1024 + f.val = f.val
    rw [(pos8 t).2]; omega

theorem iblk9_apply (c : Dev nD) (t : Fin grid0.N) (k : Fin 1) (f : Fin 1024) : iblk m c 9 t (ix2 k f) = V m c main_v23 (ix2 k f) := by
  show V m c main_v23 ((win0_9.rect t).emb (ix2 k f)) = _
  refine congrArg _ (funext fun a => Fin.ext ?_)
  rw [Pipeline.Window.rect_emb_val win0_9]
  fin_cases a
  · show win0_9.index t 0 * 1 + k.val = k.val
    rw [(pos9 t).1]; omega
  · show win0_9.index t 1 * 1024 + f.val = f.val
    rw [(pos9 t).2]; omega

theorem iblk5_apply (c : Dev nD) (t : Fin grid0.N) (q : Fin 9) (k : Fin 1024) (b : Fin 16) (hb : b.val = t.val / 2) :
    iblk m c 5 t (ix3 0 q k) = V m c main_v19 (ix3 b q k) := by
  show V m c main_v19 ((win0_5.rect t).emb (ix3 0 q k)) = _
  refine congrArg _ (funext fun a => Fin.ext ?_)
  rw [Pipeline.Window.rect_emb_val win0_5]
  fin_cases a
  · show win0_5.index t 0 * 1 + 0 = b.val
    rw [(pos5 t).1]; omega
  · show win0_5.index t 1 * 9 + q.val = q.val
    rw [(pos5 t).2.1]; omega
  · show win0_5.index t 2 * 1024 + k.val = k.val
    rw [(pos5 t).2.2]; omega

/-- The six heads of a token, read as one row of lanes. -/
theorem heads6_apply (X : S16x2048x6x64.Idx → EReal) (b : Fin 16) (t : Fin 2048) (f : Fin 384) (i : S32768x384.Idx) (h0 : (i 0).val = 2048 * b.val + t.val) (h1 : (i 1).val = f.val) :
    shapeCast S32768x384 X shapeCasts_S16x2048x6x64_S32768x384 i = X (ix4 b t ⟨f.val / 64, by omega⟩ ⟨f.val % 64, by omega⟩) := by
  refine shapeCast_apply _ _ _ _ ?_
  rw [Shape.rowMajor_val_two, Shape.rowMajor_val_four]
  show ((b.val * 2048 + t.val) * 6 + f.val / 64) * 64 + f.val % 64 = (i 0).val * 384 + (i 1).val
  omega

/-- The five heads of a token, read as one row of lanes. -/
theorem heads5_apply (X : S16x2048x5x64.Idx → EReal) (b : Fin 16) (t : Fin 2048) (f : Fin 320) (i : S32768x320.Idx) (h0 : (i 0).val = 2048 * b.val + t.val) (h1 : (i 1).val = f.val) :
    shapeCast S32768x320 X shapeCasts_S16x2048x5x64_S32768x320 i = X (ix4 b t ⟨f.val / 64, by omega⟩ ⟨f.val % 64, by omega⟩) := by
  refine shapeCast_apply _ _ _ _ ?_
  rw [Shape.rowMajor_val_two, Shape.rowMajor_val_four]
  show ((b.val * 2048 + t.val) * 5 + f.val / 64) * 64 + f.val % 64 = (i 0).val * 320 + (i 1).val
  omega

/-- Five heads and sixty-four zero lanes. -/
def lanes (X : S16x2048x5x64.Idx → EReal) : S32768x384.Idx → EReal :=
  concatenate S32768x384 1 [⟨S32768x320, truncf (F := Ideal) .bf16 (shapeCast S32768x320 X shapeCasts_S16x2048x5x64_S32768x320) bitsLt_bf16_f32⟩, ⟨S32768x64, broadcastInDim S32768x64 ![] bcast_S_S32768x64 (constant (F := Ideal) S_ .bf16 0x0000#16)⟩] concatenates_S32768x320_S32768x64_S32768x384_d1

theorem V8_eq (c : Dev nD) : V m c main_v8 = truncf (F := Ideal) .bf16 (shapeCast S32768x384 (m ((c : Thread nD τ).loc main_arg0)) shapeCasts_S16x2048x6x64_S32768x384) bitsLt_bf16_f32 := by
  unfold_abbrev_sides
  after_results
  rfl
theorem V3_eq (c : Dev nD) : V m c main_v3 = lanes (m ((c : Thread nD τ).loc main_arg1)) := by
  unfold_abbrev_sides
  after_results
  rfl
theorem V6_eq (c : Dev nD) : V m c main_v6 = lanes (m ((c : Thread nD τ).loc main_arg2)) := by
  unfold_abbrev_sides
  after_results
  rfl
theorem V18_eq (c : Dev nD) : V m c main_v18 = shapeCast S32768x1024 (m ((c : Thread nD τ).loc main_arg3)) shapeCasts_S16x2048x1024_S32768x1024 := by
  unfold_abbrev_sides
  after_results
  rfl
theorem V19_eq (c : Dev nD) : V m c main_v19 = shapeCast S16x9x1024 (m ((c : Thread nD τ).loc main_arg4)) shapeCasts_S16x9216_S16x9x1024 := by
  unfold_abbrev_sides
  after_results
  rfl
theorem V20_eq (c : Dev nD) : V m c main_v20 = shapeCast S1x1024 (m ((c : Thread nD τ).loc main_arg6)) shapeCasts_S1024_S1x1024 := by
  unfold_abbrev_sides
  after_results
  rfl
theorem V21_eq (c : Dev nD) : V m c main_v21 = (m ((c : Thread nD τ).loc main_arg7) : S1024x5632.Idx → EReal) := by
  unfold_abbrev_sides
  after_results
  rfl
theorem V22_eq (c : Dev nD) : V m c main_v22 = (m ((c : Thread nD τ).loc main_arg8) : S2816x1024.Idx → EReal) := by
  unfold_abbrev_sides
  after_results
  rfl
theorem V23_eq (c : Dev nD) : V m c main_v23 = shapeCast S1x1024 (m ((c : Thread nD τ).loc main_arg9)) shapeCasts_S1024_S1x1024 := by
  unfold_abbrev_sides
  after_results
  rfl

/-- The output projection's rows as the kernel lays them out. -/
def wrows (w : S1024x1024.Idx → EReal) : S1152x1024.Idx → EReal :=
  let z := broadcastInDim S64x1024 ![] bcast_S_S64x1024 (constant (F := Ideal) S_ .f32 0x00000000#32)
  concatenate S1152x1024 0 [⟨S384x1024, extractStridedSlice S384x1024 ![0, 0] w slices_S1024x1024_S384x1024_0_0⟩,
    ⟨S384x1024, concatenate S384x1024 0 [⟨S320x1024, extractStridedSlice S320x1024 ![704, 0] w slices_S1024x1024_S320x1024_704_0⟩, ⟨S64x1024, z⟩] concatenates_S320x1024_S64x1024_S384x1024_d0⟩,
    ⟨S384x1024, concatenate S384x1024 0 [⟨S320x1024, extractStridedSlice S320x1024 ![384, 0] w slices_S1024x1024_S320x1024_384_0⟩, ⟨S64x1024, z⟩] concatenates_S320x1024_S64x1024_S384x1024_d0⟩] concatenates_S384x1024_S384x1024_S384x1024_S1152x1024_d0

theorem V17_eq (c : Dev nD) : V m c main_v17 = wrows (m ((c : Thread nD τ).loc main_arg5)) := by
  unfold_abbrev_sides
  after_results_simp
  rfl

theorem lanes_apply (X : S16x2048x5x64.Idx → EReal) (b : Fin 16) (t : Fin 2048) (f : Fin 384) (n : Fin 32768) (h0 : n.val = 2048 * b.val + t.val) :
    lanes X (ix2 n f) = if h : f.val < 320 then X (ix4 b t ⟨f.val / 64, by omega⟩ ⟨f.val % 64, by omega⟩) else 0 := by
  have h5 : ∀ g : Fin 320, shapeCast S32768x320 X shapeCasts_S16x2048x5x64_S32768x320 (ix2 n g) = X (ix4 b t ⟨g.val / 64, by omega⟩ ⟨g.val % 64, by omega⟩) :=
    fun g => heads5_apply X b t g _ h0 rfl
  unfold lanes
  generalize shapeCast S32768x320 X shapeCasts_S16x2048x5x64_S32768x320 = Y at h5
  pointwise
  split_ifs with h
  · exact h5 ⟨f.val, h⟩
  · rfl

theorem gain_apply (X : S1024.Idx → EReal) (k : Fin 1024) : shapeCast S1x1024 X shapeCasts_S1024_S1x1024 (ix2 0 k) = X (ix1 k) := by
  pointwise

theorem wrows_a (w : S1024x1024.Idx → EReal) (f : Fin 384) (j : Fin 1024) : wrows w (ix2 ⟨f.val, by omega⟩ j) = w (ix2 ⟨f.val, by omega⟩ j) := by
  pointwise [wrows]

theorem wrows_c (w : S1024x1024.Idx → EReal) (f : Fin 320) (j : Fin 1024) : wrows w (ix2 ⟨384 + f.val, by omega⟩ j) = w (ix2 ⟨704 + f.val, by omega⟩ j) := by
  pointwise [wrows]
  rw [dif_pos (by omega)]

theorem wrows_b (w : S1024x1024.Idx → EReal) (f : Fin 320) (j : Fin 1024) : wrows w (ix2 ⟨768 + f.val, by omega⟩ j) = w (ix2 ⟨384 + f.val, by omega⟩ j) := by
  pointwise [wrows]
  rw [dif_neg (by omega), dif_neg (by omega), dif_pos (by omega)]
  exact congrArg (fun k => w (ix2 k j)) (Fin.ext (by show 384 + (768 + f.val - 384 - 384) = 384 + f.val; omega))

/-- The result array at row `1024·t + r`: the closing norm of that token's mixed and fed-forward row. -/
theorem arr_apply (c : Dev nD) (t : Fin grid0.N) (r j : Fin 1024) (b : Fin 16) (s : Fin 2048) (hb : b.val = t.val / 2) (hs : 2048 * b.val + s.val = 1024 * t.val + r.val)
    (i : S32768x1024.Idx) (h0 : (i 0).val = 1024 * t.val + r.val) (h1 : (i 1).val = j.val) :
    ((dats m 0 c).arrAt 10 cfg0.N i : EReal) =
      gained (half (mixrow (fun f => m ((c : Thread nD τ).loc main_arg0) (ix4 b s ⟨f.val / 64, by omega⟩ ⟨f.val % 64, by omega⟩))
          (fun f => m ((c : Thread nD τ).loc main_arg1) (ix4 b s ⟨f.val / 64, by omega⟩ ⟨f.val % 64, by omega⟩))
          (fun f => m ((c : Thread nD τ).loc main_arg2) (ix4 b s ⟨f.val / 64, by omega⟩ ⟨f.val % 64, by omega⟩))
          (fun k => m ((c : Thread nD τ).loc main_arg3) (ix3 b s k)) (fun k => m ((c : Thread nD τ).loc main_arg4) (ix2 b ⟨5120 + k.val, by omega⟩))
          (fun f j => m ((c : Thread nD τ).loc main_arg5) (ix2 f j)))
        (fun k => m ((c : Thread nD τ).loc main_arg6) (ix1 k))
        (fun k => m ((c : Thread nD τ).loc main_arg4) (ix2 b ⟨7168 + k.val, by omega⟩)) (fun k => m ((c : Thread nD τ).loc main_arg4) (ix2 b ⟨6144 + k.val, by omega⟩)) (fun k => m ((c : Thread nD τ).loc main_arg4) (ix2 b ⟨8192 + k.val, by omega⟩))
        (fun k f => m ((c : Thread nD τ).loc main_arg7) (ix2 k f)) (fun f j => m ((c : Thread nD τ).loc main_arg8) (ix2 f j))) (fun k => m ((c : Thread nD τ).loc main_arg9) (ix1 k)) j := by
  have hfl : (dats m 0 c).flushed 10 t (ix2 r j) = (dats m 0 c).arrAt 10 cfg0.N i := by
    rw [← Value.blocks10 m c t (flush0_10 t)]
    show (dats m 0 c).arrAt 10 cfg0.N ((win0_10.rect t).emb (ix2 r j)) = _
    refine congrArg _ (funext fun a => Fin.ext ?_)
    rw [Pipeline.Window.rect_emb_val win0_10]
    fin_cases a
    · show win0_10.index t 0 * 1024 + r.val = (i 0).val
      rw [(pos10 t).1]; omega
    · show win0_10.index t 1 * 1024 + j.val = (i 1).val
      rw [(pos10 t).2]; omega
  have hn : 1024 * t.val + r.val < 32768 := by have := t.isLt; have : grid0.N = 32 := rfl; omega
  have hmod : ∀ (q : Fin 9) (k : Fin 1024) (f : Fin 9216), f.val = 1024 * q.val + k.val → (iblk m c 5 t (ix3 0 q k) : EReal) = m ((c : Thread nD τ).loc main_arg4) (ix2 b f) :=
    fun q k f hf => (iblk5_apply m c t q k b hb).trans ((congrFun (V19_eq m c) _).trans (Cert.Kernel3Ideal.Ffn.mods_apply _ b q k f hf))
  rw [← hfl, Value.flushed10]
  refine (out_apply _ _ _ _ _ _ _ _ _ _ r j).trans ?_
  refine gained_congr j (fun k => half_congr k ?_ ?_ ?_ ?_ ?_ ?_ ?_) ?_
  · intro k
    unfold mixrow
    refine congrArg₂ (· + ·) ?_ (congrArg₂ (· * ·) (hmod 5 k _ rfl) ?_)
    · exact (iblk4_apply m c t r k (ix2 ⟨1024 * t.val + r.val, hn⟩ k) rfl rfl).trans ((congrFun (V18_eq m c) _).trans (Cert.Kernel3Ideal.Ffn.rows_apply _ b s k _ hs.symm rfl))
    · rw [add_right_comm]
      have hw : ∀ f : Fin 1152, (iblk m c 3 t (ix2 f k) : EReal) = wrows (m ((c : Thread nD τ).loc main_arg5)) (ix2 f k) :=
        fun f => (iblk3_apply m c t f k).trans (congrFun (V17_eq m c) _)
      have hB : ∀ f : Fin 384, (iblk m c 2 t (ix2 r f) : EReal) = lanes (m ((c : Thread nD τ).loc main_arg1)) (ix2 ⟨1024 * t.val + r.val, hn⟩ f) :=
        fun f => (iblk2_apply m c t r f (ix2 ⟨1024 * t.val + r.val, hn⟩ f) rfl rfl).trans (congrFun (V3_eq m c) _)
      have hC : ∀ f : Fin 384, (iblk m c 1 t (ix2 r f) : EReal) = lanes (m ((c : Thread nD τ).loc main_arg2)) (ix2 ⟨1024 * t.val + r.val, hn⟩ f) :=
        fun f => (iblk1_apply m c t r f (ix2 ⟨1024 * t.val + r.val, hn⟩ f) rfl rfl).trans (congrFun (V6_eq m c) _)
      refine congrArg₂ (· + ·) (congrArg₂ (· + ·) ?_ ?_) ?_
      · refine Finset.sum_congr rfl fun f _ => ?_
        rw [hw, wrows_a]
        refine congrArg (· * _) ?_
        exact (iblk0_apply m c t r f (ix2 ⟨1024 * t.val + r.val, hn⟩ f) rfl rfl).trans ((congrFun (V8_eq m c) _).trans (heads6_apply _ b s f _ hs.symm rfl))
      · refine (Finset.sum_congr rfl fun f _ => congrArg₂ (fun a b : EReal => a * b) ((hB f).trans (lanes_apply _ b s f _ hs.symm)) (hw ⟨768 + f.val, by omega⟩)).trans ?_
        refine (padded (fun f => m ((c : Thread nD τ).loc main_arg1) (ix4 b s ⟨f.val / 64, by omega⟩ ⟨f.val % 64, by omega⟩)) (fun f => wrows (m ((c : Thread nD τ).loc main_arg5)) (ix2 ⟨768 + f.val, by omega⟩ k))).trans ?_
        exact Finset.sum_congr rfl fun f _ => congrArg _ (wrows_b _ f k)
      · refine (Finset.sum_congr rfl fun f _ => congrArg₂ (fun a b : EReal => a * b) ((hC f).trans (lanes_apply _ b s f _ hs.symm)) (hw ⟨384 + f.val, by omega⟩)).trans ?_
        refine (padded (fun f => m ((c : Thread nD τ).loc main_arg2) (ix4 b s ⟨f.val / 64, by omega⟩ ⟨f.val % 64, by omega⟩)) (fun f => wrows (m ((c : Thread nD τ).loc main_arg5)) (ix2 ⟨384 + f.val, by omega⟩ k))).trans ?_
        exact Finset.sum_congr rfl fun f _ => congrArg _ (wrows_c _ f k)
  · exact fun k => (iblk6_apply m c t 0 k).trans ((congrFun (V20_eq m c) _).trans (gain_apply _ k))
  · exact fun k => hmod 7 k _ rfl
  · exact fun k => hmod 6 k _ rfl
  · exact fun k => hmod 8 k _ rfl
  · exact fun k f => (iblk7_apply m c t k f).trans (congrFun (V21_eq m c) _)
  · exact fun k f => (iblk8_apply m c t k f).trans (congrFun (V22_eq m c) _)
  · exact fun k => (iblk9_apply m c t 0 k).trans ((congrFun (V23_eq m c) _).trans (gain_apply _ k))

end Cert.Kernel2Ideal.MixFfn

namespace Cert.Reference2Ideal.MixFfn

open Cert.Reference2Ideal Cert.Reference2Ideal.Gen Cert.Reference2Ideal.Read Cert.Rows

variable (x0 : (⟨S16x2048x6x64, .f32⟩ : BufTy).Contents (Elt Ideal)) (x1 x2 : (⟨S16x2048x5x64, .f32⟩ : BufTy).Contents (Elt Ideal)) (x3 : (⟨S16x2048x1024, .f32⟩ : BufTy).Contents (Elt Ideal)) (x4 : (⟨S16x9216, .f32⟩ : BufTy).Contents (Elt Ideal)) (x5 : (⟨S1024x1024, .f32⟩ : BufTy).Contents (Elt Ideal))
  (x6 : (⟨S1024, .f32⟩ : BufTy).Contents (Elt Ideal)) (x7 : (⟨S1024x5632, .f32⟩ : BufTy).Contents (Elt Ideal)) (x8 : (⟨S2816x1024, .f32⟩ : BufTy).Contents (Elt Ideal)) (x9 : (⟨S1024, .f32⟩ : BufTy).Contents (Elt Ideal))

theorem heads6_apply (b : Fin 16) (t : Fin 2048) (f : Fin 384) : val_main_v9 (F := Ideal) x0 (ix3 b t f) = x0 (ix4 b t ⟨f.val / 64, by omega⟩ ⟨f.val % 64, by omega⟩) := by
  unfold val_main_v9
  refine shapeCast_apply _ _ _ _ ?_
  rw [Shape.rowMajor_val_three, Shape.rowMajor_val_four]
  show ((b.val * 2048 + t.val) * 6 + f.val / 64) * 64 + f.val % 64 = (b.val * 2048 + t.val) * 384 + f.val
  omega

theorem heads5_apply (b : Fin 16) (t : Fin 2048) (f : Fin 320) : val_main_v10 (F := Ideal) x1 (ix3 b t f) = x1 (ix4 b t ⟨f.val / 64, by omega⟩ ⟨f.val % 64, by omega⟩) := by
  unfold val_main_v10
  refine shapeCast_apply _ _ _ _ ?_
  rw [Shape.rowMajor_val_three, Shape.rowMajor_val_four]
  show ((b.val * 2048 + t.val) * 5 + f.val / 64) * 64 + f.val % 64 = (b.val * 2048 + t.val) * 320 + f.val
  omega

theorem heads5_apply' (b : Fin 16) (t : Fin 2048) (f : Fin 320) : val_main_v11 (F := Ideal) x2 (ix3 b t f) = x2 (ix4 b t ⟨f.val / 64, by omega⟩ ⟨f.val % 64, by omega⟩) :=
  heads5_apply x2 b t f

theorem mix_apply (b : Fin 16) (t : Fin 2048) (j : Fin 1024) :
    (val_main_v17 (F := Ideal) x0 x1 x2 x3 x4 x5 (ix3 b t j) : EReal) = mixrow (fun f => x0 (ix4 b t ⟨f.val / 64, by omega⟩ ⟨f.val % 64, by omega⟩)) (fun f => x1 (ix4 b t ⟨f.val / 64, by omega⟩ ⟨f.val % 64, by omega⟩)) (fun f => x2 (ix4 b t ⟨f.val / 64, by omega⟩ ⟨f.val % 64, by omega⟩))
      (fun k => x3 (ix3 b t k)) (fun k => x4 (ix2 b ⟨5120 + k.val, by omega⟩)) (fun f j => x5 (ix2 f j)) j := by
  unfold mixrow
  pointwise [val_main_v5, val_main_v12, val_main_v13, val_main_v14, val_main_v15, val_main_v16, val_main_v17]
  simp only [heads6_apply, heads5_apply, heads5_apply']
  rw [three_heads (fun f => x0 (ix4 b t ⟨f.val / 64, by omega⟩ ⟨f.val % 64, by omega⟩)) (fun f => x1 (ix4 b t ⟨f.val / 64, by omega⟩ ⟨f.val % 64, by omega⟩)) (fun f => x2 (ix4 b t ⟨f.val / 64, by omega⟩ ⟨f.val % 64, by omega⟩)) (fun f => x5 (ix2 f j))]

theorem nrm_apply (b : Fin 16) (t : Fin 2048) (j : Fin 1024) :
    (val_main_v38 (F := Ideal) x0 x1 x2 x3 x4 x5 x6 (ix3 b t j) : EReal) = nrm (fun k => val_main_v17 (F := Ideal) x0 x1 x2 x3 x4 x5 (ix3 b t k)) (fun k => x6 (ix1 k)) (fun k => x4 (ix2 b ⟨7168 + k.val, by omega⟩)) (fun k => x4 (ix2 b ⟨6144 + k.val, by omega⟩)) j := by
  unfold nrm
  pointwise [val_main_v6, val_main_v7, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst, val_main_cst_0, val_main_cst_1, val_main_cst_2]

theorem mlp_apply (b : Fin 16) (t : Fin 2048) (j : Fin 1024) :
    (val_main_v50 (F := Ideal) x0 x1 x2 x3 x4 x5 x6 x7 x8 (ix3 b t j) : EReal) = half (fun k => val_main_v17 (F := Ideal) x0 x1 x2 x3 x4 x5 (ix3 b t k)) (fun k => x6 (ix1 k)) (fun k => x4 (ix2 b ⟨7168 + k.val, by omega⟩)) (fun k => x4 (ix2 b ⟨6144 + k.val, by omega⟩)) (fun k => x4 (ix2 b ⟨8192 + k.val, by omega⟩)) (fun k f => x7 (ix2 k f)) (fun f j => x8 (ix2 f j)) j := by
  unfold half
  pointwise [val_main_v8, val_main_v39, val_main_v40, val_main_v41, val_main_v42, val_main_v43, val_main_v44, val_main_v45, val_main_v46, val_main_v47, val_main_v48, val_main_v49, val_main_v50, val_main_call0_v0, val_main_call0_v1, val_main_call0_v2, val_main_call0_v3, val_main_call0_v4, val_main_call0_v5, val_main_call0_cst, val_main_call0_cst_0, val_main_cst_3]
  simp only [nrm_apply, mul_sigmoid]

theorem final_apply (b : Fin 16) (t : Fin 2048) (j : Fin 1024) :
    (val_main_v63 (F := Ideal) x0 x1 x2 x3 x4 x5 x6 x7 x8 x9 (ix3 b t j) : EReal) = gained (fun k => val_main_v50 (F := Ideal) x0 x1 x2 x3 x4 x5 x6 x7 x8 (ix3 b t k)) (fun k => x9 (ix1 k)) j := by
  unfold gained
  pointwise [val_main_v51, val_main_v52, val_main_v53, val_main_v54, val_main_v55, val_main_v56, val_main_v57, val_main_v58, val_main_v59, val_main_v60, val_main_v61, val_main_v62, val_main_v63, val_main_cst_4, val_main_cst_5, val_main_cst_6]

theorem result_apply (b : Fin 16) (t : Fin 2048) (j : Fin 1024) (i : S32768x1024.Idx) (h0 : (i 0).val = 2048 * b.val + t.val) (h1 : (i 1).val = j.val) :
    val_main_v64 (F := Ideal) x0 x1 x2 x3 x4 x5 x6 x7 x8 x9 i = val_main_v63 (F := Ideal) x0 x1 x2 x3 x4 x5 x6 x7 x8 x9 (ix3 b t j) := by
  unfold val_main_v64
  generalize val_main_v63 (F := Ideal) x0 x1 x2 x3 x4 x5 x6 x7 x8 x9 = X
  exact Cert.Kernel3Ideal.Ffn.rows_apply X b t j i h0 h1

end Cert.Reference2Ideal.MixFfn

namespace Cert.Kernel2Ideal.MixFfn

open Cert.Kernel2Ideal Cert.Kernel2Ideal.Gen Cert.Rows

/-- The kernel's result array is the reference's result of the same arguments. -/
theorem arr_eq (m : (ℓ : Loc nD τ sig) → Buf (Elt Ideal) ℓ) (c : Dev nD) :
    (dats m 0 c).arrAt 10 cfg0.N = Cert.Reference2Ideal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := by
  funext i
  have hi0 : (i 0).val < 32768 := (i 0).isLt
  have hi1 : (i 1).val < 1024 := (i 1).isLt
  have hN : grid0.N = 32 := rfl
  rw [Cert.Reference2Ideal.MixFfn.result_apply _ _ _ _ _ _ _ _ _ _ ⟨(i 0).val / 2048, by omega⟩ ⟨(i 0).val % 2048, by omega⟩ ⟨(i 1).val, hi1⟩ i (by show (i 0).val = 2048 * ((i 0).val / 2048) + (i 0).val % 2048; omega) rfl]
  refine Eq.trans ?_ (Cert.Reference2Ideal.MixFfn.final_apply _ _ _ _ _ _ _ _ _ _ _ _ _).symm
  simp only [Cert.Reference2Ideal.MixFfn.mlp_apply, Cert.Reference2Ideal.MixFfn.mix_apply]
  refine arr_apply m c ⟨(i 0).val / 1024, by omega⟩ ⟨(i 0).val % 1024, by omega⟩ ⟨(i 1).val, hi1⟩ ⟨(i 0).val / 2048, by omega⟩ ⟨(i 0).val % 2048, by omega⟩ ?_ ?_ i ?_ rfl
  · show (i 0).val / 2048 = (i 0).val / 1024 / 2; omega
  · show 2048 * ((i 0).val / 2048) + (i 0).val % 2048 = 1024 * ((i 0).val / 1024) + (i 0).val % 1024; omega
  · show (i 0).val = 1024 * ((i 0).val / 1024) + (i 0).val % 1024; omega

end Cert.Kernel2Ideal.MixFfn
-- ==== Proof.MlaRun.lean ====
/-
  The stores of the latent attention's run, written out: the chunks of queries, keys and values it leaves in its three
  scratch buffers.
-/
module

public import proofs.«01_k».proof.Proof.MlaProj

@[expose] public section

set_option maxRecDepth 16384

noncomputable section

open Idealize.ShloMosaic Idealize.ShloMosaic.TcCoe Idealize.SL.Sem

namespace Cert.KernelIdeal.Mla
open Cert.KernelIdeal Cert.KernelIdeal.Gen

variable {F : FTy → Type} [FloatOps F] [Named F]

theorem inbS (h : Fin 5) (r : Fin 4) : ∀ a, (![h.val, 512 * r.val, 0] : Fin 3 → Nat) a + S1x512x128.size a ≤ S5x2048x128.size a := fun a => by
  fin_cases a
  · show h.val + 1 ≤ 5; omega
  · show 512 * r.val + 512 ≤ 2048; omega
  · show 0 + 128 ≤ 128; omega

/-- The place of a head's chunk in a scratch buffer. -/
abbrev place (h : Fin 5) (r : Fin 4) : Rect S5x2048x128 := Rect.unit (s := S5x2048x128) ![h.val, 512 * r.val, 0] S1x512x128.size (inbS h r)

theorem inbR256 (r : Fin 4) : ∀ a, (![0, 512 * r.val, 0] : Fin 3 → Nat) a + S1x512x256.size a ≤ S1x2048x256.size a := fun a => by
  fin_cases a
  · show 0 + 1 ≤ 1; omega
  · show 512 * r.val + 512 ≤ 2048; omega
  · show 0 + 256 ≤ 256; omega

/-- The rows of a chunk. -/
abbrev rows256 (r : Fin 4) : Rect S1x2048x256 := Rect.unit (s := S1x2048x256) ![0, 512 * r.val, 0] S1x512x256.size (inbR256 r)

theorem inbC256 (h : Fin 5) : ∀ a, (![0, 128 * h.val] : Fin 2 → Nat) a + S256x128.size a ≤ S256x640.size a := fun a => by
  fin_cases a
  · show 0 + 256 ≤ 256; omega
  · show 128 * h.val + 128 ≤ 640; omega

/-- The columns of a head. -/
abbrev cols256 (h : Fin 5) : Rect S256x640 := Rect.unit (s := S256x640) ![0, 128 * h.val] S256x128.size (inbC256 h)

theorem inbG256 : ∀ a, (![0, 0] : Fin 2 → Nat) a + S1x256.size a ≤ S1x256.size a := fun a => by
  fin_cases a
  · show 0 + 1 ≤ 1; omega
  · show 0 + 256 ≤ 256; omega

theorem inbR128 (r : Fin 4) : ∀ a, (![0, 512 * r.val, 0] : Fin 3 → Nat) a + S1x512x128.size a ≤ S1x2048x128.size a := fun a => by
  fin_cases a
  · show 0 + 1 ≤ 1; omega
  · show 512 * r.val + 512 ≤ 2048; omega
  · show 0 + 128 ≤ 128; omega

/-- The rows of a chunk. -/
abbrev rows128 (r : Fin 4) : Rect S1x2048x128 := Rect.unit (s := S1x2048x128) ![0, 512 * r.val, 0] S1x512x128.size (inbR128 r)

theorem inbC128 (h : Fin 5) : ∀ a, (![0, 128 * h.val] : Fin 2 → Nat) a + S128x128.size a ≤ S128x640.size a := fun a => by
  fin_cases a
  · show 0 + 128 ≤ 128; omega
  · show 128 * h.val + 128 ≤ 640; omega

/-- The columns of a head. -/
abbrev cols128 (h : Fin 5) : Rect S128x640 := Rect.unit (s := S128x640) ![0, 128 * h.val] S128x128.size (inbC128 h)

theorem inbG128 : ∀ a, (![0, 0] : Fin 2 → Nat) a + S1x128.size a ≤ S1x128.size a := fun a => by
  fin_cases a
  · show 0 + 1 ≤ 1; omega
  · show 0 + 128 ≤ 128; omega

/-- The twenty chunks, the last stored first. -/
def all20 {α : Type _} (P : Fin 5 → Fin 4 → α) : List α :=
  [P 4 3, P 3 3, P 2 3, P 1 3, P 0 3, P 4 2, P 3 2, P 2 2, P 1 2, P 0 2, P 4 1, P 3 1, P 2 1, P 1 1, P 0 1, P 4 0, P 3 0, P 2 0, P 1 0, P 0 0]

/-- The chunks of queries. -/
def qP (X : Fin 4 → Vec F S1x512x256 .f32) (g : Vec F S1x256 .f32) (C S : Fin 4 → Vec F S1x512x128 .f32) (W W' : Fin 5 → Vec F S256x128 .bf16) (h : Fin 5) (r : Fin 4) :
    View.Piece (Elt F) S5x2048x128 .bf16 := ⟨place h r, qC (X r) g (C r) (S r) (W h) (W' h)⟩

/-- The chunks of keys. -/
def kP (X : Fin 4 → Vec F S1x512x128 .f32) (g : Vec F S1x128 .f32) (M C S : Fin 4 → Vec F S1x512x128 .f32) (W : Fin 5 → Vec F S128x128 .bf16) (h : Fin 5) (r : Fin 4) :
    View.Piece (Elt F) S5x2048x128 .bf16 := ⟨place h r, kC (X r) g (M r) (C r) (S r) (W h)⟩

/-- The chunks of values. -/
def vP (X : Fin 4 → Vec F S1x512x128 .f32) (g : Vec F S1x128 .f32) (W : Fin 5 → Vec F S128x128 .bf16) (h : Fin 5) (r : Fin 4) :
    View.Piece (Elt F) S5x2048x128 .bf16 := ⟨place h r, vC (X r) g (W h)⟩

section Run
variable (c : Dev nD) (i : grid0.Coords) (arg1 : Memref sig .tc .vmem S1x2048x256 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S256x640 .bf16) (harg8 : arg8.IsWhole) (arg9 : Memref sig .tc .vmem S256x640 .bf16) (harg9 : arg9.IsWhole) (arg10 : Memref sig .tc .vmem S128x640 .bf16) (harg10 : arg10.IsWhole) (arg11 : Memref sig .tc .vmem S128x640 .bf16) (harg11 : arg11.IsWhole) (arg12 : Memref sig .tc .vmem S1x2048x384 .bf16) (harg12 : arg12.IsWhole) (arg13 : Memref sig .tc .vmem S5x2048x128 .bf16) (harg13 : arg13.IsWhole) (arg14 : Memref sig .tc .vmem S5x2048x128 .bf16) (harg14 : arg14.IsWhole) (arg15 : Memref sig .tc .vmem S5x2048x128 .bf16) (harg15 : arg15.IsWhole)
   (x0 : Vec F S1x2048x256 .f32) (x1 : Vec F S1x2048x128 .f32) (x2 : Vec F S1x2048x128 .f32) (x3 : Vec F S1x2048x128 .f32) (x4 : Vec F S1x2048x128 .f32) (x5 : Vec F S1x256 .f32) (x6 : Vec F S1x128 .f32) (x7 : Vec F S256x640 .bf16) (x8 : Vec F S256x640 .bf16) (x9 : Vec F S128x640 .bf16) (x10 : Vec F S128x640 .bf16)

theorem queries_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10).2.1 = all20 (qP (fun r => arg1.view.readAt (Elt F) (rows256 r).toLoadRect (harg1.unread x0)) (arg6.view.readAt (Elt F) (Rect.unit (s := S1x256) ![0, 0] S1x256.size (inbG256)).toLoadRect (harg6.unread x5)) (fun r => arg4.view.readAt (Elt F) (rows128 r).toLoadRect (harg4.unread x3)) (fun r => arg5.view.readAt (Elt F) (rows128 r).toLoadRect (harg5.unread x4)) (fun h => arg8.view.readAt (Elt F) (cols256 h).toLoadRect (harg8.unread x7)) (fun h => arg9.view.readAt (Elt F) (cols256 h).toLoadRect (harg9.unread x8))) := rfl

theorem keys_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10).2.2.1 = all20 (kP (fun r => arg2.view.readAt (Elt F) (rows128 r).toLoadRect (harg2.unread x1)) (arg7.view.readAt (Elt F) (Rect.unit (s := S1x128) ![0, 0] S1x128.size (inbG128)).toLoadRect (harg7.unread x6)) (fun r => arg3.view.readAt (Elt F) (rows128 r).toLoadRect (harg3.unread x2)) (fun r => arg4.view.readAt (Elt F) (rows128 r).toLoadRect (harg4.unread x3)) (fun r => arg5.view.readAt (Elt F) (rows128 r).toLoadRect (harg5.unread x4)) (fun h => arg10.view.readAt (Elt F) (cols128 h).toLoadRect (harg10.unread x9))) := rfl

theorem values_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10).2.2.2.1 = all20 (vP (fun r => arg2.view.readAt (Elt F) (rows128 r).toLoadRect (harg2.unread x1)) (arg7.view.readAt (Elt F) (Rect.unit (s := S1x128) ![0, 0] S1x128.size (inbG128)).toLoadRect (harg7.unread x6)) (fun h => arg11.view.readAt (Elt F) (cols128 h).toLoadRect (harg11.unread x10))) := rfl

end Run

end Cert.KernelIdeal.Mla

end
-- ==== Proof.MlaOut.lean ====
/-
  The blocks the latent attention stores into its result, written out over the chunks in its scratch buffers.
-/
module

public import proofs.«01_k».proof.Proof.MlaRun
public import proofs.«01_k».proof.Proof.MlaAttn

@[expose] public section

set_option maxRecDepth 16384

noncomputable section

open Idealize.ShloMosaic Idealize.ShloMosaic.TcCoe Idealize.SL.Sem

namespace Cert.KernelIdeal.Mla
open Cert.KernelIdeal Cert.KernelIdeal.Gen

variable {F : FTy → Type} [FloatOps F] [Named F]

theorem inbQ (h : Fin 5) (b : Fin 8) : ∀ a, (![h.val, 256 * b.val, 0] : Fin 3 → Nat) a + S1x256x128.size a ≤ S5x2048x128.size a := fun a => by
  fin_cases a
  · show h.val + 1 ≤ 5; omega
  · show 256 * b.val + 256 ≤ 2048; omega
  · show 0 + 128 ≤ 128; omega

/-- A query block of a head. -/
abbrev qrect (h : Fin 5) (b : Fin 8) : Rect S5x2048x128 := Rect.unit (s := S5x2048x128) ![h.val, 256 * b.val, 0] S1x256x128.size (inbQ h b)

theorem inbO (p : Fin 3) (b : Fin 8) : ∀ a, (![0, 256 * b.val, 128 * p.val] : Fin 3 → Nat) a + S1x256x128.size a ≤ S1x2048x384.size a := fun a => by
  fin_cases a
  · show 0 + 1 ≤ 1; omega
  · show 256 * b.val + 256 ≤ 2048; omega
  · show 128 * p.val + 128 ≤ 384; omega

/-- The place of a block in the result. -/
abbrev orect (p : Fin 3) (b : Fin 8) : Rect S1x2048x384 := Rect.unit (s := S1x2048x384) ![0, 256 * b.val, 128 * p.val] S1x256x128.size (inbO p b)

/-- Two heads side by side. -/
def pairC (a b : FVec F S256x128 .f32) : FVec F S1x256x128 .bf16 :=
  shapeCast S1x256x128 (truncf .bf16 (addf a (dynamicRotate 1 64#32 none b rotates_S256x128_d1)) bitsLt_bf16_f32) shapeCasts_S256x128_S1x256x128

/-- One head alone. -/
def soloC (a : FVec F S256x128 .f32) : FVec F S1x256x128 .bf16 :=
  shapeCast S1x256x128 (truncf .bf16 a bitsLt_bf16_f32) shapeCasts_S256x128_S1x256x128

/-- The blocks of a head's result, by the head and the query block. -/
def outP (H : Fin 8 → Fin 5 → FVec F S256x128 .f32) (p : Fin 3) (b : Fin 8) : View.Piece (Elt F) S1x2048x384 .bf16 :=
  ⟨orect p b, match p with
    | 0 => pairC (H b 0) (H b 1)
    | 1 => pairC (H b 2) (H b 3)
    | 2 => soloC (H b 4)⟩

/-- The twenty-four blocks, the last stored first. -/
def all24 {α : Type _} (P : Fin 3 → Fin 8 → α) : List α :=
  [P 2 7, P 1 7, P 0 7, P 2 6, P 1 6, P 0 6, P 2 5, P 1 5, P 0 5, P 2 4, P 1 4, P 0 4, P 2 3, P 1 3, P 0 3, P 2 2, P 1 2, P 0 2, P 2 1, P 1 1, P 0 1, P 2 0, P 1 0, P 0 0]

section Heads
variable (v13 v14 v15 : View sig .tc .vmem S5x2048x128 .bf16) (L0 L1 L2 : List (View.Piece (Elt F) S5x2048x128 .bf16))

theorem inbK256 (h : Fin 5) : ∀ a, (![h.val, 0, 0] : Fin 3 → Nat) a + S1x256x128.size a ≤ S5x2048x128.size a := fun a => by
  fin_cases a
  · show h.val + 1 ≤ 5; omega
  · show 0 + 256 ≤ 2048; omega
  · show 0 + 128 ≤ 128; omega

/-- A head's first 256 keys. -/
abbrev krect256 (h : Fin 5) : Rect S5x2048x128 := Rect.unit (s := S5x2048x128) ![h.val, 0, 0] S1x256x128.size (inbK256 h)

/-- A head of the query block that sees 256 keys. -/
def headB256 (h : Fin 5) : FVec F S256x128 .f32 :=
  heads256 (nums256 (logits256 (v13.readCov L0 (qrect h 0).toLoadRect) (v14.readCov L1 (krect256 h).toLoadRect))) (v15.readCov L2 (krect256 h).toLoadRect)

theorem inbK512 (h : Fin 5) : ∀ a, (![h.val, 0, 0] : Fin 3 → Nat) a + S1x512x128.size a ≤ S5x2048x128.size a := fun a => by
  fin_cases a
  · show h.val + 1 ≤ 5; omega
  · show 0 + 512 ≤ 2048; omega
  · show 0 + 128 ≤ 128; omega

/-- A head's first 512 keys. -/
abbrev krect512 (h : Fin 5) : Rect S5x2048x128 := Rect.unit (s := S5x2048x128) ![h.val, 0, 0] S1x512x128.size (inbK512 h)

/-- A head of the query block that sees 512 keys. -/
def headB512 (h : Fin 5) : FVec F S256x128 .f32 :=
  heads512 (nums512 (logits512 (v13.readCov L0 (qrect h 1).toLoadRect) (v14.readCov L1 (krect512 h).toLoadRect))) (v15.readCov L2 (krect512 h).toLoadRect)

theorem inbK768 (h : Fin 5) : ∀ a, (![h.val, 0, 0] : Fin 3 → Nat) a + S1x768x128.size a ≤ S5x2048x128.size a := fun a => by
  fin_cases a
  · show h.val + 1 ≤ 5; omega
  · show 0 + 768 ≤ 2048; omega
  · show 0 + 128 ≤ 128; omega

/-- A head's first 768 keys. -/
abbrev krect768 (h : Fin 5) : Rect S5x2048x128 := Rect.unit (s := S5x2048x128) ![h.val, 0, 0] S1x768x128.size (inbK768 h)

/-- A head of the query block that sees 768 keys. -/
def headB768 (h : Fin 5) : FVec F S256x128 .f32 :=
  heads768 (nums768 (logits768 (v13.readCov L0 (qrect h 2).toLoadRect) (v14.readCov L1 (krect768 h).toLoadRect))) (v15.readCov L2 (krect768 h).toLoadRect)

theorem inbK1024 (h : Fin 5) : ∀ a, (![h.val, 0, 0] : Fin 3 → Nat) a + S1x1024x128.size a ≤ S5x2048x128.size a := fun a => by
  fin_cases a
  · show h.val + 1 ≤ 5; omega
  · show 0 + 1024 ≤ 2048; omega
  · show 0 + 128 ≤ 128; omega

/-- A head's first 1024 keys. -/
abbrev krect1024 (h : Fin 5) : Rect S5x2048x128 := Rect.unit (s := S5x2048x128) ![h.val, 0, 0] S1x1024x128.size (inbK1024 h)

/-- A head of the query block that sees 1024 keys. -/
def headB1024 (h : Fin 5) : FVec F S256x128 .f32 :=
  heads1024 (nums1024 (logits1024 (v13.readCov L0 (qrect h 3).toLoadRect) (v14.readCov L1 (krect1024 h).toLoadRect))) (v15.readCov L2 (krect1024 h).toLoadRect)

theorem inbK1280 (h : Fin 5) : ∀ a, (![h.val, 0, 0] : Fin 3 → Nat) a + S1x1280x128.size a ≤ S5x2048x128.size a := fun a => by
  fin_cases a
  · show h.val + 1 ≤ 5; omega
  · show 0 + 1280 ≤ 2048; omega
  · show 0 + 128 ≤ 128; omega

/-- A head's first 1280 keys. -/
abbrev krect1280 (h : Fin 5) : Rect S5x2048x128 := Rect.unit (s := S5x2048x128) ![h.val, 0, 0] S1x1280x128.size (inbK1280 h)

/-- A head of the query block that sees 1280 keys. -/
def headB1280 (h : Fin 5) : FVec F S256x128 .f32 :=
  heads1280 (nums1280 (logits1280 (v13.readCov L0 (qrect h 4).toLoadRect) (v14.readCov L1 (krect1280 h).toLoadRect))) (v15.readCov L2 (krect1280 h).toLoadRect)

theorem inbK1536 (h : Fin 5) : ∀ a, (![h.val, 0, 0] : Fin 3 → Nat) a + S1x1536x128.size a ≤ S5x2048x128.size a := fun a => by
  fin_cases a
  · show h.val + 1 ≤ 5; omega
  · show 0 + 1536 ≤ 2048; omega
  · show 0 + 128 ≤ 128; omega

/-- A head's first 1536 keys. -/
abbrev krect1536 (h : Fin 5) : Rect S5x2048x128 := Rect.unit (s := S5x2048x128) ![h.val, 0, 0] S1x1536x128.size (inbK1536 h)

/-- A head of the query block that sees 1536 keys. -/
def headB1536 (h : Fin 5) : FVec F S256x128 .f32 :=
  heads1536 (nums1536 (logits1536 (v13.readCov L0 (qrect h 5).toLoadRect) (v14.readCov L1 (krect1536 h).toLoadRect))) (v15.readCov L2 (krect1536 h).toLoadRect)

theorem inbK1792 (h : Fin 5) : ∀ a, (![h.val, 0, 0] : Fin 3 → Nat) a + S1x1792x128.size a ≤ S5x2048x128.size a := fun a => by
  fin_cases a
  · show h.val + 1 ≤ 5; omega
  · show 0 + 1792 ≤ 2048; omega
  · show 0 + 128 ≤ 128; omega

/-- A head's first 1792 keys. -/
abbrev krect1792 (h : Fin 5) : Rect S5x2048x128 := Rect.unit (s := S5x2048x128) ![h.val, 0, 0] S1x1792x128.size (inbK1792 h)

/-- A head of the query block that sees 1792 keys. -/
def headB1792 (h : Fin 5) : FVec F S256x128 .f32 :=
  heads1792 (nums1792 (logits1792 (v13.readCov L0 (qrect h 6).toLoadRect) (v14.readCov L1 (krect1792 h).toLoadRect))) (v15.readCov L2 (krect1792 h).toLoadRect)

theorem inbK2048 (h : Fin 5) : ∀ a, (![h.val, 0, 0] : Fin 3 → Nat) a + S1x2048x128.size a ≤ S5x2048x128.size a := fun a => by
  fin_cases a
  · show h.val + 1 ≤ 5; omega
  · show 0 + 2048 ≤ 2048; omega
  · show 0 + 128 ≤ 128; omega

/-- A head's first 2048 keys. -/
abbrev krect2048 (h : Fin 5) : Rect S5x2048x128 := Rect.unit (s := S5x2048x128) ![h.val, 0, 0] S1x2048x128.size (inbK2048 h)

/-- A head of the query block that sees 2048 keys. -/
def headB2048 (h : Fin 5) : FVec F S256x128 .f32 :=
  heads2048 (nums2048 (logits2048 (v13.readCov L0 (qrect h 7).toLoadRect) (v14.readCov L1 (krect2048 h).toLoadRect))) (v15.readCov L2 (krect2048 h).toLoadRect)

/-- A head of a query block. -/
def headB (b : Fin 8) (h : Fin 5) : FVec F S256x128 .f32 :=
  match b with
  | 0 => headB256 v13 v14 v15 L0 L1 L2 h
  | 1 => headB512 v13 v14 v15 L0 L1 L2 h
  | 2 => headB768 v13 v14 v15 L0 L1 L2 h
  | 3 => headB1024 v13 v14 v15 L0 L1 L2 h
  | 4 => headB1280 v13 v14 v15 L0 L1 L2 h
  | 5 => headB1536 v13 v14 v15 L0 L1 L2 h
  | 6 => headB1792 v13 v14 v15 L0 L1 L2 h
  | 7 => headB2048 v13 v14 v15 L0 L1 L2 h

end Heads

section Run
variable (c : Dev nD) (i : grid0.Coords) (arg1 : Memref sig .tc .vmem S1x2048x256 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S256x640 .bf16) (harg8 : arg8.IsWhole) (arg9 : Memref sig .tc .vmem S256x640 .bf16) (harg9 : arg9.IsWhole) (arg10 : Memref sig .tc .vmem S128x640 .bf16) (harg10 : arg10.IsWhole) (arg11 : Memref sig .tc .vmem S128x640 .bf16) (harg11 : arg11.IsWhole) (arg12 : Memref sig .tc .vmem S1x2048x384 .bf16) (harg12 : arg12.IsWhole) (arg13 : Memref sig .tc .vmem S5x2048x128 .bf16) (harg13 : arg13.IsWhole) (arg14 : Memref sig .tc .vmem S5x2048x128 .bf16) (harg14 : arg14.IsWhole) (arg15 : Memref sig .tc .vmem S5x2048x128 .bf16) (harg15 : arg15.IsWhole)
   (x0 : Vec F S1x2048x256 .f32) (x1 : Vec F S1x2048x128 .f32) (x2 : Vec F S1x2048x128 .f32) (x3 : Vec F S1x2048x128 .f32) (x4 : Vec F S1x2048x128 .f32) (x5 : Vec F S1x256 .f32) (x6 : Vec F S1x128 .f32) (x7 : Vec F S256x640 .bf16) (x8 : Vec F S256x640 .bf16) (x9 : Vec F S128x640 .bf16) (x10 : Vec F S128x640 .bf16)

theorem blocks_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10).1 = all24 (outP (headB arg13.view arg14.view arg15.view (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10).2.1 (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10).2.2.1 (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10).2.2.2.1)) := rfl

end Run

end Cert.KernelIdeal.Mla

end
-- ==== Proof.MlaBlock.lean ====
/-
  What the latent attention's run leaves in its result block: every head's softmax mean of the values, on real logits and
  values.
-/
module

public import proofs.«01_k».proof.Proof.MlaOut
public import proofs.«01_k».proof.Proof.MlaMath

@[expose] public section

set_option maxRecDepth 16384

noncomputable section

open Idealize.ShloMosaic Idealize.ShloMosaic.TcCoe Idealize.SL.Sem

namespace Cert.KernelIdeal.Mla
open Cert.KernelIdeal Cert.KernelIdeal.Gen

/-- An index of a block whose first axis has one coordinate. -/
theorem eta3 {n m : Nat} (x : (⟨3, ![1, n, m]⟩ : Shape).Idx) : x = ix3 0 (x 1) (x 2) := by
  funext a
  fin_cases a
  · exact Subsingleton.elim (α := Fin 1) _ _
  · rfl
  · rfl

theorem mem20 {α : Type _} (P : Fin 5 → Fin 4 → α) (p : α) (hp : p ∈ all20 P) : ∃ h r, p = P h r := by
  have e : all20 P = (all20 fun h r => (h, r)).map fun q => P q.1 q.2 := rfl
  rw [e] at hp
  obtain ⟨q, _, rfl⟩ := List.mem_map.mp hp
  exact ⟨q.1, q.2, rfl⟩

theorem mem20' {α : Type _} (P : Fin 5 → Fin 4 → α) (h : Fin 5) (r : Fin 4) : P h r ∈ all20 P := by
  have e : all20 P = (all20 fun h r => (h, r)).map fun q => P q.1 q.2 := rfl
  rw [e]
  exact List.mem_map.mpr ⟨(h, r), (by decide : ∀ (h : Fin 5) (r : Fin 4), (h, r) ∈ all20 fun h r => (h, r)) h r, rfl⟩

theorem mem24 {α : Type _} (P : Fin 3 → Fin 8 → α) (p : α) (hp : p ∈ all24 P) : ∃ h r, p = P h r := by
  have e : all24 P = (all24 fun h r => (h, r)).map fun q => P q.1 q.2 := rfl
  rw [e] at hp
  obtain ⟨q, _, rfl⟩ := List.mem_map.mp hp
  exact ⟨q.1, q.2, rfl⟩

theorem mem24' {α : Type _} (P : Fin 3 → Fin 8 → α) (h : Fin 3) (r : Fin 8) : P h r ∈ all24 P := by
  have e : all24 P = (all24 fun h r => (h, r)).map fun q => P q.1 q.2 := rfl
  rw [e]
  exact List.mem_map.mpr ⟨(h, r), (by decide : ∀ (h : Fin 3) (r : Fin 8), (h, r) ∈ all24 fun h r => (h, r)) h r, rfl⟩

theorem place_emb (h : Fin 5) (r : Fin 4) (i : Fin 512) (l : Fin 128) :
    (place h r).idx (ix3 (0 : Fin 1) i l) = ix3 h (⟨512 * r.val + i.val, by omega⟩ : Fin 2048) l := by
  funext a
  fin_cases a
  · exact Fin.ext (by show h.val + 1 * 0 = h.val; omega)
  · exact Fin.ext (by show 512 * r.val + 1 * i.val = 512 * r.val + i.val; omega)
  · exact Fin.ext (by show 0 + 1 * l.val = l.val; omega)

theorem qrect_emb (h : Fin 5) (b : Fin 8) (i : Fin 256) (l : Fin 128) :
    (qrect h b).idx (ix3 (0 : Fin 1) i l) = ix3 h (⟨256 * b.val + i.val, by omega⟩ : Fin 2048) l := by
  funext a
  fin_cases a
  · exact Fin.ext (by show h.val + 1 * 0 = h.val; omega)
  · exact Fin.ext (by show 256 * b.val + 1 * i.val = 256 * b.val + i.val; omega)
  · exact Fin.ext (by show 0 + 1 * l.val = l.val; omega)

theorem orect_emb (p : Fin 3) (b : Fin 8) (i : Fin 256) (l : Fin 128) :
    (orect p b).idx (ix3 (0 : Fin 1) i l) = ix3 (0 : Fin 1) (⟨256 * b.val + i.val, by omega⟩ : Fin 2048) (⟨128 * p.val + l.val, by omega⟩ : Fin 384) := by
  funext a
  fin_cases a
  · exact Fin.ext (by show 0 + 1 * 0 = 0; omega)
  · exact Fin.ext (by show 256 * b.val + 1 * i.val = 256 * b.val + i.val; omega)
  · exact Fin.ext (by show 128 * p.val + 1 * l.val = 128 * p.val + l.val; omega)

/-- What twenty chunks leave, from what each holds. -/
theorem canon20 (P : Fin 5 → Fin 4 → Vec Ideal S1x512x128 .bf16) (G : Fin 5 → Fin 2048 → Fin 128 → EReal)
    (hP : ∀ (h : Fin 5) (r : Fin 4) (i : Fin 512) (l : Fin 128), P h r (ix3 0 i l) = G h ⟨512 * r.val + i.val, by omega⟩ l) (h : Fin 5) (t : Fin 2048) (l : Fin 128) :
    View.canon (Val := Elt Ideal) (all20 fun h r => (⟨place h r, P h r⟩ : View.Piece (Elt Ideal) S5x2048x128 .bf16)) (ix3 h t l) = G h t l := by
  refine View.canon_apply_of_pieces (Val := Elt Ideal) (S := S5x2048x128) (e := .bf16) (fun y => G (y 0) (y 1) (y 2)) _ ?_ (ix3 h t l) ?_
  · intro p hp x
    obtain ⟨h, r, rfl⟩ := mem20 _ p hp
    obtain ⟨i, l, rfl⟩ : ∃ (i : Fin 512) (l : Fin 128), x = ix3 (0 : Fin 1) i l := ⟨x 1, x 2, eta3 (n := 512) (m := 128) x⟩
    exact (hP h r i l).trans (congrArg (fun y : S5x2048x128.Idx => G (y 0) (y 1) (y 2)) (place_emb h r i l)).symm
  · refine ⟨_, mem20' _ h ⟨t.val / 512, by omega⟩, ?_⟩
    have e : (place h ⟨t.val / 512, by omega⟩).idx (ix3 (0 : Fin 1) (⟨t.val % 512, by omega⟩ : Fin 512) l) = ix3 h t l := by
      rw [place_emb]
      have : (⟨512 * (t.val / 512) + t.val % 512, by omega⟩ : Fin 2048) = t := Fin.ext (by show 512 * (t.val / 512) + t.val % 512 = t.val; omega)
      exact congrArg (fun t => ix3 h t l) this
    exact e ▸ LoadRect.idx_mem _ _

/-- What the twenty-four blocks leave, from what each holds. -/
theorem canon24 (P : Fin 3 → Fin 8 → Vec Ideal S1x256x128 .bf16) (G : Fin 2048 → Fin 384 → EReal)
    (hP : ∀ (p : Fin 3) (b : Fin 8) (i : Fin 256) (l : Fin 128), P p b (ix3 0 i l) = G ⟨256 * b.val + i.val, by omega⟩ ⟨128 * p.val + l.val, by omega⟩) (t : Fin 2048) (k : Fin 384) :
    View.canon (Val := Elt Ideal) (all24 fun p b => (⟨orect p b, P p b⟩ : View.Piece (Elt Ideal) S1x2048x384 .bf16)) (ix3 0 t k) = G t k := by
  refine View.canon_apply_of_pieces (Val := Elt Ideal) (S := S1x2048x384) (e := .bf16) (fun y => G (y 1) (y 2)) _ ?_ (ix3 0 t k) ?_
  · intro p hp x
    obtain ⟨h, r, rfl⟩ := mem24 _ p hp
    obtain ⟨i, l, rfl⟩ : ∃ (i : Fin 256) (l : Fin 128), x = ix3 (0 : Fin 1) i l := ⟨x 1, x 2, eta3 (n := 256) (m := 128) x⟩
    exact (hP h r i l).trans (congrArg (fun y : S1x2048x384.Idx => G (y 1) (y 2)) (orect_emb h r i l)).symm
  · refine ⟨_, mem24' _ ⟨k.val / 128, by omega⟩ ⟨t.val / 256, by omega⟩, ?_⟩
    have e : (orect ⟨k.val / 128, by omega⟩ ⟨t.val / 256, by omega⟩).idx (ix3 (0 : Fin 1) (⟨t.val % 256, by omega⟩ : Fin 256) (⟨k.val % 128, by omega⟩ : Fin 128)) = ix3 (0 : Fin 1) t k := by
      rw [orect_emb]
      have e1 : (⟨256 * (t.val / 256) + t.val % 256, by omega⟩ : Fin 2048) = t := Fin.ext (by show 256 * (t.val / 256) + t.val % 256 = t.val; omega)
      have e2 : (⟨128 * (k.val / 128) + k.val % 128, by omega⟩ : Fin 384) = k := Fin.ext (by show 128 * (k.val / 128) + k.val % 128 = k.val; omega)
      exact congrArg₂ (fun t k => ix3 (0 : Fin 1) t k) e1 e2
    exact e ▸ LoadRect.idx_mem _ _

/-- A head's lane on real logits and values, over any number of keys that reaches past the query. -/
theorem attnE_real {n : Nat} (hn : n ≤ 2048) (q : Fin 128 → EReal) (k v : Fin n → Fin 128 → EReal) (t : Nat) (ht : t < n) (l : Fin 128)
    (s : Fin 2048 → ℝ) (u : Fin 2048 → Fin 64 → ℝ)
    (hs : ∀ j, ∑ d : Fin 128, q d * k j d = ((s (Fin.castLE hn j) : ℝ) : EReal))
    (hu : ∀ j (l : Fin 128) (hl : l.val < 64), v j l = ((u (Fin.castLE hn j) ⟨l.val, hl⟩ : ℝ) : EReal)) (h1 : ∀ j (l : Fin 128), 64 ≤ l.val → v j l = 1) :
    attnE q k v t l = if hl : l.val < 64 then ((softR s (fun j => u j ⟨l.val, hl⟩) t : ℝ) : EReal) else 0 := by
  unfold attnE
  rw [show (fun j => ∑ d : Fin 128, q d * k j d) = fun j => ((s (Fin.castLE hn j) : ℝ) : EReal) from funext hs]
  by_cases hl : l.val < 64
  · rw [dif_pos hl, ratioE_real (fun j => s (Fin.castLE hn j)) t ht v (fun j => u (Fin.castLE hn j) ⟨l.val, hl⟩) l hl (fun j => hu j l hl) h1]
    exact congrArg (fun r : ℝ => (r : EReal)) (softR_castLE hn s (fun j => u j ⟨l.val, hl⟩) t ht)
  · rw [dif_neg hl]
    unfold ratioE
    rw [if_neg hl]

section Heads
variable (v13 v14 v15 : View sig .tc .vmem S5x2048x128 .bf16) (L0 L1 L2 : List (View.Piece (Elt Ideal) S5x2048x128 .bf16))
variable (Q K V : Fin 5 → Fin 2048 → Fin 128 → EReal)
variable (hQ : ∀ h t d, View.canon (Val := Elt Ideal) L0 (ix3 h t d) = Q h t d) (hK : ∀ h t d, View.canon (Val := Elt Ideal) L1 (ix3 h t d) = K h t d)
variable (hV : ∀ h t d, View.canon (Val := Elt Ideal) L2 (ix3 h t d) = V h t d)
variable (s : Fin 5 → Fin 2048 → Fin 2048 → ℝ) (u : Fin 5 → Fin 2048 → Fin 64 → ℝ)
variable (hs : ∀ h t j, ∑ d : Fin 128, Q h t d * K h j d = ((s h t j : ℝ) : EReal))
variable (hu : ∀ h j (l : Fin 128) (hl : l.val < 64), V h j l = ((u h j ⟨l.val, hl⟩ : ℝ) : EReal)) (h1 : ∀ h j (l : Fin 128), 64 ≤ l.val → V h j l = 1)

/-- A head's lane. -/
def laneR (h : Fin 5) (t : Fin 2048) (l : Fin 128) : EReal :=
  if hl : l.val < 64 then ((softR (s h t) (fun j => u h j ⟨l.val, hl⟩) t.val : ℝ) : EReal) else 0

include hQ in
theorem readQ (h : Fin 5) (b : Fin 8) (i : Fin 256) (d : Fin 128) :
    v13.readCov (Val := Elt Ideal) L0 (qrect h b).toLoadRect (ix3 0 i d) = Q h ⟨256 * b.val + i.val, by omega⟩ d := by
  rw [View.readCov_eq_canon' (Val := Elt Ideal)]
  refine Eq.trans ?_ (hQ h ⟨256 * b.val + i.val, by omega⟩ d)
  exact congrArg (View.canon (Val := Elt Ideal) L0) (qrect_emb h b i d)

theorem krect256_emb (h : Fin 5) (i : Fin 256) (l : Fin 128) :
    (krect256 h).idx (ix3 (0 : Fin 1) i l) = ix3 h (Fin.castLE (by norm_num) i : Fin 2048) l := by
  funext a
  fin_cases a
  · exact Fin.ext (by show h.val + 1 * 0 = h.val; omega)
  · exact Fin.ext (by show 0 + 1 * i.val = i.val; omega)
  · exact Fin.ext (by show 0 + 1 * l.val = l.val; omega)

include hQ hK hV hs hu h1 in
theorem headB256_real (h : Fin 5) (i : Fin 256) (l : Fin 128) :
    headB256 (F := Ideal) v13 v14 v15 L0 L1 L2 h (ix2 i l) = laneR s u h ⟨256 * 0 + i.val, by omega⟩ l := by
  unfold headB256
  rw [block256_apply]
  refine (attnE_real (by norm_num : 256 ≤ 2048) _ _ _ _ (by omega) l (s h ⟨256 * 0 + i.val, by omega⟩) (u h) ?_ ?_ ?_).trans rfl
  · intro j
    refine Eq.trans (Finset.sum_congr rfl fun d _ => ?_) (hs h ⟨256 * 0 + i.val, by omega⟩ (Fin.castLE (by norm_num) j))
    refine congrArg₂ (fun a b : EReal => a * b) (readQ v13 L0 Q hQ h 0 i d) ?_
    rw [View.readCov_eq_canon' (Val := Elt Ideal)]
    exact (congrArg (View.canon (Val := Elt Ideal) L1) (krect256_emb h j d)).trans (hK h _ d)
  · intro j l hl
    rw [View.readCov_eq_canon' (Val := Elt Ideal)]
    exact ((congrArg (View.canon (Val := Elt Ideal) L2) (krect256_emb h j l)).trans (hV h _ l)).trans (hu h _ l hl)
  · intro j l hl
    rw [View.readCov_eq_canon' (Val := Elt Ideal)]
    exact ((congrArg (View.canon (Val := Elt Ideal) L2) (krect256_emb h j l)).trans (hV h _ l)).trans (h1 h _ l hl)

theorem krect512_emb (h : Fin 5) (i : Fin 512) (l : Fin 128) :
    (krect512 h).idx (ix3 (0 : Fin 1) i l) = ix3 h (Fin.castLE (by norm_num) i : Fin 2048) l := by
  funext a
  fin_cases a
  · exact Fin.ext (by show h.val + 1 * 0 = h.val; omega)
  · exact Fin.ext (by show 0 + 1 * i.val = i.val; omega)
  · exact Fin.ext (by show 0 + 1 * l.val = l.val; omega)

include hQ hK hV hs hu h1 in
theorem headB512_real (h : Fin 5) (i : Fin 256) (l : Fin 128) :
    headB512 (F := Ideal) v13 v14 v15 L0 L1 L2 h (ix2 i l) = laneR s u h ⟨256 * 1 + i.val, by omega⟩ l := by
  unfold headB512
  rw [block512_apply]
  refine (attnE_real (by norm_num : 512 ≤ 2048) _ _ _ _ (by omega) l (s h ⟨256 * 1 + i.val, by omega⟩) (u h) ?_ ?_ ?_).trans rfl
  · intro j
    refine Eq.trans (Finset.sum_congr rfl fun d _ => ?_) (hs h ⟨256 * 1 + i.val, by omega⟩ (Fin.castLE (by norm_num) j))
    refine congrArg₂ (fun a b : EReal => a * b) (readQ v13 L0 Q hQ h 1 i d) ?_
    rw [View.readCov_eq_canon' (Val := Elt Ideal)]
    exact (congrArg (View.canon (Val := Elt Ideal) L1) (krect512_emb h j d)).trans (hK h _ d)
  · intro j l hl
    rw [View.readCov_eq_canon' (Val := Elt Ideal)]
    exact ((congrArg (View.canon (Val := Elt Ideal) L2) (krect512_emb h j l)).trans (hV h _ l)).trans (hu h _ l hl)
  · intro j l hl
    rw [View.readCov_eq_canon' (Val := Elt Ideal)]
    exact ((congrArg (View.canon (Val := Elt Ideal) L2) (krect512_emb h j l)).trans (hV h _ l)).trans (h1 h _ l hl)

theorem krect768_emb (h : Fin 5) (i : Fin 768) (l : Fin 128) :
    (krect768 h).idx (ix3 (0 : Fin 1) i l) = ix3 h (Fin.castLE (by norm_num) i : Fin 2048) l := by
  funext a
  fin_cases a
  · exact Fin.ext (by show h.val + 1 * 0 = h.val; omega)
  · exact Fin.ext (by show 0 + 1 * i.val = i.val; omega)
  · exact Fin.ext (by show 0 + 1 * l.val = l.val; omega)

include hQ hK hV hs hu h1 in
theorem headB768_real (h : Fin 5) (i : Fin 256) (l : Fin 128) :
    headB768 (F := Ideal) v13 v14 v15 L0 L1 L2 h (ix2 i l) = laneR s u h ⟨256 * 2 + i.val, by omega⟩ l := by
  unfold headB768
  rw [block768_apply]
  refine (attnE_real (by norm_num : 768 ≤ 2048) _ _ _ _ (by omega) l (s h ⟨256 * 2 + i.val, by omega⟩) (u h) ?_ ?_ ?_).trans rfl
  · intro j
    refine Eq.trans (Finset.sum_congr rfl fun d _ => ?_) (hs h ⟨256 * 2 + i.val, by omega⟩ (Fin.castLE (by norm_num) j))
    refine congrArg₂ (fun a b : EReal => a * b) (readQ v13 L0 Q hQ h 2 i d) ?_
    rw [View.readCov_eq_canon' (Val := Elt Ideal)]
    exact (congrArg (View.canon (Val := Elt Ideal) L1) (krect768_emb h j d)).trans (hK h _ d)
  · intro j l hl
    rw [View.readCov_eq_canon' (Val := Elt Ideal)]
    exact ((congrArg (View.canon (Val := Elt Ideal) L2) (krect768_emb h j l)).trans (hV h _ l)).trans (hu h _ l hl)
  · intro j l hl
    rw [View.readCov_eq_canon' (Val := Elt Ideal)]
    exact ((congrArg (View.canon (Val := Elt Ideal) L2) (krect768_emb h j l)).trans (hV h _ l)).trans (h1 h _ l hl)

theorem krect1024_emb (h : Fin 5) (i : Fin 1024) (l : Fin 128) :
    (krect1024 h).idx (ix3 (0 : Fin 1) i l) = ix3 h (Fin.castLE (by norm_num) i : Fin 2048) l := by
  funext a
  fin_cases a
  · exact Fin.ext (by show h.val + 1 * 0 = h.val; omega)
  · exact Fin.ext (by show 0 + 1 * i.val = i.val; omega)
  · exact Fin.ext (by show 0 + 1 * l.val = l.val; omega)

include hQ hK hV hs hu h1 in
theorem headB1024_real (h : Fin 5) (i : Fin 256) (l : Fin 128) :
    headB1024 (F := Ideal) v13 v14 v15 L0 L1 L2 h (ix2 i l) = laneR s u h ⟨256 * 3 + i.val, by omega⟩ l := by
  unfold headB1024
  rw [block1024_apply]
  refine (attnE_real (by norm_num : 1024 ≤ 2048) _ _ _ _ (by omega) l (s h ⟨256 * 3 + i.val, by omega⟩) (u h) ?_ ?_ ?_).trans rfl
  · intro j
    refine Eq.trans (Finset.sum_congr rfl fun d _ => ?_) (hs h ⟨256 * 3 + i.val, by omega⟩ (Fin.castLE (by norm_num) j))
    refine congrArg₂ (fun a b : EReal => a * b) (readQ v13 L0 Q hQ h 3 i d) ?_
    rw [View.readCov_eq_canon' (Val := Elt Ideal)]
    exact (congrArg (View.canon (Val := Elt Ideal) L1) (krect1024_emb h j d)).trans (hK h _ d)
  · intro j l hl
    rw [View.readCov_eq_canon' (Val := Elt Ideal)]
    exact ((congrArg (View.canon (Val := Elt Ideal) L2) (krect1024_emb h j l)).trans (hV h _ l)).trans (hu h _ l hl)
  · intro j l hl
    rw [View.readCov_eq_canon' (Val := Elt Ideal)]
    exact ((congrArg (View.canon (Val := Elt Ideal) L2) (krect1024_emb h j l)).trans (hV h _ l)).trans (h1 h _ l hl)

theorem krect1280_emb (h : Fin 5) (i : Fin 1280) (l : Fin 128) :
    (krect1280 h).idx (ix3 (0 : Fin 1) i l) = ix3 h (Fin.castLE (by norm_num) i : Fin 2048) l := by
  funext a
  fin_cases a
  · exact Fin.ext (by show h.val + 1 * 0 = h.val; omega)
  · exact Fin.ext (by show 0 + 1 * i.val = i.val; omega)
  · exact Fin.ext (by show 0 + 1 * l.val = l.val; omega)

include hQ hK hV hs hu h1 in
theorem headB1280_real (h : Fin 5) (i : Fin 256) (l : Fin 128) :
    headB1280 (F := Ideal) v13 v14 v15 L0 L1 L2 h (ix2 i l) = laneR s u h ⟨256 * 4 + i.val, by omega⟩ l := by
  unfold headB1280
  rw [block1280_apply]
  refine (attnE_real (by norm_num : 1280 ≤ 2048) _ _ _ _ (by omega) l (s h ⟨256 * 4 + i.val, by omega⟩) (u h) ?_ ?_ ?_).trans rfl
  · intro j
    refine Eq.trans (Finset.sum_congr rfl fun d _ => ?_) (hs h ⟨256 * 4 + i.val, by omega⟩ (Fin.castLE (by norm_num) j))
    refine congrArg₂ (fun a b : EReal => a * b) (readQ v13 L0 Q hQ h 4 i d) ?_
    rw [View.readCov_eq_canon' (Val := Elt Ideal)]
    exact (congrArg (View.canon (Val := Elt Ideal) L1) (krect1280_emb h j d)).trans (hK h _ d)
  · intro j l hl
    rw [View.readCov_eq_canon' (Val := Elt Ideal)]
    exact ((congrArg (View.canon (Val := Elt Ideal) L2) (krect1280_emb h j l)).trans (hV h _ l)).trans (hu h _ l hl)
  · intro j l hl
    rw [View.readCov_eq_canon' (Val := Elt Ideal)]
    exact ((congrArg (View.canon (Val := Elt Ideal) L2) (krect1280_emb h j l)).trans (hV h _ l)).trans (h1 h _ l hl)

theorem krect1536_emb (h : Fin 5) (i : Fin 1536) (l : Fin 128) :
    (krect1536 h).idx (ix3 (0 : Fin 1) i l) = ix3 h (Fin.castLE (by norm_num) i : Fin 2048) l := by
  funext a
  fin_cases a
  · exact Fin.ext (by show h.val + 1 * 0 = h.val; omega)
  · exact Fin.ext (by show 0 + 1 * i.val = i.val; omega)
  · exact Fin.ext (by show 0 + 1 * l.val = l.val; omega)

include hQ hK hV hs hu h1 in
theorem headB1536_real (h : Fin 5) (i : Fin 256) (l : Fin 128) :
    headB1536 (F := Ideal) v13 v14 v15 L0 L1 L2 h (ix2 i l) = laneR s u h ⟨256 * 5 + i.val, by omega⟩ l := by
  unfold headB1536
  rw [block1536_apply]
  refine (attnE_real (by norm_num : 1536 ≤ 2048) _ _ _ _ (by omega) l (s h ⟨256 * 5 + i.val, by omega⟩) (u h) ?_ ?_ ?_).trans rfl
  · intro j
    refine Eq.trans (Finset.sum_congr rfl fun d _ => ?_) (hs h ⟨256 * 5 + i.val, by omega⟩ (Fin.castLE (by norm_num) j))
    refine congrArg₂ (fun a b : EReal => a * b) (readQ v13 L0 Q hQ h 5 i d) ?_
    rw [View.readCov_eq_canon' (Val := Elt Ideal)]
    exact (congrArg (View.canon (Val := Elt Ideal) L1) (krect1536_emb h j d)).trans (hK h _ d)
  · intro j l hl
    rw [View.readCov_eq_canon' (Val := Elt Ideal)]
    exact ((congrArg (View.canon (Val := Elt Ideal) L2) (krect1536_emb h j l)).trans (hV h _ l)).trans (hu h _ l hl)
  · intro j l hl
    rw [View.readCov_eq_canon' (Val := Elt Ideal)]
    exact ((congrArg (View.canon (Val := Elt Ideal) L2) (krect1536_emb h j l)).trans (hV h _ l)).trans (h1 h _ l hl)

theorem krect1792_emb (h : Fin 5) (i : Fin 1792) (l : Fin 128) :
    (krect1792 h).idx (ix3 (0 : Fin 1) i l) = ix3 h (Fin.castLE (by norm_num) i : Fin 2048) l := by
  funext a
  fin_cases a
  · exact Fin.ext (by show h.val + 1 * 0 = h.val; omega)
  · exact Fin.ext (by show 0 + 1 * i.val = i.val; omega)
  · exact Fin.ext (by show 0 + 1 * l.val = l.val; omega)

include hQ hK hV hs hu h1 in
theorem headB1792_real (h : Fin 5) (i : Fin 256) (l : Fin 128) :
    headB1792 (F := Ideal) v13 v14 v15 L0 L1 L2 h (ix2 i l) = laneR s u h ⟨256 * 6 + i.val, by omega⟩ l := by
  unfold headB1792
  rw [block1792_apply]
  refine (attnE_real (by norm_num : 1792 ≤ 2048) _ _ _ _ (by omega) l (s h ⟨256 * 6 + i.val, by omega⟩) (u h) ?_ ?_ ?_).trans rfl
  · intro j
    refine Eq.trans (Finset.sum_congr rfl fun d _ => ?_) (hs h ⟨256 * 6 + i.val, by omega⟩ (Fin.castLE (by norm_num) j))
    refine congrArg₂ (fun a b : EReal => a * b) (readQ v13 L0 Q hQ h 6 i d) ?_
    rw [View.readCov_eq_canon' (Val := Elt Ideal)]
    exact (congrArg (View.canon (Val := Elt Ideal) L1) (krect1792_emb h j d)).trans (hK h _ d)
  · intro j l hl
    rw [View.readCov_eq_canon' (Val := Elt Ideal)]
    exact ((congrArg (View.canon (Val := Elt Ideal) L2) (krect1792_emb h j l)).trans (hV h _ l)).trans (hu h _ l hl)
  · intro j l hl
    rw [View.readCov_eq_canon' (Val := Elt Ideal)]
    exact ((congrArg (View.canon (Val := Elt Ideal) L2) (krect1792_emb h j l)).trans (hV h _ l)).trans (h1 h _ l hl)

theorem krect2048_emb (h : Fin 5) (i : Fin 2048) (l : Fin 128) :
    (krect2048 h).idx (ix3 (0 : Fin 1) i l) = ix3 h (Fin.castLE (by norm_num) i : Fin 2048) l := by
  funext a
  fin_cases a
  · exact Fin.ext (by show h.val + 1 * 0 = h.val; omega)
  · exact Fin.ext (by show 0 + 1 * i.val = i.val; omega)
  · exact Fin.ext (by show 0 + 1 * l.val = l.val; omega)

include hQ hK hV hs hu h1 in
theorem headB2048_real (h : Fin 5) (i : Fin 256) (l : Fin 128) :
    headB2048 (F := Ideal) v13 v14 v15 L0 L1 L2 h (ix2 i l) = laneR s u h ⟨256 * 7 + i.val, by omega⟩ l := by
  unfold headB2048
  rw [block2048_apply]
  refine (attnE_real (by norm_num : 2048 ≤ 2048) _ _ _ _ (by omega) l (s h ⟨256 * 7 + i.val, by omega⟩) (u h) ?_ ?_ ?_).trans rfl
  · intro j
    refine Eq.trans (Finset.sum_congr rfl fun d _ => ?_) (hs h ⟨256 * 7 + i.val, by omega⟩ (Fin.castLE (by norm_num) j))
    refine congrArg₂ (fun a b : EReal => a * b) (readQ v13 L0 Q hQ h 7 i d) ?_
    rw [View.readCov_eq_canon' (Val := Elt Ideal)]
    exact (congrArg (View.canon (Val := Elt Ideal) L1) (krect2048_emb h j d)).trans (hK h _ d)
  · intro j l hl
    rw [View.readCov_eq_canon' (Val := Elt Ideal)]
    exact ((congrArg (View.canon (Val := Elt Ideal) L2) (krect2048_emb h j l)).trans (hV h _ l)).trans (hu h _ l hl)
  · intro j l hl
    rw [View.readCov_eq_canon' (Val := Elt Ideal)]
    exact ((congrArg (View.canon (Val := Elt Ideal) L2) (krect2048_emb h j l)).trans (hV h _ l)).trans (h1 h _ l hl)

include hQ hK hV hs hu h1 in
theorem headB_real (b : Fin 8) (h : Fin 5) (i : Fin 256) (l : Fin 128) :
    headB (F := Ideal) v13 v14 v15 L0 L1 L2 b h (ix2 i l) = laneR s u h ⟨256 * b.val + i.val, by omega⟩ l := by
  fin_cases b
  · exact headB256_real v13 v14 v15 L0 L1 L2 Q K V hQ hK hV s u hs hu h1 h i l
  · exact headB512_real v13 v14 v15 L0 L1 L2 Q K V hQ hK hV s u hs hu h1 h i l
  · exact headB768_real v13 v14 v15 L0 L1 L2 Q K V hQ hK hV s u hs hu h1 h i l
  · exact headB1024_real v13 v14 v15 L0 L1 L2 Q K V hQ hK hV s u hs hu h1 h i l
  · exact headB1280_real v13 v14 v15 L0 L1 L2 Q K V hQ hK hV s u hs hu h1 h i l
  · exact headB1536_real v13 v14 v15 L0 L1 L2 Q K V hQ hK hV s u hs hu h1 h i l
  · exact headB1792_real v13 v14 v15 L0 L1 L2 Q K V hQ hK hV s u hs hu h1 h i l
  · exact headB2048_real v13 v14 v15 L0 L1 L2 Q K V hQ hK hV s u hs hu h1 h i l

theorem pairC_apply (a b : FVec Ideal S256x128 .f32) (i : Fin 256) (l : Fin 128) :
    pairC (F := Ideal) a b (ix3 0 i l) = a (ix2 i l) + b (ix2 i ⟨(l.val + 128 - 64) % 128, Nat.mod_lt _ (by norm_num)⟩) := by
  pointwise [pairC]

theorem soloC_apply (a : FVec Ideal S256x128 .f32) (i : Fin 256) (l : Fin 128) : soloC (F := Ideal) a (ix3 0 i l) = a (ix2 i l) := by
  pointwise [soloC]

/-- A column of the result: head `k / 64`, lane `k % 64`, zero past the heads. -/
def outR (t : Fin 2048) (k : Fin 384) : EReal :=
  if hk : k.val < 320 then ((softR (s ⟨k.val / 64, by omega⟩ t) (fun j => u ⟨k.val / 64, by omega⟩ j ⟨k.val % 64, by omega⟩) t.val : ℝ) : EReal) else 0

theorem laneR_low (h : Fin 5) (t : Fin 2048) (l : Fin 128) (k : Fin 384) (hk : k.val = 64 * h.val + l.val) (hl : l.val < 64) : laneR s u h t l = outR s u t k := by
  unfold laneR outR
  rw [dif_pos hl, dif_pos (by omega)]
  have e1 : (⟨k.val / 64, by omega⟩ : Fin 5) = h := Fin.ext (by show k.val / 64 = h.val; omega)
  have e2 : (⟨k.val % 64, by omega⟩ : Fin 64) = ⟨l.val, hl⟩ := Fin.ext (by show k.val % 64 = l.val; omega)
  rw [e1, e2]

theorem laneR_high (h : Fin 5) (t : Fin 2048) (l : Fin 128) (hl : ¬ l.val < 64) : laneR s u h t l = 0 := dif_neg hl

theorem outR_high (t : Fin 2048) (k : Fin 384) (hk : ¬ k.val < 320) : outR s u t k = 0 := dif_neg hk

/-- Two heads side by side are their columns. -/
theorem laneR_pair (a b : Fin 5) (p : Nat) (ha : a.val = 2 * p) (hb : b.val = 2 * p + 1) (t : Fin 2048) (l : Fin 128) (k : Fin 384) (hk : k.val = 128 * p + l.val) :
    laneR s u a t l + laneR s u b t ⟨(l.val + 128 - 64) % 128, Nat.mod_lt _ (by norm_num)⟩ = outR s u t k := by
  by_cases hl : l.val < 64
  · rw [laneR_low s u a t l k (by omega) hl, laneR_high s u b t _ (by show ¬ (l.val + 128 - 64) % 128 < 64; omega), add_zero]
  · rw [laneR_high s u a t l hl, laneR_low s u b t ⟨(l.val + 128 - 64) % 128, Nat.mod_lt _ (by norm_num)⟩ k
      (by show k.val = 64 * b.val + (l.val + 128 - 64) % 128; omega) (by show (l.val + 128 - 64) % 128 < 64; omega), zero_add]

include hQ hK hV hs hu h1 in
/-- The result block. -/
theorem blocks_real (t : Fin 2048) (k : Fin 384) :
    View.canon (Val := Elt Ideal) (all24 (outP (headB (F := Ideal) v13 v14 v15 L0 L1 L2))) (ix3 0 t k) = outR s u t k := by
  refine (canon24 (fun p b => (outP (headB (F := Ideal) v13 v14 v15 L0 L1 L2) p b).2) (outR s u) ?_ t k)
  intro p b i l
  have hh := headB_real v13 v14 v15 L0 L1 L2 Q K V hQ hK hV s u hs hu h1
  fin_cases p
  · refine (pairC_apply _ _ i l).trans ?_
    rw [hh b 0 i l, hh b 1 i _]
    exact laneR_pair s u 0 1 0 rfl rfl _ l _ rfl
  · refine (pairC_apply _ _ i l).trans ?_
    rw [hh b 2 i l, hh b 3 i _]
    exact laneR_pair s u 2 3 1 rfl rfl _ l _ rfl
  · refine (soloC_apply _ i l).trans ?_
    rw [hh b 4 i l]
    by_cases hl : l.val < 64
    · exact laneR_low s u 4 _ l _ rfl hl
    · rw [laneR_high s u 4 _ l hl]
      exact (outR_high s u _ _ (by show ¬ 128 * 2 + l.val < 320; omega)).symm

end Heads

end Cert.KernelIdeal.Mla

end
-- ==== Proof.MlaTile.lean ====
/-
  The result block of one grid point from its input blocks.
-/
module

public import proofs.«01_k».proof.Proof.MlaBlock

@[expose] public section

set_option maxRecDepth 16384

noncomputable section

open Idealize.ShloMosaic Idealize.ShloMosaic.TcCoe Idealize.SL.Sem

namespace Cert.KernelIdeal.Mla
open Cert.KernelIdeal Cert.KernelIdeal.Gen

/-- A head's queries from the blocks. -/
def qT (x0 : Vec Ideal S1x2048x256 .f32) (x3 x4 : Vec Ideal S1x2048x128 .f32) (x5 : Vec Ideal S1x256 .f32) (x7 x8 : Vec Ideal S256x640 .bf16) (h : Fin 5) (t : Fin 2048) (d : Fin 128) : EReal :=
  qE (fun k => x0 (ix3 0 t k)) (fun k => x5 (ix2 0 k)) (fun l => x3 (ix3 0 t l)) (fun l => x4 (ix3 0 t l)) (fun k l => x7 (ix2 k ⟨128 * h.val + l.val, by omega⟩)) (fun k l => x8 (ix2 k ⟨128 * h.val + l.val, by omega⟩)) d

/-- A head's keys from the blocks. -/
def kT (x1 x2 x3 x4 : Vec Ideal S1x2048x128 .f32) (x6 : Vec Ideal S1x128 .f32) (x9 : Vec Ideal S128x640 .bf16) (h : Fin 5) (t : Fin 2048) (d : Fin 128) : EReal :=
  kE (fun k => x1 (ix3 0 t k)) (fun k => x6 (ix2 0 k)) (fun k => x2 (ix3 0 t k)) (fun l => x3 (ix3 0 t l)) (fun l => x4 (ix3 0 t l)) (fun k l => x9 (ix2 k ⟨128 * h.val + l.val, by omega⟩)) d

/-- A head's values from the blocks. -/
def vT (x1 : Vec Ideal S1x2048x128 .f32) (x6 : Vec Ideal S1x128 .f32) (x10 : Vec Ideal S128x640 .bf16) (h : Fin 5) (t : Fin 2048) (d : Fin 128) : EReal :=
  vE (fun k => x1 (ix3 0 t k)) (fun k => x6 (ix2 0 k)) (fun k l => x10 (ix2 k ⟨128 * h.val + l.val, by omega⟩)) d

theorem rows256_emb (r : Fin 4) (i : Fin 512) (l : Fin 256) :
    (rows256 r).idx (ix3 (0 : Fin 1) i l) = ix3 (0 : Fin 1) (⟨512 * r.val + i.val, by omega⟩ : Fin 2048) l := by
  funext a
  fin_cases a
  · exact Fin.ext (by show 0 + 1 * 0 = 0; omega)
  · exact Fin.ext (by show 512 * r.val + 1 * i.val = 512 * r.val + i.val; omega)
  · exact Fin.ext (by show 0 + 1 * l.val = l.val; omega)

theorem cols256_emb (h : Fin 5) (k : Fin 256) (l : Fin 128) : (cols256 h).idx (ix2 k l) = ix2 k (⟨128 * h.val + l.val, by omega⟩ : Fin 640) := by
  funext a
  fin_cases a
  · exact Fin.ext (by show 0 + 1 * k.val = k.val; omega)
  · exact Fin.ext (by show 128 * h.val + 1 * l.val = 128 * h.val + l.val; omega)

theorem gains256_emb (k : Fin 256) : (Rect.unit (s := S1x256) ![0, 0] S1x256.size inbG256).idx (ix2 (0 : Fin 1) k) = ix2 (0 : Fin 1) k := by
  funext a
  fin_cases a
  · exact Fin.ext (by show 0 + 1 * 0 = 0; omega)
  · exact Fin.ext (by show 0 + 1 * k.val = k.val; omega)

theorem rows128_emb (r : Fin 4) (i : Fin 512) (l : Fin 128) :
    (rows128 r).idx (ix3 (0 : Fin 1) i l) = ix3 (0 : Fin 1) (⟨512 * r.val + i.val, by omega⟩ : Fin 2048) l := by
  funext a
  fin_cases a
  · exact Fin.ext (by show 0 + 1 * 0 = 0; omega)
  · exact Fin.ext (by show 512 * r.val + 1 * i.val = 512 * r.val + i.val; omega)
  · exact Fin.ext (by show 0 + 1 * l.val = l.val; omega)

theorem cols128_emb (h : Fin 5) (k : Fin 128) (l : Fin 128) : (cols128 h).idx (ix2 k l) = ix2 k (⟨128 * h.val + l.val, by omega⟩ : Fin 640) := by
  funext a
  fin_cases a
  · exact Fin.ext (by show 0 + 1 * k.val = k.val; omega)
  · exact Fin.ext (by show 128 * h.val + 1 * l.val = 128 * h.val + l.val; omega)

theorem gains128_emb (k : Fin 128) : (Rect.unit (s := S1x128) ![0, 0] S1x128.size inbG128).idx (ix2 (0 : Fin 1) k) = ix2 (0 : Fin 1) k := by
  funext a
  fin_cases a
  · exact Fin.ext (by show 0 + 1 * 0 = 0; omega)
  · exact Fin.ext (by show 0 + 1 * k.val = k.val; omega)

theorem readBack {S : Shape} {e : EltTy} (a : Memref sig .tc .vmem S e) (ha : a.IsWhole) (x : Vec Ideal S e) (B : Rect S) (j : B.shape.Idx) :
    a.view.readAt (Elt Ideal) B.toLoadRect (ha.unread x) j = x (B.toLoadRect.idx j) :=
  congrFun (ha.read_unread x) (B.toLoadRect.idx j)

section Run
variable (c : Dev nD) (i : grid0.Coords) (arg1 : Memref sig .tc .vmem S1x2048x256 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S256x640 .bf16) (harg8 : arg8.IsWhole) (arg9 : Memref sig .tc .vmem S256x640 .bf16) (harg9 : arg9.IsWhole) (arg10 : Memref sig .tc .vmem S128x640 .bf16) (harg10 : arg10.IsWhole) (arg11 : Memref sig .tc .vmem S128x640 .bf16) (harg11 : arg11.IsWhole) (arg12 : Memref sig .tc .vmem S1x2048x384 .bf16) (harg12 : arg12.IsWhole) (arg13 : Memref sig .tc .vmem S5x2048x128 .bf16) (harg13 : arg13.IsWhole) (arg14 : Memref sig .tc .vmem S5x2048x128 .bf16) (harg14 : arg14.IsWhole) (arg15 : Memref sig .tc .vmem S5x2048x128 .bf16) (harg15 : arg15.IsWhole)
   (x0 : Vec Ideal S1x2048x256 .f32) (x1 : Vec Ideal S1x2048x128 .f32) (x2 : Vec Ideal S1x2048x128 .f32) (x3 : Vec Ideal S1x2048x128 .f32) (x4 : Vec Ideal S1x2048x128 .f32) (x5 : Vec Ideal S1x256 .f32) (x6 : Vec Ideal S1x128 .f32) (x7 : Vec Ideal S256x640 .bf16) (x8 : Vec Ideal S256x640 .bf16) (x9 : Vec Ideal S128x640 .bf16) (x10 : Vec Ideal S128x640 .bf16)

theorem queries_canon (h : Fin 5) (t : Fin 2048) (d : Fin 128) : View.canon (Val := Elt Ideal) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10).2.1 (ix3 h t d) = qT x0 x3 x4 x5 x7 x8 h t d := by
  rw [queries_eq]
  refine canon20 (fun h r => (qP (F := Ideal) (fun r => arg1.view.readAt (Elt Ideal) (rows256 r).toLoadRect (harg1.unread x0)) (arg6.view.readAt (Elt Ideal) (Rect.unit (s := S1x256) ![0, 0] S1x256.size (inbG256)).toLoadRect (harg6.unread x5)) (fun r => arg4.view.readAt (Elt Ideal) (rows128 r).toLoadRect (harg4.unread x3)) (fun r => arg5.view.readAt (Elt Ideal) (rows128 r).toLoadRect (harg5.unread x4)) (fun h => arg8.view.readAt (Elt Ideal) (cols256 h).toLoadRect (harg8.unread x7)) (fun h => arg9.view.readAt (Elt Ideal) (cols256 h).toLoadRect (harg9.unread x8)) h r).2) (qT x0 x3 x4 x5 x7 x8) (fun h r i l => ?_) h t d
  refine (qC_apply _ _ _ _ _ _ i l).trans ?_
  unfold qT
  have e1 := funext fun k => (readBack arg1 harg1 x0 (rows256 r) _).trans (congrArg x0 (rows256_emb r i k))
  have e2 := funext fun k => (readBack arg6 harg6 x5 _ _).trans (congrArg x5 (gains256_emb k))
  have e3 := funext fun k => (readBack arg4 harg4 x3 (rows128 r) _).trans (congrArg x3 (rows128_emb r i k))
  have e4 := funext fun k => (readBack arg5 harg5 x4 (rows128 r) _).trans (congrArg x4 (rows128_emb r i k))
  have e5 := funext fun k => funext fun l => (readBack arg8 harg8 x7 (cols256 h) _).trans (congrArg x7 (cols256_emb h k l))
  have e6 := funext fun k => funext fun l => (readBack arg9 harg9 x8 (cols256 h) _).trans (congrArg x8 (cols256_emb h k l))
  rw [e1, e2, e3, e4, e5, e6]

theorem keys_canon (h : Fin 5) (t : Fin 2048) (d : Fin 128) : View.canon (Val := Elt Ideal) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10).2.2.1 (ix3 h t d) = kT x1 x2 x3 x4 x6 x9 h t d := by
  rw [keys_eq]
  refine canon20 (fun h r => (kP (F := Ideal) (fun r => arg2.view.readAt (Elt Ideal) (rows128 r).toLoadRect (harg2.unread x1)) (arg7.view.readAt (Elt Ideal) (Rect.unit (s := S1x128) ![0, 0] S1x128.size (inbG128)).toLoadRect (harg7.unread x6)) (fun r => arg3.view.readAt (Elt Ideal) (rows128 r).toLoadRect (harg3.unread x2)) (fun r => arg4.view.readAt (Elt Ideal) (rows128 r).toLoadRect (harg4.unread x3)) (fun r => arg5.view.readAt (Elt Ideal) (rows128 r).toLoadRect (harg5.unread x4)) (fun h => arg10.view.readAt (Elt Ideal) (cols128 h).toLoadRect (harg10.unread x9)) h r).2) (kT x1 x2 x3 x4 x6 x9) (fun h r i l => ?_) h t d
  refine (kC_apply _ _ _ _ _ _ i l).trans ?_
  unfold kT
  have e1 := funext fun k => (readBack arg2 harg2 x1 (rows128 r) _).trans (congrArg x1 (rows128_emb r i k))
  have e2 := funext fun k => (readBack arg7 harg7 x6 _ _).trans (congrArg x6 (gains128_emb k))
  have e3 := funext fun k => (readBack arg3 harg3 x2 (rows128 r) _).trans (congrArg x2 (rows128_emb r i k))
  have e4 := funext fun k => (readBack arg4 harg4 x3 (rows128 r) _).trans (congrArg x3 (rows128_emb r i k))
  have e5 := funext fun k => (readBack arg5 harg5 x4 (rows128 r) _).trans (congrArg x4 (rows128_emb r i k))
  have e6 := funext fun k => funext fun l => (readBack arg10 harg10 x9 (cols128 h) _).trans (congrArg x9 (cols128_emb h k l))
  rw [e1, e2, e3, e4, e5, e6]

theorem values_canon (h : Fin 5) (t : Fin 2048) (d : Fin 128) : View.canon (Val := Elt Ideal) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10).2.2.2.1 (ix3 h t d) = vT x1 x6 x10 h t d := by
  rw [values_eq]
  refine canon20 (fun h r => (vP (F := Ideal) (fun r => arg2.view.readAt (Elt Ideal) (rows128 r).toLoadRect (harg2.unread x1)) (arg7.view.readAt (Elt Ideal) (Rect.unit (s := S1x128) ![0, 0] S1x128.size (inbG128)).toLoadRect (harg7.unread x6)) (fun h => arg11.view.readAt (Elt Ideal) (cols128 h).toLoadRect (harg11.unread x10)) h r).2) (vT x1 x6 x10) (fun h r i l => ?_) h t d
  refine (vC_apply _ _ _ i l).trans ?_
  unfold vT
  have e1 := funext fun k => (readBack arg2 harg2 x1 (rows128 r) _).trans (congrArg x1 (rows128_emb r i k))
  have e2 := funext fun k => (readBack arg7 harg7 x6 _ _).trans (congrArg x6 (gains128_emb k))
  have e6 := funext fun k => funext fun l => (readBack arg11 harg11 x10 (cols128 h) _).trans (congrArg x10 (cols128_emb h k l))
  rw [e1, e2, e6]

theorem tile_eq (s : Fin 5 → Fin 2048 → Fin 2048 → ℝ) (u : Fin 5 → Fin 2048 → Fin 64 → ℝ)
    (hs : ∀ h t j, ∑ d : Fin 128, qT x0 x3 x4 x5 x7 x8 h t d * kT x1 x2 x3 x4 x6 x9 h j d = ((s h t j : ℝ) : EReal))
    (hu : ∀ h j (l : Fin 128) (hl : l.val < 64), vT x1 x6 x10 h j l = ((u h j ⟨l.val, hl⟩ : ℝ) : EReal))
    (h1 : ∀ h j (l : Fin 128), 64 ≤ l.val → vT x1 x6 x10 h j l = 1) (t : Fin 2048) (k : Fin 384) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 (ix3 0 t k) = outR s u t k := by
  unfold out0_A_11
  refine (View.read_writes_junk_apply_eq_canon _ _ _).trans ?_
  rw [blocks_eq]
  exact blocks_real _ _ _ _ _ _ (qT x0 x3 x4 x5 x7 x8) (kT x1 x2 x3 x4 x6 x9) (vT x1 x6 x10)
    (queries_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10)
    (keys_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10)
    (values_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10)
    s u hs hu h1 t k

end Run

end Cert.KernelIdeal.Mla

end
-- ==== Proof.MlaHost.lean ====
/-
  The host program before the call: each value as a function of the arguments, and the arrays the call reads.
-/
module

public import proofs.«01_k».proof.Proof.Gen.KernelIdeal.Frame
public import Idealize.ShloMosaic.Lib.StableHlo.RunClose
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.KernelIdeal.Mla
open Cert.KernelIdeal Cert.KernelIdeal.Gen

def h_cst : (⟨S_, .f32⟩ : BufTy).Contents (Elt Ideal) :=
  constant (F := Ideal) S_ .f32 0x00000000#32
def h_v0 : (⟨S16x2048x64, .f32⟩ : BufTy).Contents (Elt Ideal) :=
  broadcastInDim S16x2048x64 ![] bcast_S_S16x2048x64 (h_cst)
def h_v1 (x2 : (⟨S16x2048x32, .f32⟩ : BufTy).Contents (Elt Ideal)) : (⟨S16x2048x16, .f32⟩ : BufTy).Contents (Elt Ideal) :=
  extractStridedSlice S16x2048x16 ![0, 0, 16] x2 slices_S16x2048x32_S16x2048x16_0_0_16
def h_v2 (x2 : (⟨S16x2048x32, .f32⟩ : BufTy).Contents (Elt Ideal)) : (⟨S16x2048x16, .f32⟩ : BufTy).Contents (Elt Ideal) :=
  Host.negf (F := Ideal) (φ := .f32) (h_v1 x2)
def h_v3 (x2 : (⟨S16x2048x32, .f32⟩ : BufTy).Contents (Elt Ideal)) : (⟨S16x2048x16, .f32⟩ : BufTy).Contents (Elt Ideal) :=
  extractStridedSlice S16x2048x16 ![0, 0, 0] x2 slices_S16x2048x32_S16x2048x16_0_0_0
def h_v4 (x2 : (⟨S16x2048x32, .f32⟩ : BufTy).Contents (Elt Ideal)) : (⟨S16x2048x0, .f32⟩ : BufTy).Contents (Elt Ideal) :=
  extractStridedSlice S16x2048x0 ![0, 0, 32] x2 slices_S16x2048x32_S16x2048x0_0_0_32
def h_cst_0 : (⟨S_, .f32⟩ : BufTy).Contents (Elt Ideal) :=
  constant (F := Ideal) S_ .f32 0x00000000#32
def h_v5 : (⟨S16x2048x0, .f32⟩ : BufTy).Contents (Elt Ideal) :=
  broadcastInDim S16x2048x0 ![] bcast_S_S16x2048x0 (h_cst_0)
def h_v6 (x2 : (⟨S16x2048x32, .f32⟩ : BufTy).Contents (Elt Ideal)) : (⟨S16x2048x32, .f32⟩ : BufTy).Contents (Elt Ideal) :=
  concatenate S16x2048x32 2 [⟨S16x2048x16, (h_v2 x2)⟩, ⟨S16x2048x16, (h_v3 x2)⟩, ⟨S16x2048x0, (h_v5)⟩] concatenates_S16x2048x16_S16x2048x16_S16x2048x0_S16x2048x32_d2
def h_v7 (x2 : (⟨S16x2048x32, .f32⟩ : BufTy).Contents (Elt Ideal)) : (⟨S16x2048x128, .f32⟩ : BufTy).Contents (Elt Ideal) :=
  concatenate S16x2048x128 2 [⟨S16x2048x64, (h_v0)⟩, ⟨S16x2048x32, x2⟩, ⟨S16x2048x32, (h_v6 x2)⟩] concatenates_S16x2048x64_S16x2048x32_S16x2048x32_S16x2048x128_d2
def h_cst_1 : (⟨S_, .f32⟩ : BufTy).Contents (Elt Ideal) :=
  constant (F := Ideal) S_ .f32 0x00000000#32
def h_v8 : (⟨S16x2048x2304, .f32⟩ : BufTy).Contents (Elt Ideal) :=
  broadcastInDim S16x2048x2304 ![] bcast_S_S16x2048x2304 (h_cst_1)
def h_cst_2 : (⟨S_, .f32⟩ : BufTy).Contents (Elt Ideal) :=
  constant (F := Ideal) S_ .f32 0x00000000#32
def h_v9 : (⟨S16x2048x1024, .f32⟩ : BufTy).Contents (Elt Ideal) :=
  broadcastInDim S16x2048x1024 ![] bcast_S_S16x2048x1024 (h_cst_2)
def h_cst_3 : (⟨S_, .f32⟩ : BufTy).Contents (Elt Ideal) :=
  constant (F := Ideal) S_ .f32 0x00000000#32
def h_v10 : (⟨S16x2048x128, .f32⟩ : BufTy).Contents (Elt Ideal) :=
  broadcastInDim S16x2048x128 ![] bcast_S_S16x2048x128 (h_cst_3)
def h_v11 (x0 : (⟨S16x2048x256, .f32⟩ : BufTy).Contents (Elt Ideal)) (x1 : (⟨S16x2048x128, .f32⟩ : BufTy).Contents (Elt Ideal)) (x2 : (⟨S16x2048x32, .f32⟩ : BufTy).Contents (Elt Ideal)) : (⟨S16x2048x3968, .f32⟩ : BufTy).Contents (Elt Ideal) :=
  concatenate S16x2048x3968 2 [⟨S16x2048x2304, (h_v8)⟩, ⟨S16x2048x256, x0⟩, ⟨S16x2048x1024, (h_v9)⟩, ⟨S16x2048x128, x1⟩, ⟨S16x2048x128, (h_v7 x2)⟩, ⟨S16x2048x128, (h_v10)⟩] concatenates_S16x2048x2304_S16x2048x256_S16x2048x1024_S16x2048x128_S16x2048x128_S16x2048x128_S16x2048x3968_d2
def h_v12 (x3 : (⟨S16x2048, .i32⟩ : BufTy).Contents (Elt Ideal)) : (⟨S16x2048, .f32⟩ : BufTy).Contents (Elt Ideal) :=
  sitofp (F := Ideal) .f32 x3
def h_v13 (x3 : (⟨S16x2048, .i32⟩ : BufTy).Contents (Elt Ideal)) : (⟨S16x2048x1, .f32⟩ : BufTy).Contents (Elt Ideal) :=
  broadcastInDim S16x2048x1 ![0, 1] bcast_S16x2048_S16x2048x1_0_1 (h_v12 x3)
def h_cst_4 : (⟨S_, .f32⟩ : BufTy).Contents (Elt Ideal) :=
  constant (F := Ideal) S_ .f32 0x00000000#32
def h_v14 : (⟨S32, .f32⟩ : BufTy).Contents (Elt Ideal) :=
  broadcastInDim S32 ![] bcast_S_S32 (h_cst_4)
def h_v15 (x4 : (⟨S16, .f32⟩ : BufTy).Contents (Elt Ideal)) : (⟨S128, .f32⟩ : BufTy).Contents (Elt Ideal) :=
  concatenate S128 0 [⟨S16, x4⟩, ⟨S16, x4⟩, ⟨S32, (h_v14)⟩, ⟨S16, x4⟩, ⟨S16, x4⟩, ⟨S32, (h_v14)⟩] concatenates_S16_S16_S32_S16_S16_S32_S128_d0
def h_v16 (x4 : (⟨S16, .f32⟩ : BufTy).Contents (Elt Ideal)) : (⟨S1x1x128, .f32⟩ : BufTy).Contents (Elt Ideal) :=
  broadcastInDim S1x1x128 ![2] bcast_S128_S1x1x128_2 (h_v15 x4)
def h_v17 (x3 : (⟨S16x2048, .i32⟩ : BufTy).Contents (Elt Ideal)) : (⟨S16x2048x128, .f32⟩ : BufTy).Contents (Elt Ideal) :=
  broadcastInDim S16x2048x128 ![0, 1, 2] bcast_S16x2048x1_S16x2048x128_0_1_2 (h_v13 x3)
def h_v18 (x4 : (⟨S16, .f32⟩ : BufTy).Contents (Elt Ideal)) : (⟨S16x2048x128, .f32⟩ : BufTy).Contents (Elt Ideal) :=
  broadcastInDim S16x2048x128 ![0, 1, 2] bcast_S1x1x128_S16x2048x128_0_1_2 (h_v16 x4)
def h_v19 (x3 : (⟨S16x2048, .i32⟩ : BufTy).Contents (Elt Ideal)) (x4 : (⟨S16, .f32⟩ : BufTy).Contents (Elt Ideal)) : (⟨S16x2048x128, .f32⟩ : BufTy).Contents (Elt Ideal) :=
  mulf (F := Ideal) (φ := .f32) (h_v17 x3) (h_v18 x4)
def h_v20 (x3 : (⟨S16x2048, .i32⟩ : BufTy).Contents (Elt Ideal)) (x4 : (⟨S16, .f32⟩ : BufTy).Contents (Elt Ideal)) : (⟨S16x2048x128, .f32⟩ : BufTy).Contents (Elt Ideal) :=
  Host.cos (F := Ideal) (φ := .f32) (h_v19 x3 x4)
def h_v21 (x3 : (⟨S16x2048, .i32⟩ : BufTy).Contents (Elt Ideal)) (x4 : (⟨S16, .f32⟩ : BufTy).Contents (Elt Ideal)) : (⟨S16x2048x128, .f32⟩ : BufTy).Contents (Elt Ideal) :=
  Host.sin (F := Ideal) (φ := .f32) (h_v19 x3 x4)
def h_v22 (x6 : (⟨S256x480, .f32⟩ : BufTy).Contents (Elt Ideal)) : (⟨S256x5x96, .f32⟩ : BufTy).Contents (Elt Ideal) :=
  shapeCast S256x5x96 x6 shapeCasts_S256x480_S256x5x96
def h_v23 (x6 : (⟨S256x480, .f32⟩ : BufTy).Contents (Elt Ideal)) : (⟨S256x5x64, .f32⟩ : BufTy).Contents (Elt Ideal) :=
  extractStridedSlice S256x5x64 ![0, 0, 0] (h_v22 x6) slices_S256x5x96_S256x5x64_0_0_0
def h_v24 (x6 : (⟨S256x480, .f32⟩ : BufTy).Contents (Elt Ideal)) : (⟨S256x5x32, .f32⟩ : BufTy).Contents (Elt Ideal) :=
  extractStridedSlice S256x5x32 ![0, 0, 64] (h_v22 x6) slices_S256x5x96_S256x5x32_0_0_64
def h_v25 (x6 : (⟨S256x480, .f32⟩ : BufTy).Contents (Elt Ideal)) : (⟨S256x5x96, .f32⟩ : BufTy).Contents (Elt Ideal) :=
  concatenate S256x5x96 2 [⟨S256x5x64, (h_v23 x6)⟩, ⟨S256x5x32, (h_v24 x6)⟩] concatenates_S256x5x64_S256x5x32_S256x5x96_d2
def h_cst_5 : (⟨S_, .f32⟩ : BufTy).Contents (Elt Ideal) :=
  constant (F := Ideal) S_ .f32 0x00000000#32
def h_v26 : (⟨S256x5x32, .f32⟩ : BufTy).Contents (Elt Ideal) :=
  broadcastInDim S256x5x32 ![] bcast_S_S256x5x32 (h_cst_5)
def h_v27 (x6 : (⟨S256x480, .f32⟩ : BufTy).Contents (Elt Ideal)) : (⟨S256x5x128, .f32⟩ : BufTy).Contents (Elt Ideal) :=
  concatenate S256x5x128 2 [⟨S256x5x96, (h_v25 x6)⟩, ⟨S256x5x32, (h_v26)⟩] concatenates_S256x5x96_S256x5x32_S256x5x128_d2
def h_cst_6 : (⟨S_, .f32⟩ : BufTy).Contents (Elt Ideal) :=
  constant (F := Ideal) S_ .f32 0x00000000#32
def h_v28 : (⟨S256x5x64, .f32⟩ : BufTy).Contents (Elt Ideal) :=
  broadcastInDim S256x5x64 ![] bcast_S_S256x5x64 (h_cst_6)
def h_v29 (x6 : (⟨S256x480, .f32⟩ : BufTy).Contents (Elt Ideal)) : (⟨S256x5x16, .f32⟩ : BufTy).Contents (Elt Ideal) :=
  extractStridedSlice S256x5x16 ![0, 0, 16] (h_v24 x6) slices_S256x5x32_S256x5x16_0_0_16
def h_v30 (x6 : (⟨S256x480, .f32⟩ : BufTy).Contents (Elt Ideal)) : (⟨S256x5x16, .f32⟩ : BufTy).Contents (Elt Ideal) :=
  Host.negf (F := Ideal) (φ := .f32) (h_v29 x6)
def h_v31 (x6 : (⟨S256x480, .f32⟩ : BufTy).Contents (Elt Ideal)) : (⟨S256x5x16, .f32⟩ : BufTy).Contents (Elt Ideal) :=
  extractStridedSlice S256x5x16 ![0, 0, 0] (h_v24 x6) slices_S256x5x32_S256x5x16_0_0_0
def h_v32 (x6 : (⟨S256x480, .f32⟩ : BufTy).Contents (Elt Ideal)) : (⟨S256x5x0, .f32⟩ : BufTy).Contents (Elt Ideal) :=
  extractStridedSlice S256x5x0 ![0, 0, 32] (h_v24 x6) slices_S256x5x32_S256x5x0_0_0_32
def h_cst_7 : (⟨S_, .f32⟩ : BufTy).Contents (Elt Ideal) :=
  constant (F := Ideal) S_ .f32 0x00000000#32
def h_v33 : (⟨S256x5x0, .f32⟩ : BufTy).Contents (Elt Ideal) :=
  broadcastInDim S256x5x0 ![] bcast_S_S256x5x0 (h_cst_7)
def h_v34 (x6 : (⟨S256x480, .f32⟩ : BufTy).Contents (Elt Ideal)) : (⟨S256x5x32, .f32⟩ : BufTy).Contents (Elt Ideal) :=
  concatenate S256x5x32 2 [⟨S256x5x16, (h_v30 x6)⟩, ⟨S256x5x16, (h_v31 x6)⟩, ⟨S256x5x0, (h_v33)⟩] concatenates_S256x5x16_S256x5x16_S256x5x0_S256x5x32_d2
def h_v35 (x6 : (⟨S256x480, .f32⟩ : BufTy).Contents (Elt Ideal)) : (⟨S256x5x96, .f32⟩ : BufTy).Contents (Elt Ideal) :=
  concatenate S256x5x96 2 [⟨S256x5x64, (h_v28)⟩, ⟨S256x5x32, (h_v34 x6)⟩] concatenates_S256x5x64_S256x5x32_S256x5x96_d2
def h_cst_8 : (⟨S_, .f32⟩ : BufTy).Contents (Elt Ideal) :=
  constant (F := Ideal) S_ .f32 0x00000000#32
def h_v36 : (⟨S256x5x32, .f32⟩ : BufTy).Contents (Elt Ideal) :=
  broadcastInDim S256x5x32 ![] bcast_S_S256x5x32 (h_cst_8)
def h_v37 (x6 : (⟨S256x480, .f32⟩ : BufTy).Contents (Elt Ideal)) : (⟨S256x5x128, .f32⟩ : BufTy).Contents (Elt Ideal) :=
  concatenate S256x5x128 2 [⟨S256x5x96, (h_v35 x6)⟩, ⟨S256x5x32, (h_v36)⟩] concatenates_S256x5x96_S256x5x32_S256x5x128_d2
def h_v38 (x8 : (⟨S128x640, .f32⟩ : BufTy).Contents (Elt Ideal)) : (⟨S128x5x128, .f32⟩ : BufTy).Contents (Elt Ideal) :=
  shapeCast S128x5x128 x8 shapeCasts_S128x640_S128x5x128
def h_v39 (x8 : (⟨S128x640, .f32⟩ : BufTy).Contents (Elt Ideal)) : (⟨S128x5x64, .f32⟩ : BufTy).Contents (Elt Ideal) :=
  extractStridedSlice S128x5x64 ![0, 0, 0] (h_v38 x8) slices_S128x5x128_S128x5x64_0_0_0
def h_cst_9 : (⟨S_, .f32⟩ : BufTy).Contents (Elt Ideal) :=
  constant (F := Ideal) S_ .f32 0x00000000#32
def h_v40 : (⟨S128x5x64, .f32⟩ : BufTy).Contents (Elt Ideal) :=
  broadcastInDim S128x5x64 ![] bcast_S_S128x5x64 (h_cst_9)
def h_v41 (x8 : (⟨S128x640, .f32⟩ : BufTy).Contents (Elt Ideal)) : (⟨S128x5x128, .f32⟩ : BufTy).Contents (Elt Ideal) :=
  concatenate S128x5x128 2 [⟨S128x5x64, (h_v39 x8)⟩, ⟨S128x5x64, (h_v40)⟩] concatenates_S128x5x64_S128x5x64_S128x5x128_d2
def h_v42 (x8 : (⟨S128x640, .f32⟩ : BufTy).Contents (Elt Ideal)) : (⟨S128x5x64, .f32⟩ : BufTy).Contents (Elt Ideal) :=
  extractStridedSlice S128x5x64 ![0, 0, 64] (h_v38 x8) slices_S128x5x128_S128x5x64_0_0_64
def h_cst_10 : (⟨S_, .f32⟩ : BufTy).Contents (Elt Ideal) :=
  constant (F := Ideal) S_ .f32 0x00000000#32
def h_v43 : (⟨S128x5x64, .f32⟩ : BufTy).Contents (Elt Ideal) :=
  broadcastInDim S128x5x64 ![] bcast_S_S128x5x64 (h_cst_10)
def h_v44 (x8 : (⟨S128x640, .f32⟩ : BufTy).Contents (Elt Ideal)) : (⟨S128x5x128, .f32⟩ : BufTy).Contents (Elt Ideal) :=
  concatenate S128x5x128 2 [⟨S128x5x64, (h_v42 x8)⟩, ⟨S128x5x64, (h_v43)⟩] concatenates_S128x5x64_S128x5x64_S128x5x128_d2
def h_v45 (x6 : (⟨S256x480, .f32⟩ : BufTy).Contents (Elt Ideal)) : (⟨S256x640, .f32⟩ : BufTy).Contents (Elt Ideal) :=
  shapeCast S256x640 (h_v27 x6) shapeCasts_S256x5x128_S256x640
def h_v46 (x6 : (⟨S256x480, .f32⟩ : BufTy).Contents (Elt Ideal)) : (⟨S256x640, .bf16⟩ : BufTy).Contents (Elt Ideal) :=
  truncf (F := Ideal) (φ := .f32) .bf16 (h_v45 x6) bitsLt_bf16_f32
def h_v47 (x6 : (⟨S256x480, .f32⟩ : BufTy).Contents (Elt Ideal)) : (⟨S256x640, .f32⟩ : BufTy).Contents (Elt Ideal) :=
  shapeCast S256x640 (h_v37 x6) shapeCasts_S256x5x128_S256x640
def h_v48 (x6 : (⟨S256x480, .f32⟩ : BufTy).Contents (Elt Ideal)) : (⟨S256x640, .bf16⟩ : BufTy).Contents (Elt Ideal) :=
  truncf (F := Ideal) (φ := .f32) .bf16 (h_v47 x6) bitsLt_bf16_f32
def h_v49 (x8 : (⟨S128x640, .f32⟩ : BufTy).Contents (Elt Ideal)) : (⟨S128x640, .f32⟩ : BufTy).Contents (Elt Ideal) :=
  shapeCast S128x640 (h_v41 x8) shapeCasts_S128x5x128_S128x640
def h_v50 (x8 : (⟨S128x640, .f32⟩ : BufTy).Contents (Elt Ideal)) : (⟨S128x640, .bf16⟩ : BufTy).Contents (Elt Ideal) :=
  truncf (F := Ideal) (φ := .f32) .bf16 (h_v49 x8) bitsLt_bf16_f32
def h_v51 (x8 : (⟨S128x640, .f32⟩ : BufTy).Contents (Elt Ideal)) : (⟨S128x640, .f32⟩ : BufTy).Contents (Elt Ideal) :=
  shapeCast S128x640 (h_v44 x8) shapeCasts_S128x5x128_S128x640
def h_v52 (x8 : (⟨S128x640, .f32⟩ : BufTy).Contents (Elt Ideal)) : (⟨S128x640, .bf16⟩ : BufTy).Contents (Elt Ideal) :=
  truncf (F := Ideal) (φ := .f32) .bf16 (h_v51 x8) bitsLt_bf16_f32
def h_v53 (x5 : (⟨S256, .f32⟩ : BufTy).Contents (Elt Ideal)) : (⟨S1x256, .f32⟩ : BufTy).Contents (Elt Ideal) :=
  shapeCast S1x256 x5 shapeCasts_S256_S1x256
def h_v54 (x7 : (⟨S128, .f32⟩ : BufTy).Contents (Elt Ideal)) : (⟨S1x128, .f32⟩ : BufTy).Contents (Elt Ideal) :=
  shapeCast S1x128 x7 shapeCasts_S128_S1x128

end Cert.KernelIdeal.Mla

end
-- ==== Proof.MlaPrefix.lean ====
/-
  The host program before the call: the arrays the call reads.
-/
module

public import proofs.«01_k».proof.Proof.MlaHost
public import Idealize.ShloMosaic.Lib.StableHlo.RunClose
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.KernelIdeal.Mla
open Cert.KernelIdeal Cert.KernelIdeal.Gen

variable (m : (ℓ : Loc nD τ sig) → Buf (Elt Ideal) ℓ)

theorem V11_eq (c : Dev nD) : V m c main_v11 = h_v11 (m ((c : Thread nD τ).loc main_arg0)) (m ((c : Thread nD τ).loc main_arg1)) (m ((c : Thread nD τ).loc main_arg2)) := by
  unfold_abbrev_sides
  after_results_simp
  rfl

theorem V20_eq (c : Dev nD) : V m c main_v20 = h_v20 (m ((c : Thread nD τ).loc main_arg3)) (m ((c : Thread nD τ).loc main_arg4)) := by
  unfold_abbrev_sides
  after_results
  rfl

theorem V21_eq (c : Dev nD) : V m c main_v21 = h_v21 (m ((c : Thread nD τ).loc main_arg3)) (m ((c : Thread nD τ).loc main_arg4)) := by
  unfold_abbrev_sides
  after_results
  rfl

theorem V46_eq (c : Dev nD) : V m c main_v46 = h_v46 (m ((c : Thread nD τ).loc main_arg6)) := by
  unfold_abbrev_sides
  after_results
  rfl

theorem V48_eq (c : Dev nD) : V m c main_v48 = h_v48 (m ((c : Thread nD τ).loc main_arg6)) := by
  unfold_abbrev_sides
  after_results_simp
  rfl

theorem V50_eq (c : Dev nD) : V m c main_v50 = h_v50 (m ((c : Thread nD τ).loc main_arg8)) := by
  unfold_abbrev_sides
  after_results
  rfl

theorem V52_eq (c : Dev nD) : V m c main_v52 = h_v52 (m ((c : Thread nD τ).loc main_arg8)) := by
  unfold_abbrev_sides
  after_results
  rfl

theorem V53_eq (c : Dev nD) : V m c main_v53 = h_v53 (m ((c : Thread nD τ).loc main_arg5)) := by
  unfold_abbrev_sides
  after_results
  rfl

theorem V54_eq (c : Dev nD) : V m c main_v54 = h_v54 (m ((c : Thread nD τ).loc main_arg7)) := by
  unfold_abbrev_sides
  after_results
  rfl

end Cert.KernelIdeal.Mla

end
-- ==== Proof.MlaRead.lean ====
/-
  The arrays the latent attention's call reads, at an index, from the arguments.
-/
module

public import proofs.«01_k».proof.Proof.MlaHost
public import proofs.«01_k».proof.Proof.MlaRef

@[expose] public section

set_option maxRecDepth 16384

noncomputable section

open Idealize.ShloMosaic Idealize.ShloMosaic.TcCoe Idealize.SL.Sem

namespace Cert.KernelIdeal.Mla
open Cert.KernelIdeal Cert.KernelIdeal.Gen
open Cert.ReferenceIdeal.Mla (angle qcol kvcol qlane klane)

variable (x0 : (⟨S16x2048x256, .f32⟩ : BufTy).Contents (Elt Ideal)) (x1 : (⟨S16x2048x128, .f32⟩ : BufTy).Contents (Elt Ideal)) (x2 : (⟨S16x2048x32, .f32⟩ : BufTy).Contents (Elt Ideal)) (x3 : (⟨S16x2048, .i32⟩ : BufTy).Contents (Elt Ideal)) (x4 : (⟨S16, .f32⟩ : BufTy).Contents (Elt Ideal)) (x5 : (⟨S256, .f32⟩ : BufTy).Contents (Elt Ideal)) (x6 : (⟨S256x480, .f32⟩ : BufTy).Contents (Elt Ideal)) (x7 : (⟨S128, .f32⟩ : BufTy).Contents (Elt Ideal)) (x8 : (⟨S128x640, .f32⟩ : BufTy).Contents (Elt Ideal))

theorem proj_q (b : Fin 16) (t : Fin 2048) (k : Fin 256) : h_v11 x0 x1 x2 (ix3 b t ⟨2304 + k.val, by omega⟩) = x0 (ix3 b t k) := by
  pointwise [h_v11]

theorem proj_kv (b : Fin 16) (t : Fin 2048) (k : Fin 128) : h_v11 x0 x1 x2 (ix3 b t ⟨3584 + k.val, by omega⟩) = x1 (ix3 b t k) := by
  pointwise [h_v11]
  split_ifs <;> first | (exfalso; omega) | exact congrArg x1 (congrArg (ix3 b t) (Fin.ext (by dsimp only; omega)))

theorem proj_rope (b : Fin 16) (t : Fin 2048) (k : Fin 128) : h_v11 x0 x1 x2 (ix3 b t ⟨3712 + k.val, by omega⟩) = h_v7 x2 (ix3 b t k) := by
  pointwise [h_v11]
  split_ifs <;> first | (exfalso; omega) | exact congrArg (h_v7 x2) (congrArg (ix3 b t) (Fin.ext (by dsimp only; omega)))

theorem rope_apply (b : Fin 16) (t : Fin 2048) (l : Fin 128) : h_v7 x2 (ix3 b t l)
    = if l.val < 64 then 0 else if h : l.val < 96 then x2 (ix3 b t ⟨l.val - 64, by omega⟩)
      else if h' : l.val < 112 then - x2 (ix3 b t ⟨l.val - 80, by omega⟩) else x2 (ix3 b t ⟨l.val - 112, by omega⟩) := by
  pointwise [h_v7, h_v6, h_v5, h_v4, h_v3, h_v2, h_v1, h_v0, h_cst, h_cst_0]
  by_cases a : l.val < 64
  · rw [dif_pos a, if_pos a]
  · by_cases b' : l.val < 96
    · have c : l.val - 64 < 32 := by omega
      rw [dif_neg a, dif_pos c, if_neg a, dif_pos b']
    · have c : ¬ l.val - 64 < 32 := by omega
      by_cases d : l.val < 112
      · have e : l.val - 64 - 32 < 16 := by omega
        rw [dif_neg a, dif_neg c, dif_pos e, if_neg a, dif_neg b', dif_pos d]
        refine congrArg (fun i => - x2 i) (congrArg (ix3 b t) (Fin.ext ?_))
        dsimp only
        omega
      · have e : ¬ l.val - 64 - 32 < 16 := by omega
        have e' : l.val - 64 - 32 - 16 < 16 := by omega
        rw [dif_neg a, dif_neg c, dif_neg e, dif_pos e', if_neg a, dif_neg b', dif_neg d]
        refine congrArg x2 (congrArg (ix3 b t) (Fin.ext ?_))
        dsimp only
        omega

theorem table_apply (b : Fin 16) (t : Fin 2048) (l : Fin 128) (i : Fin 16) (h0 : 64 ≤ l.val) (h1 : l.val < 96) (hi : i.val = l.val % 16) : h_v19 x3 x4 (ix3 b t l) = angle x3 x4 b t i := by
  unfold angle
  pointwise [h_v19, h_v18, h_v17, h_v16, h_v15, h_v14, h_v13, h_v12, h_cst_4]
  refine congrArg (fun a : EReal => FloatOps.sitofp (F := Ideal) .f32 (x3 (ix2 b t)) * a) ?_
  split_ifs <;> first | (exfalso; omega) | exact congrArg x4 (congrArg ix1 (Fin.ext (by dsimp only; omega)))

theorem cos_apply (b : Fin 16) (t : Fin 2048) (l : Fin 128) (i : Fin 16) (h0 : 64 ≤ l.val) (h1 : l.val < 96) (hi : i.val = l.val % 16) : h_v20 x3 x4 (ix3 b t l) = Ideal.cos (angle x3 x4 b t i) :=
  congrArg Ideal.cos (table_apply x3 x4 b t l i h0 h1 hi)

theorem sin_apply (b : Fin 16) (t : Fin 2048) (l : Fin 128) (i : Fin 16) (h0 : 64 ≤ l.val) (h1 : l.val < 96) (hi : i.val = l.val % 16) : h_v21 x3 x4 (ix3 b t l) = Ideal.sin (angle x3 x4 b t i) :=
  congrArg Ideal.sin (table_apply x3 x4 b t l i h0 h1 hi)

theorem split256 (X : S256x5x128.Idx → EReal) (k : Fin 256) (h : Fin 5) (l : Fin 128) : shapeCast S256x640 X shapeCasts_S256x5x128_S256x640 (ix2 k ⟨128 * h.val + l.val, by omega⟩) = X (ix3 k h l) := by
  refine shapeCast_apply _ _ _ _ ?_
  rw [Shape.rowMajor_val_two, Shape.rowMajor_val_three]
  show (k.val * 5 + h.val) * 128 + l.val = k.val * 640 + (128 * h.val + l.val)
  omega

theorem split128 (X : S128x5x128.Idx → EReal) (k : Fin 128) (h : Fin 5) (l : Fin 128) : shapeCast S128x640 X shapeCasts_S128x5x128_S128x640 (ix2 k ⟨128 * h.val + l.val, by omega⟩) = X (ix3 k h l) := by
  refine shapeCast_apply _ _ _ _ ?_
  rw [Shape.rowMajor_val_two, Shape.rowMajor_val_three]
  show (k.val * 5 + h.val) * 128 + l.val = k.val * 640 + (128 * h.val + l.val)
  omega

theorem wq_apply (k : Fin 256) (h : Fin 5) (l : Fin 128) : h_v46 x6 (ix2 k ⟨128 * h.val + l.val, by omega⟩) = if hl : l.val < 96 then x6 (ix2 k ⟨h.val * 96 + l.val, by omega⟩) else 0 := by
  refine (split256 (h_v27 x6) k h l).trans ?_
  pointwise [h_v27, h_v26, h_v25, h_v24, h_v23, h_v22, h_cst_5]
  split_ifs <;> first | (exfalso; omega) | rfl | exact congrArg x6 (congrArg (ix2 k) (Fin.ext (by dsimp only; omega)))

theorem wqs_apply (k : Fin 256) (h : Fin 5) (l : Fin 128) : h_v48 x6 (ix2 k ⟨128 * h.val + l.val, by omega⟩)
    = if l.val < 64 then 0 else if h1 : l.val < 80 then - x6 (ix2 k ⟨h.val * 96 + (l.val + 16), by omega⟩)
      else if h2 : l.val < 96 then x6 (ix2 k ⟨h.val * 96 + (l.val - 16), by omega⟩) else 0 := by
  refine (split256 (h_v37 x6) k h l).trans ?_
  pointwise [h_v37, h_v36, h_v35, h_v34, h_v33, h_v32, h_v31, h_v30, h_v29, h_v28, h_v24, h_v22, h_cst_5, h_cst_6, h_cst_7, h_cst_8]
  by_cases a : l.val < 96
  · by_cases b : l.val < 64
    · rw [dif_pos a, dif_pos b, if_pos b]
    · by_cases c : l.val < 80
      · have d : l.val - 64 < 16 := by omega
        rw [dif_pos a, dif_neg b, dif_pos d, if_neg b, dif_pos c]
        refine congrArg (fun i => - x6 i) (congrArg (ix2 k) (Fin.ext ?_))
        dsimp only
        omega
      · have d : ¬ l.val - 64 < 16 := by omega
        have e : l.val - 64 - 16 < 16 := by omega
        rw [dif_pos a, dif_neg b, dif_neg d, dif_pos e, if_neg b, dif_neg c, dif_pos a]
        refine congrArg x6 (congrArg (ix2 k) (Fin.ext ?_))
        dsimp only
        omega
  · have b : ¬ l.val < 64 := by omega
    have c : ¬ l.val < 80 := by omega
    rw [dif_neg a, if_neg b, dif_neg c, dif_neg a]

theorem wk_apply (k : Fin 128) (h : Fin 5) (l : Fin 128) : h_v50 x8 (ix2 k ⟨128 * h.val + l.val, by omega⟩) = if hl : l.val < 64 then x8 (ix2 k ⟨h.val * 128 + l.val, by omega⟩) else 0 := by
  refine (split128 (h_v41 x8) k h l).trans ?_
  pointwise [h_v41, h_v40, h_v39, h_v38, h_cst_9]

theorem wv_apply (k : Fin 128) (h : Fin 5) (l : Fin 128) : h_v52 x8 (ix2 k ⟨128 * h.val + l.val, by omega⟩) = if hl : l.val < 64 then x8 (ix2 k ⟨h.val * 128 + (64 + l.val), by omega⟩) else 0 := by
  refine (split128 (h_v44 x8) k h l).trans ?_
  pointwise [h_v44, h_v43, h_v42, h_v38, h_cst_10]

theorem gq_apply (k : Fin 256) : h_v53 x5 (ix2 0 k) = x5 (ix1 k) := by
  pointwise [h_v53]

theorem gkv_apply (k : Fin 128) : h_v54 x7 (ix2 0 k) = x7 (ix1 k) := by
  pointwise [h_v54]

/-- A head's queries as the call computes them, lane by lane. -/
theorem qE_lane (b : Fin 16) (t : Fin 2048) (h : Fin 5) (l : Fin 128)
    (hr : ∀ (k : Fin 256) (c : Fin 480), ∃ r : ℝ, gainE (Ideal.ofBits .f32 0x43800000#32) (fun k => x0 (ix3 b t k)) (fun k => x5 (ix1 k)) k * x6 (ix2 k c) = (r : EReal)) :
    qE (fun k => x0 (ix3 b t k)) (fun k => x5 (ix1 k)) (fun l => h_v20 x3 x4 (ix3 b t l)) (fun l => h_v21 x3 x4 (ix3 b t l))
      (fun k l => h_v46 x6 (ix2 k ⟨128 * h.val + l.val, by omega⟩)) (fun k l => h_v48 x6 (ix2 k ⟨128 * h.val + l.val, by omega⟩)) l
      = if hl : l.val < 96 then qlane x0 x3 x4 x5 x6 b t h ⟨l.val, hl⟩ else 0 := by
  unfold qE turnE qlane
  simp only [wq_apply, wqs_apply]
  by_cases h64 : l.val < 64
  · have c1 : l.val < 96 := by omega
    have c2 : ¬ (64 ≤ l.val ∧ l.val < 96) := by omega
    simp only [dif_pos c1, if_neg c2, if_pos h64, dif_pos h64, Ideal.ofBits_one_f32, mul_one, mul_zero, add_zero]
    rfl
  · by_cases h96 : l.val < 96
    · have c2 : 64 ≤ l.val ∧ l.val < 96 := by omega
      simp only [dif_pos h96, if_pos c2, if_neg h64, dif_neg h64]
      by_cases h80 : l.val < 80
      · have c3 : l.val - 64 < 16 := by omega
        rw [cos_apply x3 x4 b t l ⟨l.val - 64, c3⟩ c2.1 c2.2 (by dsimp only; omega), sin_apply x3 x4 b t l ⟨l.val - 64, c3⟩ c2.1 c2.2 (by dsimp only; omega)]
        simp only [dif_pos h80, dif_pos c3, sub_eq_add_neg, ← EReal.neg_mul]
        refine congrArg₂ (fun a b : EReal => a + b) ?_ ?_
        · refine congrArg (fun a : EReal => a * Ideal.cos (angle x3 x4 b t ⟨l.val - 64, c3⟩)) ?_
          exact Finset.sum_congr rfl fun k _ => congrArg (fun i => _ * x6 (ix2 k i)) (Fin.ext (by dsimp only; omega))
        · refine congrArg (fun a : EReal => a * Ideal.sin (angle x3 x4 b t ⟨l.val - 64, c3⟩)) ?_
          choose r hr using hr
          have e : (⟨h.val * 96 + (l.val + 16), by omega⟩ : Fin 480) = ⟨h.val * 96 + (64 + (16 + (l.val - 64))), by omega⟩ := Fin.ext (by dsimp only; omega)
          rw [e]
          unfold qcol
          simp only [mul_neg, hr]
          simp only [← EReal.coe_neg, coe_sum]
          rw [Finset.sum_neg_distrib]
      · have c3 : ¬ l.val - 64 < 16 := by omega
        have c4 : l.val - 64 - 16 < 16 := by omega
        rw [cos_apply x3 x4 b t l ⟨l.val - 64 - 16, c4⟩ c2.1 c2.2 (by dsimp only; omega), sin_apply x3 x4 b t l ⟨l.val - 64 - 16, c4⟩ c2.1 c2.2 (by dsimp only; omega)]
        simp only [dif_neg h80, dif_neg c3, dif_pos h96]
        refine congrArg₂ (fun a b : EReal => a + b) ?_ ?_
        · refine congrArg (fun a : EReal => a * Ideal.cos (angle x3 x4 b t ⟨l.val - 64 - 16, c4⟩)) ?_
          exact Finset.sum_congr rfl fun k _ => congrArg (fun i => _ * x6 (ix2 k i)) (Fin.ext (by dsimp only; omega))
        · refine congrArg (fun a : EReal => a * Ideal.sin (angle x3 x4 b t ⟨l.val - 64 - 16, c4⟩)) ?_
          exact Finset.sum_congr rfl fun k _ => congrArg (fun i => _ * x6 (ix2 k i)) (Fin.ext (by dsimp only; omega))
    · have c2 : ¬ (64 ≤ l.val ∧ l.val < 96) := by omega
      have c3 : ¬ l.val < 80 := by omega
      simp only [dif_neg h96, if_neg c2, if_neg h64, dif_neg c3, mul_zero, Finset.sum_const_zero, zero_mul, add_zero]

/-- A head's keys as the call computes them, lane by lane. -/
theorem kE_lane (b : Fin 16) (t : Fin 2048) (h : Fin 5) (l : Fin 128) :
    kE (fun k => x1 (ix3 b t k)) (fun k => x7 (ix1 k)) (fun k => h_v7 x2 (ix3 b t k)) (fun l => h_v20 x3 x4 (ix3 b t l)) (fun l => h_v21 x3 x4 (ix3 b t l))
      (fun k l => h_v50 x8 (ix2 k ⟨128 * h.val + l.val, by omega⟩)) l
      = if hl : l.val < 96 then klane x1 x2 x3 x4 x7 x8 b t h ⟨l.val, hl⟩ else 0 := by
  unfold kE turnE klane
  simp only [wk_apply]
  by_cases h64 : l.val < 64
  · have c1 : l.val < 96 := by omega
    have c2 : ¬ (64 ≤ l.val ∧ l.val < 96) := by omega
    simp only [dif_pos c1, if_neg c2, dif_pos h64, add_zero]
    rfl
  · by_cases h96 : l.val < 96
    · have c2 : 64 ≤ l.val ∧ l.val < 96 := by omega
      have cm : (l.val + 128 - 96) % 128 = l.val + 32 := by omega
      simp only [dif_pos h96, if_pos c2, dif_neg h64, mul_zero, Finset.sum_const_zero, zero_add]
      have m1 : h_v7 x2 (ix3 b t l) = x2 (ix3 b t ⟨l.val - 64, by omega⟩) := by rw [rope_apply, if_neg h64, dif_pos h96]
      have e : (⟨(l.val + 128 - 96) % 128, Nat.mod_lt _ (by norm_num)⟩ : Fin 128) = ⟨l.val + 32, by omega⟩ := Fin.ext cm
      rw [m1, e]
      by_cases h80 : l.val < 80
      · have c3 : l.val - 64 < 16 := by omega
        have m2 : h_v7 x2 (ix3 b t ⟨l.val + 32, by omega⟩) = - x2 (ix3 b t ⟨16 + (l.val - 64), by omega⟩) := by
          rw [rope_apply, if_neg (by dsimp only; omega), dif_neg (by dsimp only; omega), dif_pos (by dsimp only; omega)]
          exact congrArg (fun i => - x2 i) (congrArg (ix3 b t) (Fin.ext (by dsimp only; omega)))
        rw [m2, cos_apply x3 x4 b t l ⟨l.val - 64, c3⟩ c2.1 c2.2 (by dsimp only; omega), sin_apply x3 x4 b t l ⟨l.val - 64, c3⟩ c2.1 c2.2 (by dsimp only; omega)]
        simp only [dif_pos c3, sub_eq_add_neg, EReal.neg_mul]
      · have c3 : ¬ l.val - 64 < 16 := by omega
        have c4 : l.val - 64 - 16 < 16 := by omega
        have m2 : h_v7 x2 (ix3 b t ⟨l.val + 32, by omega⟩) = x2 (ix3 b t ⟨l.val - 64 - 16, by omega⟩) := by
          rw [rope_apply, if_neg (by dsimp only; omega), dif_neg (by dsimp only; omega), dif_neg (by dsimp only; omega)]
          exact congrArg x2 (congrArg (ix3 b t) (Fin.ext (by dsimp only; omega)))
        rw [m2, cos_apply x3 x4 b t l ⟨l.val - 64 - 16, c4⟩ c2.1 c2.2 (by dsimp only; omega), sin_apply x3 x4 b t l ⟨l.val - 64 - 16, c4⟩ c2.1 c2.2 (by dsimp only; omega)]
        simp only [dif_neg c3]
        have e2 : (⟨l.val - 64, by omega⟩ : Fin 32) = ⟨16 + (l.val - 64 - 16), by omega⟩ := Fin.ext (by dsimp only; omega)
        rw [e2]
    · have c2 : ¬ (64 ≤ l.val ∧ l.val < 96) := by omega
      simp only [dif_neg h96, if_neg c2, dif_neg h64, mul_zero, Finset.sum_const_zero, add_zero]

/-- A head's values as the call computes them. -/
theorem vE_lane (b : Fin 16) (t : Fin 2048) (h : Fin 5) (l : Fin 128) (hl : l.val < 64) :
    vE (fun k => x1 (ix3 b t k)) (fun k => x7 (ix1 k)) (fun k l => h_v52 x8 (ix2 k ⟨128 * h.val + l.val, by omega⟩)) l
      = kvcol x1 x7 x8 b t ⟨h.val * 128 + (64 + l.val), by omega⟩ := by
  unfold vE
  simp only [wv_apply, if_pos hl, dif_pos hl]
  rfl

/-- Products over the padded lanes are the products over the lanes of the head. -/
theorem lanes (q k : Fin 96 → EReal) :
    ∑ d : Fin 128, (if hd : d.val < 96 then q ⟨d.val, hd⟩ else 0) * (if hd : d.val < 96 then k ⟨d.val, hd⟩ else 0) = ∑ d : Fin 96, q d * k d := by
  rw [show (128 : Nat) = 96 + 32 from rfl, Fin.sum_univ_add]
  simp

end Cert.KernelIdeal.Mla

end
-- ==== Proof.MlaArr.lean ====
/-
  The result array of the latent attention's call is the reference's, on real arguments.
-/
module

public import proofs.«01_k».proof.Proof.Gen.KernelIdeal.Value
public import proofs.«01_k».proof.Proof.MlaTile
public import proofs.«01_k».proof.Proof.MlaPrefix
public import proofs.«01_k».proof.Proof.MlaRead
public import proofs.«01_k».proof.Proof.MlaReal

@[expose] public section

set_option maxRecDepth 16384

noncomputable section

open Idealize.ShloMosaic Idealize.ShloMosaic.TcCoe Idealize.SL.Sem
open Idealize.ShloMosaic.Pipeline (Dat)

namespace Cert.KernelIdeal.Mla
open Cert.KernelIdeal Cert.KernelIdeal.Gen
open Cert.ReferenceIdeal.Mla (angle qcol kvcol qlane klane IsReal isReal_qterm isReal_kvcol isReal_logit reference_real)

theorem pos0 : ∀ t : Fin grid0.N, win0_0.index t 0 = t.val ∧ win0_0.index t 1 = 0 ∧ win0_0.index t 2 = 9 := by decide +kernel
theorem pos1 : ∀ t : Fin grid0.N, win0_1.index t 0 = t.val ∧ win0_1.index t 1 = 0 ∧ win0_1.index t 2 = 28 := by decide +kernel
theorem pos2 : ∀ t : Fin grid0.N, win0_2.index t 0 = t.val ∧ win0_2.index t 1 = 0 ∧ win0_2.index t 2 = 29 := by decide +kernel
theorem pos3 : ∀ t : Fin grid0.N, win0_3.index t 0 = t.val ∧ win0_3.index t 1 = 0 ∧ win0_3.index t 2 = 0 := by decide +kernel
theorem pos4 : ∀ t : Fin grid0.N, win0_4.index t 0 = t.val ∧ win0_4.index t 1 = 0 ∧ win0_4.index t 2 = 0 := by decide +kernel
theorem pos11 : ∀ t : Fin grid0.N, win0_11.index t 0 = t.val ∧ win0_11.index t 1 = 0 ∧ win0_11.index t 2 = 0 := by decide +kernel
theorem pos5 : ∀ t : Fin grid0.N, win0_5.index t 0 = 0 ∧ win0_5.index t 1 = 0 := by decide +kernel
theorem pos6 : ∀ t : Fin grid0.N, win0_6.index t 0 = 0 ∧ win0_6.index t 1 = 0 := by decide +kernel
theorem pos7 : ∀ t : Fin grid0.N, win0_7.index t 0 = 0 ∧ win0_7.index t 1 = 0 := by decide +kernel
theorem pos8 : ∀ t : Fin grid0.N, win0_8.index t 0 = 0 ∧ win0_8.index t 1 = 0 := by decide +kernel
theorem pos9 : ∀ t : Fin grid0.N, win0_9.index t 0 = 0 ∧ win0_9.index t 1 = 0 := by decide +kernel
theorem pos10 : ∀ t : Fin grid0.N, win0_10.index t 0 = 0 ∧ win0_10.index t 1 = 0 := by decide +kernel

variable (m : (ℓ : Loc nD τ sig) → Buf (Elt Ideal) ℓ) (c : Dev nD) (t : Fin grid0.N) (b : Fin 16) (hb : b.val = t.val)

include hb in
theorem blk0 (s : Fin 2048) (k : Fin 256) : X0_0 m c t (ix3 0 s k) = V m c main_v11 (ix3 b s ⟨2304 + k.val, by omega⟩) := by
  unfold X0_0 Pipeline.Window.fill
  rw [dif_pos (moved0_0 t _)]
  show V m c main_v11 ((win0_0.rect t).emb _) = _
  refine congrArg _ (funext fun a => Fin.ext ?_)
  rw [Pipeline.Window.rect_emb_val win0_0]
  fin_cases a
  · show win0_0.index t 0 * 1 + 0 = b.val
    rw [(pos0 t).1]; omega
  · show win0_0.index t 1 * 2048 + s.val = s.val
    rw [(pos0 t).2.1]; omega
  · show win0_0.index t 2 * 256 + k.val = 2304 + k.val
    rw [(pos0 t).2.2] <;> omega

include hb in
theorem blk1 (s : Fin 2048) (k : Fin 128) : iblk m c 1 t (ix3 0 s k) = V m c main_v11 (ix3 b s ⟨3584 + k.val, by omega⟩) := by
  show V m c main_v11 ((win0_1.rect t).emb (ix3 0 s k)) = _
  refine congrArg _ (funext fun a => Fin.ext ?_)
  rw [Pipeline.Window.rect_emb_val win0_1]
  fin_cases a
  · show win0_1.index t 0 * 1 + 0 = b.val
    rw [(pos1 t).1]; omega
  · show win0_1.index t 1 * 2048 + s.val = s.val
    rw [(pos1 t).2.1]; omega
  · show win0_1.index t 2 * 128 + k.val = 3584 + k.val
    rw [(pos1 t).2.2] <;> omega

include hb in
theorem blk2 (s : Fin 2048) (k : Fin 128) : iblk m c 2 t (ix3 0 s k) = V m c main_v11 (ix3 b s ⟨3712 + k.val, by omega⟩) := by
  show V m c main_v11 ((win0_2.rect t).emb (ix3 0 s k)) = _
  refine congrArg _ (funext fun a => Fin.ext ?_)
  rw [Pipeline.Window.rect_emb_val win0_2]
  fin_cases a
  · show win0_2.index t 0 * 1 + 0 = b.val
    rw [(pos2 t).1]; omega
  · show win0_2.index t 1 * 2048 + s.val = s.val
    rw [(pos2 t).2.1]; omega
  · show win0_2.index t 2 * 128 + k.val = 3712 + k.val
    rw [(pos2 t).2.2] <;> omega

include hb in
theorem blk3 (s : Fin 2048) (k : Fin 128) : iblk m c 3 t (ix3 0 s k) = V m c main_v20 (ix3 b s k) := by
  show V m c main_v20 ((win0_3.rect t).emb (ix3 0 s k)) = _
  refine congrArg _ (funext fun a => Fin.ext ?_)
  rw [Pipeline.Window.rect_emb_val win0_3]
  fin_cases a
  · show win0_3.index t 0 * 1 + 0 = b.val
    rw [(pos3 t).1]; omega
  · show win0_3.index t 1 * 2048 + s.val = s.val
    rw [(pos3 t).2.1]; omega
  · show win0_3.index t 2 * 128 + k.val = k.val
    rw [(pos3 t).2.2] <;> omega

include hb in
theorem blk4 (s : Fin 2048) (k : Fin 128) : iblk m c 4 t (ix3 0 s k) = V m c main_v21 (ix3 b s k) := by
  show V m c main_v21 ((win0_4.rect t).emb (ix3 0 s k)) = _
  refine congrArg _ (funext fun a => Fin.ext ?_)
  rw [Pipeline.Window.rect_emb_val win0_4]
  fin_cases a
  · show win0_4.index t 0 * 1 + 0 = b.val
    rw [(pos4 t).1]; omega
  · show win0_4.index t 1 * 2048 + s.val = s.val
    rw [(pos4 t).2.1]; omega
  · show win0_4.index t 2 * 128 + k.val = k.val
    rw [(pos4 t).2.2] <;> omega

theorem blk5 (k : Fin 256) : iblk m c 5 t (ix2 0 k) = V m c main_v53 (ix2 0 k) := by
  show V m c main_v53 ((win0_5.rect t).emb (ix2 0 k)) = _
  refine congrArg _ (funext fun a => Fin.ext ?_)
  rw [Pipeline.Window.rect_emb_val win0_5]
  fin_cases a
  · show win0_5.index t 0 * 1 + 0 = 0
    rw [(pos5 t).1]
  · show win0_5.index t 1 * 256 + k.val = k.val
    rw [(pos5 t).2]; omega

theorem blk6 (k : Fin 128) : iblk m c 6 t (ix2 0 k) = V m c main_v54 (ix2 0 k) := by
  show V m c main_v54 ((win0_6.rect t).emb (ix2 0 k)) = _
  refine congrArg _ (funext fun a => Fin.ext ?_)
  rw [Pipeline.Window.rect_emb_val win0_6]
  fin_cases a
  · show win0_6.index t 0 * 1 + 0 = 0
    rw [(pos6 t).1]
  · show win0_6.index t 1 * 128 + k.val = k.val
    rw [(pos6 t).2]; omega

theorem blk7 (r : Fin 256) (k : Fin 640) : iblk m c 7 t (ix2 r k) = V m c main_v46 (ix2 r k) := by
  show V m c main_v46 ((win0_7.rect t).emb (ix2 r k)) = _
  refine congrArg _ (funext fun a => Fin.ext ?_)
  rw [Pipeline.Window.rect_emb_val win0_7]
  fin_cases a
  · show win0_7.index t 0 * 256 + r.val = r.val
    rw [(pos7 t).1]; omega
  · show win0_7.index t 1 * 640 + k.val = k.val
    rw [(pos7 t).2]; omega

theorem blk8 (r : Fin 256) (k : Fin 640) : iblk m c 8 t (ix2 r k) = V m c main_v48 (ix2 r k) := by
  show V m c main_v48 ((win0_8.rect t).emb (ix2 r k)) = _
  refine congrArg _ (funext fun a => Fin.ext ?_)
  rw [Pipeline.Window.rect_emb_val win0_8]
  fin_cases a
  · show win0_8.index t 0 * 256 + r.val = r.val
    rw [(pos8 t).1]; omega
  · show win0_8.index t 1 * 640 + k.val = k.val
    rw [(pos8 t).2]; omega

theorem blk9 (r : Fin 128) (k : Fin 640) : iblk m c 9 t (ix2 r k) = V m c main_v50 (ix2 r k) := by
  show V m c main_v50 ((win0_9.rect t).emb (ix2 r k)) = _
  refine congrArg _ (funext fun a => Fin.ext ?_)
  rw [Pipeline.Window.rect_emb_val win0_9]
  fin_cases a
  · show win0_9.index t 0 * 128 + r.val = r.val
    rw [(pos9 t).1]; omega
  · show win0_9.index t 1 * 640 + k.val = k.val
    rw [(pos9 t).2]; omega

theorem blk10 (r : Fin 128) (k : Fin 640) : iblk m c 10 t (ix2 r k) = V m c main_v52 (ix2 r k) := by
  show V m c main_v52 ((win0_10.rect t).emb (ix2 r k)) = _
  refine congrArg _ (funext fun a => Fin.ext ?_)
  rw [Pipeline.Window.rect_emb_val win0_10]
  fin_cases a
  · show win0_10.index t 0 * 128 + r.val = r.val
    rw [(pos10 t).1]; omega
  · show win0_10.index t 1 * 640 + k.val = k.val
    rw [(pos10 t).2]; omega

variable (r0 : ∀ i, IsReal ((m ((c : Thread nD τ).loc main_arg0)) i)) (r1 : ∀ i, IsReal ((m ((c : Thread nD τ).loc main_arg1)) i)) (r2 : ∀ i, IsReal ((m ((c : Thread nD τ).loc main_arg2)) i)) (r4 : ∀ i, IsReal ((m ((c : Thread nD τ).loc main_arg4)) i)) (r5 : ∀ i, IsReal ((m ((c : Thread nD τ).loc main_arg5)) i)) (r6 : ∀ i, IsReal ((m ((c : Thread nD τ).loc main_arg6)) i)) (r7 : ∀ i, IsReal ((m ((c : Thread nD τ).loc main_arg7)) i)) (r8 : ∀ i, IsReal ((m ((c : Thread nD τ).loc main_arg8)) i))

include hb r0 r5 r6 in
/-- A grid point's queries, lane by lane. -/
theorem queries_lane (h : Fin 5) (s : Fin 2048) (d : Fin 128) : qT (X0_0 m c t) (iblk m c 3 t) (iblk m c 4 t) (iblk m c 5 t) (iblk m c 7 t) (iblk m c 8 t) h s d
    = if hd : d.val < 96 then qlane (m ((c : Thread nD τ).loc main_arg0)) (m ((c : Thread nD τ).loc main_arg3)) (m ((c : Thread nD τ).loc main_arg4)) (m ((c : Thread nD τ).loc main_arg5)) (m ((c : Thread nD τ).loc main_arg6)) b s h ⟨d.val, hd⟩ else 0 := by
  unfold qT
  have e0 := funext fun k => (blk0 m c t b hb s k).trans ((congrFun (V11_eq m c) _).trans (proj_q (m ((c : Thread nD τ).loc main_arg0)) (m ((c : Thread nD τ).loc main_arg1)) (m ((c : Thread nD τ).loc main_arg2)) b s k))
  have e3 := funext fun k => (blk3 m c t b hb s k).trans (congrFun (V20_eq m c) _)
  have e4 := funext fun k => (blk4 m c t b hb s k).trans (congrFun (V21_eq m c) _)
  have e5 := funext fun k => (blk5 m c t k).trans ((congrFun (V53_eq m c) _).trans (gq_apply (m ((c : Thread nD τ).loc main_arg5)) k))
  have e7 := funext fun k => funext fun l : Fin 128 => (blk7 m c t k ⟨128 * h.val + l.val, by omega⟩).trans (congrFun (V46_eq m c) _)
  have e8 := funext fun k => funext fun l : Fin 128 => (blk8 m c t k ⟨128 * h.val + l.val, by omega⟩).trans (congrFun (V48_eq m c) _)
  rw [e0, e3, e4, e5, e7, e8]
  exact qE_lane (m ((c : Thread nD τ).loc main_arg0)) (m ((c : Thread nD τ).loc main_arg3)) (m ((c : Thread nD τ).loc main_arg4)) (m ((c : Thread nD τ).loc main_arg5)) (m ((c : Thread nD τ).loc main_arg6)) b s h d (fun k c' => isReal_qterm (m ((c : Thread nD τ).loc main_arg0)) (m ((c : Thread nD τ).loc main_arg5)) (m ((c : Thread nD τ).loc main_arg6)) r0 r5 r6 b s k c')

include hb in
/-- A grid point's keys, lane by lane. -/
theorem keys_lane (h : Fin 5) (s : Fin 2048) (d : Fin 128) : kT (iblk m c 1 t) (iblk m c 2 t) (iblk m c 3 t) (iblk m c 4 t) (iblk m c 6 t) (iblk m c 9 t) h s d
    = if hd : d.val < 96 then klane (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) b s h ⟨d.val, hd⟩ else 0 := by
  unfold kT
  have e1 := funext fun k => (blk1 m c t b hb s k).trans ((congrFun (V11_eq m c) _).trans (proj_kv (m ((c : Thread nD τ).loc main_arg0)) (m ((c : Thread nD τ).loc main_arg1)) (m ((c : Thread nD τ).loc main_arg2)) b s k))
  have e2 := funext fun k => (blk2 m c t b hb s k).trans ((congrFun (V11_eq m c) _).trans (proj_rope (m ((c : Thread nD τ).loc main_arg0)) (m ((c : Thread nD τ).loc main_arg1)) (m ((c : Thread nD τ).loc main_arg2)) b s k))
  have e3 := funext fun k => (blk3 m c t b hb s k).trans (congrFun (V20_eq m c) _)
  have e4 := funext fun k => (blk4 m c t b hb s k).trans (congrFun (V21_eq m c) _)
  have e6 := funext fun k => (blk6 m c t k).trans ((congrFun (V54_eq m c) _).trans (gkv_apply (m ((c : Thread nD τ).loc main_arg7)) k))
  have e9 := funext fun k => funext fun l : Fin 128 => (blk9 m c t k ⟨128 * h.val + l.val, by omega⟩).trans (congrFun (V50_eq m c) _)
  rw [e1, e2, e3, e4, e6, e9]
  exact kE_lane (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) b s h d

include hb in
/-- A grid point's values, as the call computes them. -/
theorem values_form (h : Fin 5) (s : Fin 2048) (d : Fin 128) : vT (iblk m c 1 t) (iblk m c 6 t) (iblk m c 10 t) h s d
    = vE (fun k => (m ((c : Thread nD τ).loc main_arg1)) (ix3 b s k)) (fun k => (m ((c : Thread nD τ).loc main_arg7)) (ix1 k)) (fun k l => h_v52 (m ((c : Thread nD τ).loc main_arg8)) (ix2 k ⟨128 * h.val + l.val, by omega⟩)) d := by
  unfold vT
  have e1 := funext fun k => (blk1 m c t b hb s k).trans ((congrFun (V11_eq m c) _).trans (proj_kv (m ((c : Thread nD τ).loc main_arg0)) (m ((c : Thread nD τ).loc main_arg1)) (m ((c : Thread nD τ).loc main_arg2)) b s k))
  have e6 := funext fun k => (blk6 m c t k).trans ((congrFun (V54_eq m c) _).trans (gkv_apply (m ((c : Thread nD τ).loc main_arg7)) k))
  have e10 := funext fun k => funext fun l : Fin 128 => (blk10 m c t k ⟨128 * h.val + l.val, by omega⟩).trans (congrFun (V52_eq m c) _)
  rw [e1, e6, e10]

include hb r0 r1 r2 r4 r5 r6 r7 r8 in
/-- The result array in the batch of a grid point. -/
theorem arr_apply (s : Fin 2048) (k : Fin 384) (i : S16x2048x384.Idx) (hi : i = ix3 b s k) :
    ((dats m 0 c).arrAt 11 cfg0.N i : EReal) = Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 b s k) := by
  have hfl : (dats m 0 c).flushed 11 t (ix3 0 s k) = (dats m 0 c).arrAt 11 cfg0.N i := by
    rw [← Value.blocks11 m c t (flush0_11 t), hi]
    show (dats m 0 c).arrAt 11 cfg0.N ((win0_11.rect t).emb (ix3 0 s k)) = _
    refine congrArg _ (funext fun a => Fin.ext ?_)
    rw [Pipeline.Window.rect_emb_val win0_11]
    fin_cases a
    · show win0_11.index t 0 * 1 + 0 = b.val
      rw [(pos11 t).1]; omega
    · show win0_11.index t 1 * 2048 + s.val = s.val
      rw [(pos11 t).2.1]; omega
    · show win0_11.index t 2 * 384 + k.val = k.val
      rw [(pos11 t).2.2]; omega
  have hS := fun (h : Fin 5) (s j : Fin 2048) => isReal_logit (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) r0 r1 r2 r4 r5 r6 r7 r8 b h s j
  have hU := fun (h : Fin 5) (j : Fin 2048) (l : Fin 64) => isReal_kvcol (m ((c : Thread nD τ).loc main_arg1)) (m ((c : Thread nD τ).loc main_arg7)) (m ((c : Thread nD τ).loc main_arg8)) r1 r7 r8 b j ⟨h.val * 128 + (64 + l.val), by omega⟩
  choose S hS using hS
  choose U hU using hU
  rw [← hfl, Value.flushed11_A, reference_real (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b S U hS hU s k]
  refine (tile_eq c _ _ _ _ _ _ _ _ _ _ _ _ _ _ _ _ _ _ _ _ _ _ _ _ _ _ _ _ _ _ _ _ _ _ _ _ _ _ _ _ _ _ S U (fun h s j => ?_) (fun h j l hl => ?_) (fun h j l hl => ?_) s k).trans rfl
  · simp only [queries_lane m c t b hb r0 r5 r6, keys_lane m c t b hb]
    exact (lanes _ _).trans (hS h s j)
  · rw [values_form m c t b hb]
    exact (vE_lane (m ((c : Thread nD τ).loc main_arg1)) (m ((c : Thread nD τ).loc main_arg7)) (m ((c : Thread nD τ).loc main_arg8)) b j h l hl).trans (hU h j ⟨l.val, hl⟩)
  · rw [values_form m c t b hb]
    unfold vE
    rw [if_neg (not_lt.mpr hl), Ideal.ofBits_one_f32]

include r0 r1 r2 r4 r5 r6 r7 r8 in
/-- The result array is the reference's. -/
theorem arr_eq : (dats m 0 c).arrAt 11 cfg0.N = Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  have e : i = ix3 (⟨(i 0).val, (i 0).isLt⟩ : Fin 16) (⟨(i 1).val, (i 1).isLt⟩ : Fin 2048) (⟨(i 2).val, (i 2).isLt⟩ : Fin 384) := by
    funext a
    fin_cases a <;> rfl
  refine (arr_apply m c ⟨(i 0).val, (i 0).isLt⟩ ⟨(i 0).val, (i 0).isLt⟩ rfl r0 r1 r2 r4 r5 r6 r7 r8 _ _ i e).trans ?_
  rw [← e]

end Cert.KernelIdeal.Mla

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Rows
public import proofs.«01_k».proof.Proof.InProj
public import proofs.«01_k».proof.Proof.Modulation
public import proofs.«01_k».proof.Proof.Rope
public import proofs.«01_k».proof.Proof.Ffn
public import proofs.«01_k».proof.Proof.MixFfn
public import proofs.«01_k».proof.Proof.MlaArr
public import proofs.«01_k».proof.Proof.MlaPre
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Both programs run, and the result array of the kernel is that of the reference. -/
theorem value2 : Cert.algebraic_Kernel2Ideal_Reference2Ideal := by
  intro m g m' g' _ hagree
  refine ⟨fun c => (Cert.Kernel2Ideal.Gen.dats m 0 c).arrAt 10 Cert.Kernel2Ideal.cfg0.N, Cert.Kernel2Ideal.Value.run_blocks m g, ?_⟩
  refine Idealize.ShloMosaic.θ_run_mono (Cert.Reference2Ideal.Value.run m' g') fun r hr c => ⟨(hr c).1.trans ((Cert.Reference2Ideal.Read.val_main_v64_eq m' c).trans ?_), (hr c).2⟩
  refine Eq.trans ?_ (Cert.Kernel2Ideal.MixFfn.arr_eq m c).symm
  obtain ⟨h0, h1, h2, h3, h4, h5, h6, h7, h8, h9⟩ := hagree c
  rw [h0, h1, h2, h3, h4, h5, h6, h7, h8, h9]

/-- Both programs run, and the result array of the kernel is that of the reference. -/
theorem value3 : Cert.algebraic_Kernel3Ideal_Reference3Ideal := by
  intro m g m' g' _ hagree
  refine ⟨fun c => (Cert.Kernel3Ideal.Gen.dats m 0 c).arrAt 6 Cert.Kernel3Ideal.cfg0.N, Cert.Kernel3Ideal.Value.run_blocks m g, ?_⟩
  refine Idealize.ShloMosaic.θ_run_mono (Cert.Reference3Ideal.Value.run m' g') fun r hr c => ⟨(hr c).1.trans ((Cert.Reference3Ideal.Read.val_main_v42_eq m' c).trans ?_), (hr c).2⟩
  refine Eq.trans ?_ (Cert.Kernel3Ideal.Ffn.arr_eq m c).symm
  obtain ⟨h0, h1, h2, h3, h4⟩ := hagree c
  rw [h0, h1, h2, h3, h4]

instance : Cert.Pre_finite.Facts := Cert.Pre_finite.Mla.facts

/-- On finite arguments both programs run, and the result array of the kernel is that of the reference. -/
theorem value1 : Cert.algebraic_KernelIdeal_ReferenceIdeal_pre_finite := by
  intro m g m' g' hpre hagree
  refine ⟨fun c => (Cert.KernelIdeal.Gen.dats m 0 c).arrAt 11 Cert.KernelIdeal.cfg0.N, Cert.KernelIdeal.Value.run_blocks m g, ?_⟩
  refine Idealize.ShloMosaic.θ_run_mono (Cert.ReferenceIdeal.Value.run m' g') fun r hr c => ⟨(hr c).1.trans ((Cert.ReferenceIdeal.Read.val_main_v106_eq m' c).trans ?_), (hr c).2⟩
  obtain ⟨r0, r1, r2, r4, r5, r6, r7, r8⟩ := Cert.Pre_finite.Mla.real_args _ _ _ _ _ _ _ _ _ (hpre c)
  refine Eq.trans ?_ (Cert.KernelIdeal.Mla.arr_eq m c r0 r1 r2 r4 r5 r6 r7 r8).symm
  obtain ⟨h0, h1, h2, h3, h4, h5, h6, h7, h8⟩ := hagree c
  rw [h0, h1, h2, h3, h4, h5, h6, h7, h8]

/-- Both programs run, and the gathered columns of the kernel are the result array of the reference. -/
theorem value4 : Cert.algebraic_Kernel4Ideal_Reference4Ideal := by
  intro m g m' g' _ hagree
  refine ⟨fun c => Cert.Kernel4Ideal.InProj.gathered (shapeCast Cert.Kernel4Ideal.S16x2048x3968 ((Cert.Kernel4Ideal.Gen.dats m 0 c).arrAt 4 Cert.Kernel4Ideal.cfg0.N) Cert.Kernel4Ideal.Gen.shapeCasts_S32768x3968_S16x2048x3968), Cert.Kernel4Ideal.InProj.run m g, ?_⟩
  refine Idealize.ShloMosaic.θ_run_mono (Cert.Reference4Ideal.Value.run m' g') fun r hr c => ⟨(hr c).1.trans ((Cert.Reference4Ideal.Read.val_main_v30_eq _ _ _ _).trans ?_), (hr c).2⟩
  refine Eq.trans ?_ (Cert.Kernel4Ideal.InProj.result_eq m c).symm
  obtain ⟨h0, h1, h2, h3⟩ := hagree c
  rw [h0, h1, h2, h3]

instance : Cert.Pre_finite_condition.Facts := Cert.Pre_finite_condition.Modulation.facts

/-- On a finite condition and finite weights both programs run, and the result array of the kernel is that of the reference. -/
theorem value5 : Cert.algebraic_Kernel5Ideal_Reference5Ideal_pre_finite_condition := by
  intro m g m' g' hpre hagree
  refine ⟨fun c => (Cert.Kernel5Ideal.Gen.dats m 0 c).arrAt 3 Cert.Kernel5Ideal.cfg0.N, Cert.Kernel5Ideal.Value.run_blocks m g, ?_⟩
  refine Idealize.ShloMosaic.θ_run_mono (Cert.Reference5Ideal.Value.run m' g') fun r hr c => ⟨(hr c).1.trans ((Cert.Reference5Ideal.Read.val_main_v19_eq _ _ _).trans ?_), (hr c).2⟩
  obtain ⟨r0, r1⟩ := Cert.Pre_finite_condition.Modulation.real_args _ _ _ (hpre c)
  refine Eq.trans ?_ (Cert.Kernel5Ideal.Modulation.arr_eq m c r0 r1).symm
  obtain ⟨h0, h1, h2⟩ := hagree c
  rw [h0, h1, h2]

/-- Both programs run, and the two tables of the kernel are those of the reference. -/
theorem value6 : Cert.algebraic_Kernel6Ideal_Reference6Ideal := by
  intro m g m' g' _ hagree
  refine ⟨fun c => (Cert.Kernel6Ideal.Gen.dats m 0 c).arrAt 2 Cert.Kernel6Ideal.cfg0.N, fun c => (Cert.Kernel6Ideal.Gen.dats m 0 c).arrAt 3 Cert.Kernel6Ideal.cfg0.N, Cert.Kernel6Ideal.Rope.run m g, ?_⟩
  refine Idealize.ShloMosaic.θ_run_mono (Cert.Reference6Ideal.Value.run m' g') fun r hr c => ⟨(hr c).1.trans ((Cert.Reference6Ideal.Read.val_main_v9_eq _ _).trans ?_), (hr c).2.1.trans ((Cert.Reference6Ideal.Read.val_main_v11_eq _ _).trans ?_), (hr c).2.2⟩
  · refine Eq.trans ?_ (Cert.Kernel6Ideal.Rope.cosines_eq m c).symm
    obtain ⟨h0, h1⟩ := hagree c
    rw [h0, h1]
  · refine Eq.trans ?_ (Cert.Kernel6Ideal.Rope.sines_eq m c).symm
    obtain ⟨h0, h1⟩ := hagree c
    rw [h0, h1]

theorem preserved : Cert.preserves_Kernel_KernelIdeal :=
  ⟨IdealRules.named_const.statement _ _ _ _ _ rfl, IdealRules.named_const.statement _ _ _ _ _ rfl⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite.Mla.facts, Cert.Pre_finite_condition.Modulation.facts,
  fun m ρ _ => Cert.Kernel.Gen.frame m ρ,
  fun m ρ _ => Cert.KernelIdeal.Gen.frame m ρ,
  fun m ρ _ => Cert.KernelIdeal.Gen.frame m ρ,
  fun m ρ _ => Idealize.ShloMosaic.θ_run_mono (Cert.ReferenceIdeal.Value.run m ρ) fun r hr => ⟨fun c => (hr c).2, sem_eq_zero_of_no_sems rfl _⟩,
  fun m ρ _ => Idealize.ShloMosaic.θ_run_mono (Cert.ReferenceIdeal.Value.run m ρ) fun r hr => ⟨fun c => (hr c).2, sem_eq_zero_of_no_sems rfl _⟩,
  fun m ρ _ => Cert.Kernel2.Gen.frame m ρ,
  fun m ρ _ => Cert.Kernel2Ideal.Gen.frame m ρ,
  fun m ρ _ => Idealize.ShloMosaic.θ_run_mono (Cert.Reference2Ideal.Value.run m ρ) fun r hr => ⟨fun c => (hr c).2, sem_eq_zero_of_no_sems rfl _⟩,
  fun m ρ _ => Cert.Kernel3.Gen.frame m ρ,
  fun m ρ _ => Cert.Kernel3Ideal.Gen.frame m ρ,
  fun m ρ _ => Idealize.ShloMosaic.θ_run_mono (Cert.Reference3Ideal.Value.run m ρ) fun r hr => ⟨fun c => (hr c).2, sem_eq_zero_of_no_sems rfl _⟩,
  fun m ρ _ => Cert.Kernel4.Gen.frame m ρ,
  fun m ρ _ => Cert.Kernel4Ideal.Gen.frame m ρ,
  fun m ρ _ => Idealize.ShloMosaic.θ_run_mono (Cert.Reference4Ideal.Value.run m ρ) fun r hr => ⟨fun c => (hr c).2, sem_eq_zero_of_no_sems rfl _⟩,
  fun m ρ _ => Cert.Kernel5.Gen.frame m ρ,
  fun m ρ _ => Cert.Kernel5Ideal.Gen.frame m ρ,
  fun m ρ _ => Cert.Kernel5Ideal.Gen.frame m ρ,
  fun m ρ _ => Idealize.ShloMosaic.θ_run_mono (Cert.Reference5Ideal.Value.run m ρ) fun r hr => ⟨fun c => (hr c).2, sem_eq_zero_of_no_sems rfl _⟩,
  fun m ρ _ => Idealize.ShloMosaic.θ_run_mono (Cert.Reference5Ideal.Value.run m ρ) fun r hr => ⟨fun c => (hr c).2, sem_eq_zero_of_no_sems rfl _⟩,
  fun m ρ _ => Cert.Kernel6.Gen.frame m ρ,
  fun m ρ _ => Cert.Kernel6Ideal.Gen.frame m ρ,
  fun m ρ _ => Idealize.ShloMosaic.θ_run_mono (Cert.Reference6Ideal.Value.run m ρ) fun r hr => ⟨fun c => (hr c).2.2, sem_eq_zero_of_no_sems rfl _⟩,
  preserved, value1, trivial, value2, trivial, value3, trivial, value4, trivial, value5, trivial, value6⟩

end Cert.Proof

end
